-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 128]⟩ ⟨2, ![4096, 4096]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![128, 2048]⟩ ⟨2, ![4096, 2048]⟩ 0 32 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42_0) = Layout.block ⟨2, ![128, 2048]⟩ ⟨2, ![4096, 2048]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x128 : Shape := ⟨2, ![4096, 128]⟩
abbrev S128x2048 : Shape := ⟨2, ![128, 2048]⟩
abbrev S32x32 : Shape := ⟨2, ![32, 32]⟩
abbrev S32 : Shape := ⟨1, ![32]⟩
abbrev S5x32 : Shape := ⟨2, ![5, 32]⟩
abbrev S_ : Shape := ⟨0, ![]⟩
abbrev S32x1 : Shape := ⟨2, ![32, 1]⟩
abbrev S1 : Shape := ⟨1, ![1]⟩
abbrev S5x1 : Shape := ⟨2, ![5, 1]⟩
abbrev S5 : Shape := ⟨1, ![5]⟩
abbrev S7 : Shape := ⟨1, ![7]⟩
abbrev S8x128 : Shape := ⟨2, ![8, 128]⟩
abbrev S4x32x128x512 : Shape := ⟨4, ![4, 32, 128, 512]⟩
abbrev S4x32 : Shape := ⟨2, ![4, 32]⟩
abbrev S1x8x128 : Shape := ⟨3, ![1, 8, 128]⟩
abbrev S32x8x128 : Shape := ⟨3, ![32, 8, 128]⟩
abbrev S128x128 : Shape := ⟨2, ![128, 128]⟩
abbrev S128x1024 : Shape := ⟨2, ![128, 1024]⟩
abbrev S128x512 : Shape := ⟨2, ![128, 512]⟩
abbrev S1x1x128x512 : Shape := ⟨4, ![1, 1, 128, 512]⟩
abbrev S1x1 : Shape := ⟨2, ![1, 1]⟩
abbrev S1x128x2048 : Shape := ⟨3, ![1, 128, 2048]⟩
abbrev S1x1x1 : Shape := ⟨3, ![1, 1, 1]⟩

abbrev nBuf : Space → Nat
  | .hbm => 77
  | .vmem => 7
  | .smem => 3
  | _ => 0

abbrev bufTy : (tb : Table) → Fin (tcTables nBuf tb) → BufTy
  | .hbm, ⟨0, _⟩ => ⟨S4096x128, .f32⟩
  | .hbm, ⟨1, _⟩ => ⟨S128x2048, .f32⟩
  | .hbm, ⟨2, _⟩ => ⟨S32x32, .i32⟩
  | .hbm, ⟨3, _⟩ => ⟨S32x32, .i32⟩
  | .hbm, ⟨4, _⟩ => ⟨S32, .i32⟩
  | .hbm, ⟨5, _⟩ => ⟨S32, .i32⟩
  | .hbm, ⟨6, _⟩ => ⟨S5x32, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i1⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S_, .i1⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S32x1, .i32⟩
  | .hbm, ⟨27, _⟩ => ⟨S32, .i32⟩
  | .hbm, ⟨28, _⟩ => ⟨S_, .i32⟩
  | .hbm, ⟨29, _⟩ => ⟨S_, .i32⟩
  | .hbm, ⟨30, _⟩ => ⟨S_, .i1⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S_, .i32⟩
  | .hbm, ⟨35, _⟩ => ⟨S_, .i32⟩
  | .hbm, ⟨36, _⟩ => ⟨S_, .i32⟩
  | .hbm, ⟨37, _⟩ => ⟨S_, .i1⟩
  | .hbm, ⟨38, _⟩ => ⟨S_, .i32⟩
  | .hbm, ⟨39, _⟩ => ⟨S_, .i32⟩
  | .hbm, ⟨40, _⟩ => ⟨S_, .i32⟩
  | .hbm, ⟨41, _⟩ => ⟨S32x1, .i32⟩
  | .hbm, ⟨42, _⟩ => ⟨S32, .i32⟩
  | .hbm, ⟨43, _⟩ => ⟨S_, .i32⟩
  | .hbm, ⟨44, _⟩ => ⟨S_, .i1⟩
  | .hbm, ⟨45, _⟩ => ⟨S_, .i32⟩
  | .hbm, ⟨46, _⟩ => ⟨S_, .i32⟩
  | .hbm, ⟨47, _⟩ => ⟨S_, .i32⟩
  | .hbm, ⟨48, _⟩ => ⟨S1, .i32⟩
  | .hbm, ⟨49, _⟩ => ⟨S_, .i32⟩
  | .hbm, ⟨50, _⟩ => ⟨S1, .i32⟩
  | .hbm, ⟨51, _⟩ => ⟨S_, .i32⟩
  | .hbm, ⟨52, _⟩ => ⟨S_, .i1⟩
  | .hbm, ⟨53, _⟩ => ⟨S_, .i32⟩
  | .hbm, ⟨54, _⟩ => ⟨S_, .i32⟩
  | .hbm, ⟨55, _⟩ => ⟨S_, .i32⟩
  | .hbm, ⟨56, _⟩ => ⟨S1, .i32⟩
  | .hbm, ⟨57, _⟩ => ⟨S_, .i32⟩
  | .hbm, ⟨58, _⟩ => ⟨S1, .i32⟩
  | .hbm, ⟨59, _⟩ => ⟨S_, .i32⟩
  | .hbm, ⟨60, _⟩ => ⟨S_, .i32⟩
  | .hbm, ⟨61, _⟩ => ⟨S_, .i1⟩
  | .hbm, ⟨62, _⟩ => ⟨S_, .i32⟩
  | .hbm, ⟨63, _⟩ => ⟨S_, .i32⟩
  | .hbm, ⟨64, _⟩ => ⟨S_, .i32⟩
  | .hbm, ⟨65, _⟩ => ⟨S_, .i32⟩
  | .hbm, ⟨66, _⟩ => ⟨S_, .i32⟩
  | .hbm, ⟨67, _⟩ => ⟨S_, .i32⟩
  | .hbm, ⟨68, _⟩ => ⟨S_, .i1⟩
  | .hbm, ⟨69, _⟩ => ⟨S_, .i32⟩
  | .hbm, ⟨70, _⟩ => ⟨S_, .i32⟩
  | .hbm, ⟨71, _⟩ => ⟨S_, .i32⟩
  | .hbm, ⟨72, _⟩ => ⟨S5x1, .i32⟩
  | .hbm, ⟨73, _⟩ => ⟨S5, .i32⟩
  | .hbm, ⟨74, _⟩ => ⟨S7, .i32⟩
  | .hbm, ⟨75, _⟩ => ⟨S128x2048, .f32⟩
  | .hbm, ⟨76, _⟩ => ⟨S8x128, .f32⟩
  | .local _ .vmem, ⟨0, _⟩ => ⟨S4096x128, .f32⟩
  | .local _ .vmem, ⟨1, _⟩ => ⟨S128x2048, .f32⟩
  | .local _ .vmem, ⟨2, _⟩ => ⟨S128x2048, .f32⟩
  | .local _ .vmem, ⟨3, _⟩ => ⟨S8x128, .f32⟩
  | .local _ .vmem, ⟨4, _⟩ => ⟨S4x32x128x512, .f32⟩
  | .local _ .vmem, ⟨5, _⟩ => ⟨S1x8x128, .f32⟩
  | .local _ .vmem, ⟨6, _⟩ => ⟨S32x8x128, .f32⟩
  | .local _ .smem, ⟨0, _⟩ => ⟨S32, .i32⟩
  | .local _ .smem, ⟨1, _⟩ => ⟨S32, .i32⟩
  | .local _ .smem, ⟨2, _⟩ => ⟨S7, .i32⟩
  | _, _ => ⟨S4096x128, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_2 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | _ => false

abbrev dmaSemScopedAt (i : Nat) : Bool := match i / 128 with
  | 0 => dmaSemScopedAt0_0 i
  | 1 => dmaSemScopedAt0_1 i
  | 2 => dmaSemScopedAt0_2 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | .smem, ⟨1, _⟩ => true
  | .smem, ⟨2, _⟩ => true
  | _, _ => false

abbrev semScoped : Fin 2 → Bool
  | ⟨0, _⟩ => false
  | ⟨1, _⟩ => true
  | _ => false

abbrev dmaSemScoped : Fin 327 → Bool
  | ⟨i, _⟩ => dmaSemScopedAt i

abbrev sig : RefSig :=
  (ofTc nBuf bufTy 2 327 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_c_1 : Ref sig .tc := ⟨.hbm, 4, rfl⟩
abbrev main_c_2 : Ref sig .tc := ⟨.hbm, 5, rfl⟩
abbrev main_c_3 : Ref sig .tc := ⟨.hbm, 6, rfl⟩
abbrev main_c_4 : Ref sig .tc := ⟨.hbm, 7, rfl⟩
abbrev main_c_5 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c_6 : Ref sig .tc := ⟨.hbm, 13, rfl⟩
abbrev main_c_7 : Ref sig .tc := ⟨.hbm, 14, rfl⟩
abbrev main_v5 : Ref sig .tc := ⟨.hbm, 15, rfl⟩
abbrev main_c_8 : Ref sig .tc := ⟨.hbm, 16, rfl⟩
abbrev main_c_9 : Ref sig .tc := ⟨.hbm, 17, rfl⟩
abbrev main_v6 : Ref sig .tc := ⟨.hbm, 18, rfl⟩
abbrev main_c_10 : Ref sig .tc := ⟨.hbm, 19, rfl⟩
abbrev main_v7 : Ref sig .tc := ⟨.hbm, 20, rfl⟩
abbrev main_c_11 : Ref sig .tc := ⟨.hbm, 21, rfl⟩
abbrev main_v8 : Ref sig .tc := ⟨.hbm, 22, rfl⟩
abbrev main_c_12 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_c_13 : Ref sig .tc := ⟨.hbm, 28, rfl⟩
abbrev main_c_14 : Ref sig .tc := ⟨.hbm, 29, rfl⟩
abbrev main_v13 : Ref sig .tc := ⟨.hbm, 30, rfl⟩
abbrev main_c_15 : Ref sig .tc := ⟨.hbm, 31, rfl⟩
abbrev main_c_16 : Ref sig .tc := ⟨.hbm, 32, rfl⟩
abbrev main_v14 : Ref sig .tc := ⟨.hbm, 33, rfl⟩
abbrev main_c_17 : Ref sig .tc := ⟨.hbm, 34, rfl⟩
abbrev main_v15 : Ref sig .tc := ⟨.hbm, 35, rfl⟩
abbrev main_c_18 : Ref sig .tc := ⟨.hbm, 36, rfl⟩
abbrev main_v16 : Ref sig .tc := ⟨.hbm, 37, rfl⟩
abbrev main_c_19 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_c_20 : Ref sig .tc := ⟨.hbm, 43, rfl⟩
abbrev main_v21 : Ref sig .tc := ⟨.hbm, 44, rfl⟩
abbrev main_c_21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_c_22 : Ref sig .tc := ⟨.hbm, 51, rfl⟩
abbrev main_v27 : Ref sig .tc := ⟨.hbm, 52, rfl⟩
abbrev main_c_23 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_c_24 : Ref sig .tc := ⟨.hbm, 59, rfl⟩
abbrev main_c_25 : Ref sig .tc := ⟨.hbm, 60, rfl⟩
abbrev main_v33 : Ref sig .tc := ⟨.hbm, 61, rfl⟩
abbrev main_c_26 : Ref sig .tc := ⟨.hbm, 62, rfl⟩
abbrev main_c_27 : Ref sig .tc := ⟨.hbm, 63, rfl⟩
abbrev main_v34 : Ref sig .tc := ⟨.hbm, 64, rfl⟩
abbrev main_c_28 : Ref sig .tc := ⟨.hbm, 65, rfl⟩
abbrev main_v35 : Ref sig .tc := ⟨.hbm, 66, rfl⟩
abbrev main_c_29 : Ref sig .tc := ⟨.hbm, 67, rfl⟩
abbrev main_v36 : Ref sig .tc := ⟨.hbm, 68, rfl⟩
abbrev main_c_30 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42_0 : Ref sig .tc := ⟨.hbm, 75, rfl⟩
abbrev main_v42_1 : Ref sig .tc := ⟨.hbm, 76, rfl⟩
abbrev cc0_stg3_0 : Ref sig .tc := ⟨.vmem, 0, rfl⟩
abbrev cc0_stg4_0 : Ref sig .tc := ⟨.vmem, 1, rfl⟩
abbrev cc0_stg5_0 : Ref sig .tc := ⟨.vmem, 2, rfl⟩
abbrev cc0_stg6_0 : Ref sig .tc := ⟨.vmem, 3, rfl⟩
abbrev cc0_scratch0 : Ref sig .tc := ⟨.vmem, 4, rfl⟩
abbrev cc0_scratch3 : Ref sig .tc := ⟨.vmem, 5, rfl⟩
abbrev cc0_scratch4 : Ref sig .tc := ⟨.vmem, 6, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev barrier0 : Sem sig := 0

abbrev nD : Nat := 32
abbrev τ : Topo := Topo.v7x

variable {F : FTy → Type} [FloatOps F]

abbrev grid0 : Pipeline.Grid := .none

def k0_dev1 (v0 : BitVec 32) : Nat :=
  let c0_i32 : BitVec 32 := 0#32
  let c1_i32_0 : BitVec 32 := 1#32
  let v3 : BitVec 32 := Scalar.muli v0 c1_i32_0
  let v4 : BitVec 32 := Scalar.addi c0_i32 v3
  v4.toNat

def k0_dev2 (v1 : BitVec 32) : Nat :=
  let c0_i32_3 : BitVec 32 := 0#32
  let c1_i32_2 : BitVec 32 := 1#32
  let v5 : BitVec 32 := Scalar.muli v1 c1_i32_2
  let v6 : BitVec 32 := Scalar.addi c0_i32_3 v5
  v6.toNat

def k0_off1 (v7 : BitVec 32) : Fin 2 → Nat :=
  let c128_i32 : BitVec 32 := 128#32
  let v9 : BitVec 32 := Scalar.muli v7 c128_i32
  let v10 : Index := Scalar.indexCast v9
  let c0_6 : Index := 0#32
  ![v10.toNat, 0]

def k0_chk3 (v7 : BitVec 32) : Prop :=
  (∀ a, (k0_off1 v7) a + S128x128.size a ≤ S4096x128.size a)
theorem k0_off1_inb : ∀ (v7 : BitVec 32) (k0_hw3 : k0_chk3 v7), ∀ a, (k0_off1 v7) a + S128x128.size a ≤ S4096x128.size a := fun v7 k0_hw3 => k0_hw3

def k0_off2 (v8 : BitVec 32) : Fin 2 → Nat :=
  let c128_i32_9 : BitVec 32 := 128#32
  let v16 : BitVec 32 := Scalar.muli v8 c128_i32_9
  let v17 : Index := Scalar.indexCast v16
  let c0_10 : Index := 0#32
  ![v17.toNat, 0]

def k0_chk4 (v8 : BitVec 32) : Prop :=
  (∀ a, (k0_off2 v8) a + S128x128.size a ≤ S4096x128.size a)
theorem k0_off2_inb : ∀ (v8 : BitVec 32) (k0_hw4 : k0_chk4 v8), ∀ a, (k0_off2 v8) a + S128x128.size a ≤ S4096x128.size a := fun v8 k0_hw4 => k0_hw4

def k0_dev3 (v0 : BitVec 32) : Nat :=
  let c0_i32_26 : BitVec 32 := 0#32
  let c1_i32_25 : BitVec 32 := 1#32
  let v30 : BitVec 32 := Scalar.muli v0 c1_i32_25
  let v31 : BitVec 32 := Scalar.addi c0_i32_26 v30
  v31.toNat
def k0_dev4 (v1 : BitVec 32) : Nat :=
  let c0_i32_44 : BitVec 32 := 0#32
  let c1_i32_43 : BitVec 32 := 1#32
  let v43 : BitVec 32 := Scalar.muli v1 c1_i32_43
  let v44 : BitVec 32 := Scalar.addi c0_i32_44 v43
  v44.toNat
def k0_dev5 (v0 : BitVec 32) : Nat :=
  let c0_i32_61 : BitVec 32 := 0#32
  let c1_i32_60 : BitVec 32 := 1#32
  let v56 : BitVec 32 := Scalar.muli v0 c1_i32_60
  let v57 : BitVec 32 := Scalar.addi c0_i32_61 v56
  v57.toNat
def k0_dev6 (v1 : BitVec 32) : Nat :=
  let c0_i32_77 : BitVec 32 := 0#32
  let c1_i32_76 : BitVec 32 := 1#32
  let v69 : BitVec 32 := Scalar.muli v1 c1_i32_76
  let v70 : BitVec 32 := Scalar.addi c0_i32_77 v69
  v70.toNat
def k0_off3 (v79 : BitVec 32) : Fin 2 → Nat :=
  let c128_i32_84 : BitVec 32 := 128#32
  let v81 : BitVec 32 := Scalar.muli v79 c128_i32_84
  let v82 : Index := Scalar.indexCast v81
  let c0_85 : Index := 0#32
  ![v82.toNat, 0]

def k0_chk5 (v79 : BitVec 32) : Prop :=
  (∀ a, (k0_off3 v79) a + S128x128.size a ≤ S4096x128.size a)
theorem k0_off3_inb : ∀ (v79 : BitVec 32) (k0_hw5 : k0_chk5 v79), ∀ a, (k0_off3 v79) a + S128x128.size a ≤ S4096x128.size a := fun v79 k0_hw5 => k0_hw5

def k0_off4 (v80 : BitVec 32) : Fin 2 → Nat :=
  let c128_i32_89 : BitVec 32 := 128#32
  let v88 : BitVec 32 := Scalar.muli v80 c128_i32_89
  let v89 : Index := Scalar.indexCast v88
  let c0_90 : Index := 0#32
  ![v89.toNat, 0]

def k0_chk6 (v80 : BitVec 32) : Prop :=
  (∀ a, (k0_off4 v80) a + S128x128.size a ≤ S4096x128.size a)
theorem k0_off4_inb : ∀ (v80 : BitVec 32) (k0_hw6 : k0_chk6 v80), ∀ a, (k0_off4 v80) a + S128x128.size a ≤ S4096x128.size a := fun v80 k0_hw6 => k0_hw6

def k0_dev7 (v0 : BitVec 32) : Nat :=
  let c0_i32_125 : BitVec 32 := 0#32
  let c1_i32_124 : BitVec 32 := 1#32
  let v113 : BitVec 32 := Scalar.muli v0 c1_i32_124
  let v114 : BitVec 32 := Scalar.addi c0_i32_125 v113
  v114.toNat
def k0_dev8 (v1 : BitVec 32) : Nat :=
  let c0_i32_161 : BitVec 32 := 0#32
  let c1_i32_160 : BitVec 32 := 1#32
  let v137 : BitVec 32 := Scalar.muli v1 c1_i32_160
  let v138 : BitVec 32 := Scalar.addi c0_i32_161 v137
  v138.toNat
def k0_dev9 (v0 : BitVec 32) : Nat :=
  let c0_i32_197 : BitVec 32 := 0#32
  let c1_i32_196 : BitVec 32 := 1#32
  let v161 : BitVec 32 := Scalar.muli v0 c1_i32_196
  let v162 : BitVec 32 := Scalar.addi c0_i32_197 v161
  v162.toNat
def k0_dev10 (v1 : BitVec 32) : Nat :=
  let c0_i32_233 : BitVec 32 := 0#32
  let c1_i32_232 : BitVec 32 := 1#32
  let v185 : BitVec 32 := Scalar.muli v1 c1_i32_232
  let v186 : BitVec 32 := Scalar.addi c0_i32_233 v185
  v186.toNat
def k0_off5 (v195 : BitVec 32) : Fin 2 → Nat :=
  let c128_i32_240 : BitVec 32 := 128#32
  let v197 : BitVec 32 := Scalar.muli v195 c128_i32_240
  let v198 : Index := Scalar.indexCast v197
  let c0_241 : Index := 0#32
  ![v198.toNat, 0]

def k0_chk7 (v195 : BitVec 32) : Prop :=
  (∀ a, (k0_off5 v195) a + S128x128.size a ≤ S4096x128.size a)
theorem k0_off5_inb : ∀ (v195 : BitVec 32) (k0_hw7 : k0_chk7 v195), ∀ a, (k0_off5 v195) a + S128x128.size a ≤ S4096x128.size a := fun v195 k0_hw7 => k0_hw7

def k0_off6 (v196 : BitVec 32) : Fin 2 → Nat :=
  let c128_i32_245 : BitVec 32 := 128#32
  let v204 : BitVec 32 := Scalar.muli v196 c128_i32_245
  let v205 : Index := Scalar.indexCast v204
  let c0_246 : Index := 0#32
  ![v205.toNat, 0]

def k0_chk8 (v196 : BitVec 32) : Prop :=
  (∀ a, (k0_off6 v196) a + S128x128.size a ≤ S4096x128.size a)
theorem k0_off6_inb : ∀ (v196 : BitVec 32) (k0_hw8 : k0_chk8 v196), ∀ a, (k0_off6 v196) a + S128x128.size a ≤ S4096x128.size a := fun v196 k0_hw8 => k0_hw8

def k0_dev11 (v0 : BitVec 32) : Nat :=
  let c0_i32_281 : BitVec 32 := 0#32
  let c1_i32_280 : BitVec 32 := 1#32
  let v229 : BitVec 32 := Scalar.muli v0 c1_i32_280
  let v230 : BitVec 32 := Scalar.addi c0_i32_281 v229
  v230.toNat
def k0_dev12 (v1 : BitVec 32) : Nat :=
  let c0_i32_317 : BitVec 32 := 0#32
  let c1_i32_316 : BitVec 32 := 1#32
  let v253 : BitVec 32 := Scalar.muli v1 c1_i32_316
  let v254 : BitVec 32 := Scalar.addi c0_i32_317 v253
  v254.toNat
def k0_dev13 (v0 : BitVec 32) : Nat :=
  let c0_i32_353 : BitVec 32 := 0#32
  let c1_i32_352 : BitVec 32 := 1#32
  let v277 : BitVec 32 := Scalar.muli v0 c1_i32_352
  let v278 : BitVec 32 := Scalar.addi c0_i32_353 v277
  v278.toNat
def k0_dev14 (v1 : BitVec 32) : Nat :=
  let c0_i32_389 : BitVec 32 := 0#32
  let c1_i32_388 : BitVec 32 := 1#32
  let v301 : BitVec 32 := Scalar.muli v1 c1_i32_388
  let v302 : BitVec 32 := Scalar.addi c0_i32_389 v301
  v302.toNat
def k0_off7 (v311 : BitVec 32) : Fin 2 → Nat :=
  let c128_i32_396 : BitVec 32 := 128#32
  let v313 : BitVec 32 := Scalar.muli v311 c128_i32_396
  let v314 : Index := Scalar.indexCast v313
  let c0_397 : Index := 0#32
  ![v314.toNat, 0]

def k0_chk9 (v311 : BitVec 32) : Prop :=
  (∀ a, (k0_off7 v311) a + S128x128.size a ≤ S4096x128.size a)
theorem k0_off7_inb : ∀ (v311 : BitVec 32) (k0_hw9 : k0_chk9 v311), ∀ a, (k0_off7 v311) a + S128x128.size a ≤ S4096x128.size a := fun v311 k0_hw9 => k0_hw9

def k0_off8 (v312 : BitVec 32) : Fin 2 → Nat :=
  let c128_i32_401 : BitVec 32 := 128#32
  let v320 : BitVec 32 := Scalar.muli v312 c128_i32_401
  let v321 : Index := Scalar.indexCast v320
  let c0_402 : Index := 0#32
  ![v321.toNat, 0]

def k0_chk10 (v312 : BitVec 32) : Prop :=
  (∀ a, (k0_off8 v312) a + S128x128.size a ≤ S4096x128.size a)
theorem k0_off8_inb : ∀ (v312 : BitVec 32) (k0_hw10 : k0_chk10 v312), ∀ a, (k0_off8 v312) a + S128x128.size a ≤ S4096x128.size a := fun v312 k0_hw10 => k0_hw10

def k0_dev15 (v0 : BitVec 32) : Nat :=
  let c0_i32_436 : BitVec 32 := 0#32
  let c1_i32_435 : BitVec 32 := 1#32
  let v345 : BitVec 32 := Scalar.muli v0 c1_i32_435
  let v346 : BitVec 32 := Scalar.addi c0_i32_436 v345
  v346.toNat
def k0_dev16 (v1 : BitVec 32) : Nat :=
  let c0_i32_472 : BitVec 32 := 0#32
  let c1_i32_471 : BitVec 32 := 1#32
  let v369 : BitVec 32 := Scalar.muli v1 c1_i32_471
  let v370 : BitVec 32 := Scalar.addi c0_i32_472 v369
  v370.toNat
def k0_dev17 (v0 : BitVec 32) : Nat :=
  let c0_i32_508 : BitVec 32 := 0#32
  let c1_i32_507 : BitVec 32 := 1#32
  let v393 : BitVec 32 := Scalar.muli v0 c1_i32_507
  let v394 : BitVec 32 := Scalar.addi c0_i32_508 v393
  v394.toNat
def k0_dev18 (v1 : BitVec 32) : Nat :=
  let c0_i32_544 : BitVec 32 := 0#32
  let c1_i32_543 : BitVec 32 := 1#32
  let v417 : BitVec 32 := Scalar.muli v1 c1_i32_543
  let v418 : BitVec 32 := Scalar.addi c0_i32_544 v417
  v418.toNat
def k0_off9 (v427 : BitVec 32) : Fin 2 → Nat :=
  let c128_i32_550 : BitVec 32 := 128#32
  let v429 : BitVec 32 := Scalar.muli v427 c128_i32_550
  let v430 : Index := Scalar.indexCast v429
  let c0_551 : Index := 0#32
  ![v430.toNat, 0]

def k0_chk11 (v427 : BitVec 32) : Prop :=
  (∀ a, (k0_off9 v427) a + S128x128.size a ≤ S4096x128.size a)
theorem k0_off9_inb : ∀ (v427 : BitVec 32) (k0_hw11 : k0_chk11 v427), ∀ a, (k0_off9 v427) a + S128x128.size a ≤ S4096x128.size a := fun v427 k0_hw11 => k0_hw11

def k0_off10 (v428 : BitVec 32) : Fin 2 → Nat :=
  let c128_i32_555 : BitVec 32 := 128#32
  let v436 : BitVec 32 := Scalar.muli v428 c128_i32_555
  let v437 : Index := Scalar.indexCast v436
  let c0_556 : Index := 0#32
  ![v437.toNat, 0]

def k0_chk12 (v428 : BitVec 32) : Prop :=
  (∀ a, (k0_off10 v428) a + S128x128.size a ≤ S4096x128.size a)
theorem k0_off10_inb : ∀ (v428 : BitVec 32) (k0_hw12 : k0_chk12 v428), ∀ a, (k0_off10 v428) a + S128x128.size a ≤ S4096x128.size a := fun v428 k0_hw12 => k0_hw12

def k0_dev19 (v0 : BitVec 32) : Nat :=
  let c0_i32_590 : BitVec 32 := 0#32
  let c1_i32_589 : BitVec 32 := 1#32
  let v461 : BitVec 32 := Scalar.muli v0 c1_i32_589
  let v462 : BitVec 32 := Scalar.addi c0_i32_590 v461
  v462.toNat
def k0_dev20 (v1 : BitVec 32) : Nat :=
  let c0_i32_626 : BitVec 32 := 0#32
  let c1_i32_625 : BitVec 32 := 1#32
  let v485 : BitVec 32 := Scalar.muli v1 c1_i32_625
  let v486 : BitVec 32 := Scalar.addi c0_i32_626 v485
  v486.toNat
def k0_dev21 (v0 : BitVec 32) : Nat :=
  let c0_i32_662 : BitVec 32 := 0#32
  let c1_i32_661 : BitVec 32 := 1#32
  let v509 : BitVec 32 := Scalar.muli v0 c1_i32_661
  let v510 : BitVec 32 := Scalar.addi c0_i32_662 v509
  v510.toNat
def k0_dev22 (v1 : BitVec 32) : Nat :=
  let c0_i32_698 : BitVec 32 := 0#32
  let c1_i32_697 : BitVec 32 := 1#32
  let v533 : BitVec 32 := Scalar.muli v1 c1_i32_697
  let v534 : BitVec 32 := Scalar.addi c0_i32_698 v533
  v534.toNat
def k0_off11 (v543 : BitVec 32) : Fin 2 → Nat :=
  let c128_i32_704 : BitVec 32 := 128#32
  let v545 : BitVec 32 := Scalar.muli v543 c128_i32_704
  let v546 : Index := Scalar.indexCast v545
  let c0_705 : Index := 0#32
  ![v546.toNat, 0]

def k0_chk13 (v543 : BitVec 32) : Prop :=
  (∀ a, (k0_off11 v543) a + S128x128.size a ≤ S4096x128.size a)
theorem k0_off11_inb : ∀ (v543 : BitVec 32) (k0_hw13 : k0_chk13 v543), ∀ a, (k0_off11 v543) a + S128x128.size a ≤ S4096x128.size a := fun v543 k0_hw13 => k0_hw13

def k0_off12 (v544 : BitVec 32) : Fin 2 → Nat :=
  let c128_i32_709 : BitVec 32 := 128#32
  let v552 : BitVec 32 := Scalar.muli v544 c128_i32_709
  let v553 : Index := Scalar.indexCast v552
  let c0_710 : Index := 0#32
  ![v553.toNat, 0]

def k0_chk14 (v544 : BitVec 32) : Prop :=
  (∀ a, (k0_off12 v544) a + S128x128.size a ≤ S4096x128.size a)
theorem k0_off12_inb : ∀ (v544 : BitVec 32) (k0_hw14 : k0_chk14 v544), ∀ a, (k0_off12 v544) a + S128x128.size a ≤ S4096x128.size a := fun v544 k0_hw14 => k0_hw14

def k0_dev23 (v0 : BitVec 32) : Nat :=
  let c0_i32_744 : BitVec 32 := 0#32
  let c1_i32_743 : BitVec 32 := 1#32
  let v577 : BitVec 32 := Scalar.muli v0 c1_i32_743
  let v578 : BitVec 32 := Scalar.addi c0_i32_744 v577
  v578.toNat
def k0_dev24 (v1 : BitVec 32) : Nat :=
  let c0_i32_780 : BitVec 32 := 0#32
  let c1_i32_779 : BitVec 32 := 1#32
  let v601 : BitVec 32 := Scalar.muli v1 c1_i32_779
  let v602 : BitVec 32 := Scalar.addi c0_i32_780 v601
  v602.toNat
def k0_dev25 (v0 : BitVec 32) : Nat :=
  let c0_i32_816 : BitVec 32 := 0#32
  let c1_i32_815 : BitVec 32 := 1#32
  let v625 : BitVec 32 := Scalar.muli v0 c1_i32_815
  let v626 : BitVec 32 := Scalar.addi c0_i32_816 v625
  v626.toNat
def k0_dev26 (v1 : BitVec 32) : Nat :=
  let c0_i32_852 : BitVec 32 := 0#32
  let c1_i32_851 : BitVec 32 := 1#32
  let v649 : BitVec 32 := Scalar.muli v1 c1_i32_851
  let v650 : BitVec 32 := Scalar.addi c0_i32_852 v649
  v650.toNat
def k0_off13 (v659 : BitVec 32) : Fin 2 → Nat :=
  let c128_i32_858 : BitVec 32 := 128#32
  let v661 : BitVec 32 := Scalar.muli v659 c128_i32_858
  let v662 : Index := Scalar.indexCast v661
  let c0_859 : Index := 0#32
  ![v662.toNat, 0]

def k0_chk15 (v659 : BitVec 32) : Prop :=
  (∀ a, (k0_off13 v659) a + S128x128.size a ≤ S4096x128.size a)
theorem k0_off13_inb : ∀ (v659 : BitVec 32) (k0_hw15 : k0_chk15 v659), ∀ a, (k0_off13 v659) a + S128x128.size a ≤ S4096x128.size a := fun v659 k0_hw15 => k0_hw15

def k0_off14 (v660 : BitVec 32) : Fin 2 → Nat :=
  let c128_i32_863 : BitVec 32 := 128#32
  let v668 : BitVec 32 := Scalar.muli v660 c128_i32_863
  let v669 : Index := Scalar.indexCast v668
  let c0_864 : Index := 0#32
  ![v669.toNat, 0]

def k0_chk16 (v660 : BitVec 32) : Prop :=
  (∀ a, (k0_off14 v660) a + S128x128.size a ≤ S4096x128.size a)
theorem k0_off14_inb : ∀ (v660 : BitVec 32) (k0_hw16 : k0_chk16 v660), ∀ a, (k0_off14 v660) a + S128x128.size a ≤ S4096x128.size a := fun v660 k0_hw16 => k0_hw16

def k0_dev27 (v0 : BitVec 32) : Nat :=
  let c0_i32_898 : BitVec 32 := 0#32
  let c1_i32_897 : BitVec 32 := 1#32
  let v693 : BitVec 32 := Scalar.muli v0 c1_i32_897
  let v694 : BitVec 32 := Scalar.addi c0_i32_898 v693
  v694.toNat
def k0_dev28 (v1 : BitVec 32) : Nat :=
  let c0_i32_934 : BitVec 32 := 0#32
  let c1_i32_933 : BitVec 32 := 1#32
  let v717 : BitVec 32 := Scalar.muli v1 c1_i32_933
  let v718 : BitVec 32 := Scalar.addi c0_i32_934 v717
  v718.toNat
def k0_dev29 (v0 : BitVec 32) : Nat :=
  let c0_i32_970 : BitVec 32 := 0#32
  let c1_i32_969 : BitVec 32 := 1#32
  let v741 : BitVec 32 := Scalar.muli v0 c1_i32_969
  let v742 : BitVec 32 := Scalar.addi c0_i32_970 v741
  v742.toNat
def k0_dev30 (v1 : BitVec 32) : Nat :=
  let c0_i32_1006 : BitVec 32 := 0#32
  let c1_i32_1005 : BitVec 32 := 1#32
  let v765 : BitVec 32 := Scalar.muli v1 c1_i32_1005
  let v766 : BitVec 32 := Scalar.addi c0_i32_1006 v765
  v766.toNat
def k0_off15 (v775 : BitVec 32) : Fin 2 → Nat :=
  let c128_i32_1012 : BitVec 32 := 128#32
  let v777 : BitVec 32 := Scalar.muli v775 c128_i32_1012
  let v778 : Index := Scalar.indexCast v777
  let c0_1013 : Index := 0#32
  ![v778.toNat, 0]

def k0_chk17 (v775 : BitVec 32) : Prop :=
  (∀ a, (k0_off15 v775) a + S128x128.size a ≤ S4096x128.size a)
theorem k0_off15_inb : ∀ (v775 : BitVec 32) (k0_hw17 : k0_chk17 v775), ∀ a, (k0_off15 v775) a + S128x128.size a ≤ S4096x128.size a := fun v775 k0_hw17 => k0_hw17

def k0_off16 (v776 : BitVec 32) : Fin 2 → Nat :=
  let c128_i32_1017 : BitVec 32 := 128#32
  let v784 : BitVec 32 := Scalar.muli v776 c128_i32_1017
  let v785 : Index := Scalar.indexCast v784
  let c0_1018 : Index := 0#32
  ![v785.toNat, 0]

def k0_chk18 (v776 : BitVec 32) : Prop :=
  (∀ a, (k0_off16 v776) a + S128x128.size a ≤ S4096x128.size a)
theorem k0_off16_inb : ∀ (v776 : BitVec 32) (k0_hw18 : k0_chk18 v776), ∀ a, (k0_off16 v776) a + S128x128.size a ≤ S4096x128.size a := fun v776 k0_hw18 => k0_hw18

def k0_dev31 (v0 : BitVec 32) : Nat :=
  let c0_i32_1052 : BitVec 32 := 0#32
  let c1_i32_1051 : BitVec 32 := 1#32
  let v809 : BitVec 32 := Scalar.muli v0 c1_i32_1051
  let v810 : BitVec 32 := Scalar.addi c0_i32_1052 v809
  v810.toNat
def k0_dev32 (v1 : BitVec 32) : Nat :=
  let c0_i32_1088 : BitVec 32 := 0#32
  let c1_i32_1087 : BitVec 32 := 1#32
  let v833 : BitVec 32 := Scalar.muli v1 c1_i32_1087
  let v834 : BitVec 32 := Scalar.addi c0_i32_1088 v833
  v834.toNat
def k0_dev33 (v0 : BitVec 32) : Nat :=
  let c0_i32_1124 : BitVec 32 := 0#32
  let c1_i32_1123 : BitVec 32 := 1#32
  let v857 : BitVec 32 := Scalar.muli v0 c1_i32_1123
  let v858 : BitVec 32 := Scalar.addi c0_i32_1124 v857
  v858.toNat
def k0_dev34 (v1 : BitVec 32) : Nat :=
  let c0_i32_1160 : BitVec 32 := 0#32
  let c1_i32_1159 : BitVec 32 := 1#32
  let v881 : BitVec 32 := Scalar.muli v1 c1_i32_1159
  let v882 : BitVec 32 := Scalar.addi c0_i32_1160 v881
  v882.toNat
def k0_off17 (v891 : BitVec 32) : Fin 2 → Nat :=
  let c128_i32_1166 : BitVec 32 := 128#32
  let v893 : BitVec 32 := Scalar.muli v891 c128_i32_1166
  let v894 : Index := Scalar.indexCast v893
  let c0_1167 : Index := 0#32
  ![v894.toNat, 0]

def k0_chk19 (v891 : BitVec 32) : Prop :=
  (∀ a, (k0_off17 v891) a + S128x128.size a ≤ S4096x128.size a)
theorem k0_off17_inb : ∀ (v891 : BitVec 32) (k0_hw19 : k0_chk19 v891), ∀ a, (k0_off17 v891) a + S128x128.size a ≤ S4096x128.size a := fun v891 k0_hw19 => k0_hw19

def k0_off18 (v892 : BitVec 32) : Fin 2 → Nat :=
  let c128_i32_1171 : BitVec 32 := 128#32
  let v900 : BitVec 32 := Scalar.muli v892 c128_i32_1171
  let v901 : Index := Scalar.indexCast v900
  let c0_1172 : Index := 0#32
  ![v901.toNat, 0]

def k0_chk20 (v892 : BitVec 32) : Prop :=
  (∀ a, (k0_off18 v892) a + S128x128.size a ≤ S4096x128.size a)
theorem k0_off18_inb : ∀ (v892 : BitVec 32) (k0_hw20 : k0_chk20 v892), ∀ a, (k0_off18 v892) a + S128x128.size a ≤ S4096x128.size a := fun v892 k0_hw20 => k0_hw20

def k0_dev35 (v0 : BitVec 32) : Nat :=
  let c0_i32_1206 : BitVec 32 := 0#32
  let c1_i32_1205 : BitVec 32 := 1#32
  let v925 : BitVec 32 := Scalar.muli v0 c1_i32_1205
  let v926 : BitVec 32 := Scalar.addi c0_i32_1206 v925
  v926.toNat
def k0_dev36 (v1 : BitVec 32) : Nat :=
  let c0_i32_1242 : BitVec 32 := 0#32
  let c1_i32_1241 : BitVec 32 := 1#32
  let v949 : BitVec 32 := Scalar.muli v1 c1_i32_1241
  let v950 : BitVec 32 := Scalar.addi c0_i32_1242 v949
  v950.toNat
def k0_dev37 (v0 : BitVec 32) : Nat :=
  let c0_i32_1278 : BitVec 32 := 0#32
  let c1_i32_1277 : BitVec 32 := 1#32
  let v973 : BitVec 32 := Scalar.muli v0 c1_i32_1277
  let v974 : BitVec 32 := Scalar.addi c0_i32_1278 v973
  v974.toNat
def k0_dev38 (v1 : BitVec 32) : Nat :=
  let c0_i32_1314 : BitVec 32 := 0#32
  let c1_i32_1313 : BitVec 32 := 1#32
  let v997 : BitVec 32 := Scalar.muli v1 c1_i32_1313
  let v998 : BitVec 32 := Scalar.addi c0_i32_1314 v997
  v998.toNat
def k0_off19 (v1007 : BitVec 32) : Fin 2 → Nat :=
  let c128_i32_1320 : BitVec 32 := 128#32
  let v1009 : BitVec 32 := Scalar.muli v1007 c128_i32_1320
  let v1010 : Index := Scalar.indexCast v1009
  let c0_1321 : Index := 0#32
  ![v1010.toNat, 0]

def k0_chk21 (v1007 : BitVec 32) : Prop :=
  (∀ a, (k0_off19 v1007) a + S128x128.size a ≤ S4096x128.size a)
theorem k0_off19_inb : ∀ (v1007 : BitVec 32) (k0_hw21 : k0_chk21 v1007), ∀ a, (k0_off19 v1007) a + S128x128.size a ≤ S4096x128.size a := fun v1007 k0_hw21 => k0_hw21

def k0_off20 (v1008 : BitVec 32) : Fin 2 → Nat :=
  let c128_i32_1325 : BitVec 32 := 128#32
  let v1016 : BitVec 32 := Scalar.muli v1008 c128_i32_1325
  let v1017 : Index := Scalar.indexCast v1016
  let c0_1326 : Index := 0#32
  ![v1017.toNat, 0]

def k0_chk22 (v1008 : BitVec 32) : Prop :=
  (∀ a, (k0_off20 v1008) a + S128x128.size a ≤ S4096x128.size a)
theorem k0_off20_inb : ∀ (v1008 : BitVec 32) (k0_hw22 : k0_chk22 v1008), ∀ a, (k0_off20 v1008) a + S128x128.size a ≤ S4096x128.size a := fun v1008 k0_hw22 => k0_hw22

def k0_dev39 (v0 : BitVec 32) : Nat :=
  let c0_i32_1360 : BitVec 32 := 0#32
  let c1_i32_1359 : BitVec 32 := 1#32
  let v1041 : BitVec 32 := Scalar.muli v0 c1_i32_1359
  let v1042 : BitVec 32 := Scalar.addi c0_i32_1360 v1041
  v1042.toNat
def k0_dev40 (v1 : BitVec 32) : Nat :=
  let c0_i32_1396 : BitVec 32 := 0#32
  let c1_i32_1395 : BitVec 32 := 1#32
  let v1065 : BitVec 32 := Scalar.muli v1 c1_i32_1395
  let v1066 : BitVec 32 := Scalar.addi c0_i32_1396 v1065
  v1066.toNat
def k0_dev41 (v0 : BitVec 32) : Nat :=
  let c0_i32_1432 : BitVec 32 := 0#32
  let c1_i32_1431 : BitVec 32 := 1#32
  let v1089 : BitVec 32 := Scalar.muli v0 c1_i32_1431
  let v1090 : BitVec 32 := Scalar.addi c0_i32_1432 v1089
  v1090.toNat
def k0_dev42 (v1 : BitVec 32) : Nat :=
  let c0_i32_1468 : BitVec 32 := 0#32
  let c1_i32_1467 : BitVec 32 := 1#32
  let v1113 : BitVec 32 := Scalar.muli v1 c1_i32_1467
  let v1114 : BitVec 32 := Scalar.addi c0_i32_1468 v1113
  v1114.toNat
def k0_off21 (v1123 : BitVec 32) : Fin 2 → Nat :=
  let c128_i32_1474 : BitVec 32 := 128#32
  let v1125 : BitVec 32 := Scalar.muli v1123 c128_i32_1474
  let v1126 : Index := Scalar.indexCast v1125
  let c0_1475 : Index := 0#32
  ![v1126.toNat, 0]

def k0_chk23 (v1123 : BitVec 32) : Prop :=
  (∀ a, (k0_off21 v1123) a + S128x128.size a ≤ S4096x128.size a)
theorem k0_off21_inb : ∀ (v1123 : BitVec 32) (k0_hw23 : k0_chk23 v1123), ∀ a, (k0_off21 v1123) a + S128x128.size a ≤ S4096x128.size a := fun v1123 k0_hw23 => k0_hw23

def k0_off22 (v1124 : BitVec 32) : Fin 2 → Nat :=
  let c128_i32_1479 : BitVec 32 := 128#32
  let v1132 : BitVec 32 := Scalar.muli v1124 c128_i32_1479
  let v1133 : Index := Scalar.indexCast v1132
  let c0_1480 : Index := 0#32
  ![v1133.toNat, 0]

def k0_chk24 (v1124 : BitVec 32) : Prop :=
  (∀ a, (k0_off22 v1124) a + S128x128.size a ≤ S4096x128.size a)
theorem k0_off22_inb : ∀ (v1124 : BitVec 32) (k0_hw24 : k0_chk24 v1124), ∀ a, (k0_off22 v1124) a + S128x128.size a ≤ S4096x128.size a := fun v1124 k0_hw24 => k0_hw24

def k0_dev43 (v0 : BitVec 32) : Nat :=
  let c0_i32_1514 : BitVec 32 := 0#32
  let c1_i32_1513 : BitVec 32 := 1#32
  let v1157 : BitVec 32 := Scalar.muli v0 c1_i32_1513
  let v1158 : BitVec 32 := Scalar.addi c0_i32_1514 v1157
  v1158.toNat
def k0_dev44 (v1 : BitVec 32) : Nat :=
  let c0_i32_1550 : BitVec 32 := 0#32
  let c1_i32_1549 : BitVec 32 := 1#32
  let v1181 : BitVec 32 := Scalar.muli v1 c1_i32_1549
  let v1182 : BitVec 32 := Scalar.addi c0_i32_1550 v1181
  v1182.toNat
def k0_dev45 (v0 : BitVec 32) : Nat :=
  let c0_i32_1586 : BitVec 32 := 0#32
  let c1_i32_1585 : BitVec 32 := 1#32
  let v1205 : BitVec 32 := Scalar.muli v0 c1_i32_1585
  let v1206 : BitVec 32 := Scalar.addi c0_i32_1586 v1205
  v1206.toNat
def k0_dev46 (v1 : BitVec 32) : Nat :=
  let c0_i32_1622 : BitVec 32 := 0#32
  let c1_i32_1621 : BitVec 32 := 1#32
  let v1229 : BitVec 32 := Scalar.muli v1 c1_i32_1621
  let v1230 : BitVec 32 := Scalar.addi c0_i32_1622 v1229
  v1230.toNat
def k0_off23 (v1239 : BitVec 32) : Fin 2 → Nat :=
  let c128_i32_1628 : BitVec 32 := 128#32
  let v1241 : BitVec 32 := Scalar.muli v1239 c128_i32_1628
  let v1242 : Index := Scalar.indexCast v1241
  let c0_1629 : Index := 0#32
  ![v1242.toNat, 0]

def k0_chk25 (v1239 : BitVec 32) : Prop :=
  (∀ a, (k0_off23 v1239) a + S128x128.size a ≤ S4096x128.size a)
theorem k0_off23_inb : ∀ (v1239 : BitVec 32) (k0_hw25 : k0_chk25 v1239), ∀ a, (k0_off23 v1239) a + S128x128.size a ≤ S4096x128.size a := fun v1239 k0_hw25 => k0_hw25

def k0_off24 (v1240 : BitVec 32) : Fin 2 → Nat :=
  let c128_i32_1633 : BitVec 32 := 128#32
  let v1248 : BitVec 32 := Scalar.muli v1240 c128_i32_1633
  let v1249 : Index := Scalar.indexCast v1248
  let c0_1634 : Index := 0#32
  ![v1249.toNat, 0]

def k0_chk26 (v1240 : BitVec 32) : Prop :=
  (∀ a, (k0_off24 v1240) a + S128x128.size a ≤ S4096x128.size a)
theorem k0_off24_inb : ∀ (v1240 : BitVec 32) (k0_hw26 : k0_chk26 v1240), ∀ a, (k0_off24 v1240) a + S128x128.size a ≤ S4096x128.size a := fun v1240 k0_hw26 => k0_hw26

def k0_dev47 (v0 : BitVec 32) : Nat :=
  let c0_i32_1668 : BitVec 32 := 0#32
  let c1_i32_1667 : BitVec 32 := 1#32
  let v1273 : BitVec 32 := Scalar.muli v0 c1_i32_1667
  let v1274 : BitVec 32 := Scalar.addi c0_i32_1668 v1273
  v1274.toNat
def k0_dev48 (v1 : BitVec 32) : Nat :=
  let c0_i32_1704 : BitVec 32 := 0#32
  let c1_i32_1703 : BitVec 32 := 1#32
  let v1297 : BitVec 32 := Scalar.muli v1 c1_i32_1703
  let v1298 : BitVec 32 := Scalar.addi c0_i32_1704 v1297
  v1298.toNat
def k0_dev49 (v0 : BitVec 32) : Nat :=
  let c0_i32_1740 : BitVec 32 := 0#32
  let c1_i32_1739 : BitVec 32 := 1#32
  let v1321 : BitVec 32 := Scalar.muli v0 c1_i32_1739
  let v1322 : BitVec 32 := Scalar.addi c0_i32_1740 v1321
  v1322.toNat
def k0_dev50 (v1 : BitVec 32) : Nat :=
  let c0_i32_1776 : BitVec 32 := 0#32
  let c1_i32_1775 : BitVec 32 := 1#32
  let v1345 : BitVec 32 := Scalar.muli v1 c1_i32_1775
  let v1346 : BitVec 32 := Scalar.addi c0_i32_1776 v1345
  v1346.toNat
def k0_off25 (v1355 : BitVec 32) : Fin 2 → Nat :=
  let c128_i32_1782 : BitVec 32 := 128#32
  let v1357 : BitVec 32 := Scalar.muli v1355 c128_i32_1782
  let v1358 : Index := Scalar.indexCast v1357
  let c0_1783 : Index := 0#32
  ![v1358.toNat, 0]

def k0_chk27 (v1355 : BitVec 32) : Prop :=
  (∀ a, (k0_off25 v1355) a + S128x128.size a ≤ S4096x128.size a)
theorem k0_off25_inb : ∀ (v1355 : BitVec 32) (k0_hw27 : k0_chk27 v1355), ∀ a, (k0_off25 v1355) a + S128x128.size a ≤ S4096x128.size a := fun v1355 k0_hw27 => k0_hw27

def k0_off26 (v1356 : BitVec 32) : Fin 2 → Nat :=
  let c128_i32_1787 : BitVec 32 := 128#32
  let v1364 : BitVec 32 := Scalar.muli v1356 c128_i32_1787
  let v1365 : Index := Scalar.indexCast v1364
  let c0_1788 : Index := 0#32
  ![v1365.toNat, 0]

def k0_chk28 (v1356 : BitVec 32) : Prop :=
  (∀ a, (k0_off26 v1356) a + S128x128.size a ≤ S4096x128.size a)
theorem k0_off26_inb : ∀ (v1356 : BitVec 32) (k0_hw28 : k0_chk28 v1356), ∀ a, (k0_off26 v1356) a + S128x128.size a ≤ S4096x128.size a := fun v1356 k0_hw28 => k0_hw28

def k0_dev51 (v0 : BitVec 32) : Nat :=
  let c0_i32_1822 : BitVec 32 := 0#32
  let c1_i32_1821 : BitVec 32 := 1#32
  let v1389 : BitVec 32 := Scalar.muli v0 c1_i32_1821
  let v1390 : BitVec 32 := Scalar.addi c0_i32_1822 v1389
  v1390.toNat
def k0_dev52 (v1 : BitVec 32) : Nat :=
  let c0_i32_1858 : BitVec 32 := 0#32
  let c1_i32_1857 : BitVec 32 := 1#32
  let v1413 : BitVec 32 := Scalar.muli v1 c1_i32_1857
  let v1414 : BitVec 32 := Scalar.addi c0_i32_1858 v1413
  v1414.toNat
def k0_dev53 (v0 : BitVec 32) : Nat :=
  let c0_i32_1894 : BitVec 32 := 0#32
  let c1_i32_1893 : BitVec 32 := 1#32
  let v1437 : BitVec 32 := Scalar.muli v0 c1_i32_1893
  let v1438 : BitVec 32 := Scalar.addi c0_i32_1894 v1437
  v1438.toNat
def k0_dev54 (v1 : BitVec 32) : Nat :=
  let c0_i32_1930 : BitVec 32 := 0#32
  let c1_i32_1929 : BitVec 32 := 1#32
  let v1461 : BitVec 32 := Scalar.muli v1 c1_i32_1929
  let v1462 : BitVec 32 := Scalar.addi c0_i32_1930 v1461
  v1462.toNat
def k0_off27 (v1471 : BitVec 32) : Fin 2 → Nat :=
  let c128_i32_1936 : BitVec 32 := 128#32
  let v1473 : BitVec 32 := Scalar.muli v1471 c128_i32_1936
  let v1474 : Index := Scalar.indexCast v1473
  let c0_1937 : Index := 0#32
  ![v1474.toNat, 0]

def k0_chk29 (v1471 : BitVec 32) : Prop :=
  (∀ a, (k0_off27 v1471) a + S128x128.size a ≤ S4096x128.size a)
theorem k0_off27_inb : ∀ (v1471 : BitVec 32) (k0_hw29 : k0_chk29 v1471), ∀ a, (k0_off27 v1471) a + S128x128.size a ≤ S4096x128.size a := fun v1471 k0_hw29 => k0_hw29

def k0_off28 (v1472 : BitVec 32) : Fin 2 → Nat :=
  let c128_i32_1941 : BitVec 32 := 128#32
  let v1480 : BitVec 32 := Scalar.muli v1472 c128_i32_1941
  let v1481 : Index := Scalar.indexCast v1480
  let c0_1942 : Index := 0#32
  ![v1481.toNat, 0]

def k0_chk30 (v1472 : BitVec 32) : Prop :=
  (∀ a, (k0_off28 v1472) a + S128x128.size a ≤ S4096x128.size a)
theorem k0_off28_inb : ∀ (v1472 : BitVec 32) (k0_hw30 : k0_chk30 v1472), ∀ a, (k0_off28 v1472) a + S128x128.size a ≤ S4096x128.size a := fun v1472 k0_hw30 => k0_hw30

def k0_dev55 (v0 : BitVec 32) : Nat :=
  let c0_i32_1976 : BitVec 32 := 0#32
  let c1_i32_1975 : BitVec 32 := 1#32
  let v1505 : BitVec 32 := Scalar.muli v0 c1_i32_1975
  let v1506 : BitVec 32 := Scalar.addi c0_i32_1976 v1505
  v1506.toNat
def k0_dev56 (v1 : BitVec 32) : Nat :=
  let c0_i32_2012 : BitVec 32 := 0#32
  let c1_i32_2011 : BitVec 32 := 1#32
  let v1529 : BitVec 32 := Scalar.muli v1 c1_i32_2011
  let v1530 : BitVec 32 := Scalar.addi c0_i32_2012 v1529
  v1530.toNat
def k0_dev57 (v0 : BitVec 32) : Nat :=
  let c0_i32_2048 : BitVec 32 := 0#32
  let c1_i32_2047 : BitVec 32 := 1#32
  let v1553 : BitVec 32 := Scalar.muli v0 c1_i32_2047
  let v1554 : BitVec 32 := Scalar.addi c0_i32_2048 v1553
  v1554.toNat
def k0_dev58 (v1 : BitVec 32) : Nat :=
  let c0_i32_2084 : BitVec 32 := 0#32
  let c1_i32_2083 : BitVec 32 := 1#32
  let v1577 : BitVec 32 := Scalar.muli v1 c1_i32_2083
  let v1578 : BitVec 32 := Scalar.addi c0_i32_2084 v1577
  v1578.toNat
def k0_off29 (v1587 : BitVec 32) : Fin 2 → Nat :=
  let c128_i32_2090 : BitVec 32 := 128#32
  let v1589 : BitVec 32 := Scalar.muli v1587 c128_i32_2090
  let v1590 : Index := Scalar.indexCast v1589
  let c0_2091 : Index := 0#32
  ![v1590.toNat, 0]

def k0_chk31 (v1587 : BitVec 32) : Prop :=
  (∀ a, (k0_off29 v1587) a + S128x128.size a ≤ S4096x128.size a)
theorem k0_off29_inb : ∀ (v1587 : BitVec 32) (k0_hw31 : k0_chk31 v1587), ∀ a, (k0_off29 v1587) a + S128x128.size a ≤ S4096x128.size a := fun v1587 k0_hw31 => k0_hw31

def k0_off30 (v1588 : BitVec 32) : Fin 2 → Nat :=
  let c128_i32_2095 : BitVec 32 := 128#32
  let v1596 : BitVec 32 := Scalar.muli v1588 c128_i32_2095
  let v1597 : Index := Scalar.indexCast v1596
  let c0_2096 : Index := 0#32
  ![v1597.toNat, 0]

def k0_chk32 (v1588 : BitVec 32) : Prop :=
  (∀ a, (k0_off30 v1588) a + S128x128.size a ≤ S4096x128.size a)
theorem k0_off30_inb : ∀ (v1588 : BitVec 32) (k0_hw32 : k0_chk32 v1588), ∀ a, (k0_off30 v1588) a + S128x128.size a ≤ S4096x128.size a := fun v1588 k0_hw32 => k0_hw32

def k0_dev59 (v0 : BitVec 32) : Nat :=
  let c0_i32_2130 : BitVec 32 := 0#32
  let c1_i32_2129 : BitVec 32 := 1#32
  let v1621 : BitVec 32 := Scalar.muli v0 c1_i32_2129
  let v1622 : BitVec 32 := Scalar.addi c0_i32_2130 v1621
  v1622.toNat
def k0_dev60 (v1 : BitVec 32) : Nat :=
  let c0_i32_2166 : BitVec 32 := 0#32
  let c1_i32_2165 : BitVec 32 := 1#32
  let v1645 : BitVec 32 := Scalar.muli v1 c1_i32_2165
  let v1646 : BitVec 32 := Scalar.addi c0_i32_2166 v1645
  v1646.toNat
def k0_dev61 (v0 : BitVec 32) : Nat :=
  let c0_i32_2202 : BitVec 32 := 0#32
  let c1_i32_2201 : BitVec 32 := 1#32
  let v1669 : BitVec 32 := Scalar.muli v0 c1_i32_2201
  let v1670 : BitVec 32 := Scalar.addi c0_i32_2202 v1669
  v1670.toNat
def k0_dev62 (v1 : BitVec 32) : Nat :=
  let c0_i32_2238 : BitVec 32 := 0#32
  let c1_i32_2237 : BitVec 32 := 1#32
  let v1693 : BitVec 32 := Scalar.muli v1 c1_i32_2237
  let v1694 : BitVec 32 := Scalar.addi c0_i32_2238 v1693
  v1694.toNat
def k0_off31 (v1703 : BitVec 32) : Fin 2 → Nat :=
  let c128_i32_2244 : BitVec 32 := 128#32
  let v1705 : BitVec 32 := Scalar.muli v1703 c128_i32_2244
  let v1706 : Index := Scalar.indexCast v1705
  let c0_2245 : Index := 0#32
  ![v1706.toNat, 0]

def k0_chk33 (v1703 : BitVec 32) : Prop :=
  (∀ a, (k0_off31 v1703) a + S128x128.size a ≤ S4096x128.size a)
theorem k0_off31_inb : ∀ (v1703 : BitVec 32) (k0_hw33 : k0_chk33 v1703), ∀ a, (k0_off31 v1703) a + S128x128.size a ≤ S4096x128.size a := fun v1703 k0_hw33 => k0_hw33

def k0_off32 (v1704 : BitVec 32) : Fin 2 → Nat :=
  let c128_i32_2249 : BitVec 32 := 128#32
  let v1712 : BitVec 32 := Scalar.muli v1704 c128_i32_2249
  let v1713 : Index := Scalar.indexCast v1712
  let c0_2250 : Index := 0#32
  ![v1713.toNat, 0]

def k0_chk34 (v1704 : BitVec 32) : Prop :=
  (∀ a, (k0_off32 v1704) a + S128x128.size a ≤ S4096x128.size a)
theorem k0_off32_inb : ∀ (v1704 : BitVec 32) (k0_hw34 : k0_chk34 v1704), ∀ a, (k0_off32 v1704) a + S128x128.size a ≤ S4096x128.size a := fun v1704 k0_hw34 => k0_hw34

def k0_dev63 (v0 : BitVec 32) : Nat :=
  let c0_i32_2284 : BitVec 32 := 0#32
  let c1_i32_2283 : BitVec 32 := 1#32
  let v1737 : BitVec 32 := Scalar.muli v0 c1_i32_2283
  let v1738 : BitVec 32 := Scalar.addi c0_i32_2284 v1737
  v1738.toNat
def k0_dev64 (v1 : BitVec 32) : Nat :=
  let c0_i32_2320 : BitVec 32 := 0#32
  let c1_i32_2319 : BitVec 32 := 1#32
  let v1761 : BitVec 32 := Scalar.muli v1 c1_i32_2319
  let v1762 : BitVec 32 := Scalar.addi c0_i32_2320 v1761
  v1762.toNat
def k0_dev65 (v0 : BitVec 32) : Nat :=
  let c0_i32_2356 : BitVec 32 := 0#32
  let c1_i32_2355 : BitVec 32 := 1#32
  let v1785 : BitVec 32 := Scalar.muli v0 c1_i32_2355
  let v1786 : BitVec 32 := Scalar.addi c0_i32_2356 v1785
  v1786.toNat
def k0_dev66 (v1 : BitVec 32) : Nat :=
  let c0_i32_2392 : BitVec 32 := 0#32
  let c1_i32_2391 : BitVec 32 := 1#32
  let v1809 : BitVec 32 := Scalar.muli v1 c1_i32_2391
  let v1810 : BitVec 32 := Scalar.addi c0_i32_2392 v1809
  v1810.toNat
def k0_off33 (v1819 : BitVec 32) : Fin 2 → Nat :=
  let c128_i32_2398 : BitVec 32 := 128#32
  let v1821 : BitVec 32 := Scalar.muli v1819 c128_i32_2398
  let v1822 : Index := Scalar.indexCast v1821
  let c0_2399 : Index := 0#32
  ![v1822.toNat, 0]

def k0_chk35 (v1819 : BitVec 32) : Prop :=
  (∀ a, (k0_off33 v1819) a + S128x128.size a ≤ S4096x128.size a)
theorem k0_off33_inb : ∀ (v1819 : BitVec 32) (k0_hw35 : k0_chk35 v1819), ∀ a, (k0_off33 v1819) a + S128x128.size a ≤ S4096x128.size a := fun v1819 k0_hw35 => k0_hw35

def k0_off34 (v1820 : BitVec 32) : Fin 2 → Nat :=
  let c128_i32_2403 : BitVec 32 := 128#32
  let v1828 : BitVec 32 := Scalar.muli v1820 c128_i32_2403
  let v1829 : Index := Scalar.indexCast v1828
  let c0_2404 : Index := 0#32
  ![v1829.toNat, 0]

def k0_chk36 (v1820 : BitVec 32) : Prop :=
  (∀ a, (k0_off34 v1820) a + S128x128.size a ≤ S4096x128.size a)
theorem k0_off34_inb : ∀ (v1820 : BitVec 32) (k0_hw36 : k0_chk36 v1820), ∀ a, (k0_off34 v1820) a + S128x128.size a ≤ S4096x128.size a := fun v1820 k0_hw36 => k0_hw36

def k0_dev67 (v0 : BitVec 32) : Nat :=
  let c0_i32_2438 : BitVec 32 := 0#32
  let c1_i32_2437 : BitVec 32 := 1#32
  let v1853 : BitVec 32 := Scalar.muli v0 c1_i32_2437
  let v1854 : BitVec 32 := Scalar.addi c0_i32_2438 v1853
  v1854.toNat
def k0_dev68 (v1 : BitVec 32) : Nat :=
  let c0_i32_2474 : BitVec 32 := 0#32
  let c1_i32_2473 : BitVec 32 := 1#32
  let v1877 : BitVec 32 := Scalar.muli v1 c1_i32_2473
  let v1878 : BitVec 32 := Scalar.addi c0_i32_2474 v1877
  v1878.toNat
def k0_dev69 (v0 : BitVec 32) : Nat :=
  let c0_i32_2510 : BitVec 32 := 0#32
  let c1_i32_2509 : BitVec 32 := 1#32
  let v1901 : BitVec 32 := Scalar.muli v0 c1_i32_2509
  let v1902 : BitVec 32 := Scalar.addi c0_i32_2510 v1901
  v1902.toNat
def k0_dev70 (v1 : BitVec 32) : Nat :=
  let c0_i32_2546 : BitVec 32 := 0#32
  let c1_i32_2545 : BitVec 32 := 1#32
  let v1925 : BitVec 32 := Scalar.muli v1 c1_i32_2545
  let v1926 : BitVec 32 := Scalar.addi c0_i32_2546 v1925
  v1926.toNat
def k0_off35 (v1935 : BitVec 32) : Fin 2 → Nat :=
  let c128_i32_2552 : BitVec 32 := 128#32
  let v1937 : BitVec 32 := Scalar.muli v1935 c128_i32_2552
  let v1938 : Index := Scalar.indexCast v1937
  let c0_2553 : Index := 0#32
  ![v1938.toNat, 0]

def k0_chk37 (v1935 : BitVec 32) : Prop :=
  (∀ a, (k0_off35 v1935) a + S128x128.size a ≤ S4096x128.size a)
theorem k0_off35_inb : ∀ (v1935 : BitVec 32) (k0_hw37 : k0_chk37 v1935), ∀ a, (k0_off35 v1935) a + S128x128.size a ≤ S4096x128.size a := fun v1935 k0_hw37 => k0_hw37

def k0_off36 (v1936 : BitVec 32) : Fin 2 → Nat :=
  let c128_i32_2557 : BitVec 32 := 128#32
  let v1944 : BitVec 32 := Scalar.muli v1936 c128_i32_2557
  let v1945 : Index := Scalar.indexCast v1944
  let c0_2558 : Index := 0#32
  ![v1945.toNat, 0]

def k0_chk38 (v1936 : BitVec 32) : Prop :=
  (∀ a, (k0_off36 v1936) a + S128x128.size a ≤ S4096x128.size a)
theorem k0_off36_inb : ∀ (v1936 : BitVec 32) (k0_hw38 : k0_chk38 v1936), ∀ a, (k0_off36 v1936) a + S128x128.size a ≤ S4096x128.size a := fun v1936 k0_hw38 => k0_hw38

def k0_dev71 (v0 : BitVec 32) : Nat :=
  let c0_i32_2592 : BitVec 32 := 0#32
  let c1_i32_2591 : BitVec 32 := 1#32
  let v1969 : BitVec 32 := Scalar.muli v0 c1_i32_2591
  let v1970 : BitVec 32 := Scalar.addi c0_i32_2592 v1969
  v1970.toNat
def k0_dev72 (v1 : BitVec 32) : Nat :=
  let c0_i32_2628 : BitVec 32 := 0#32
  let c1_i32_2627 : BitVec 32 := 1#32
  let v1993 : BitVec 32 := Scalar.muli v1 c1_i32_2627
  let v1994 : BitVec 32 := Scalar.addi c0_i32_2628 v1993
  v1994.toNat
def k0_dev73 (v0 : BitVec 32) : Nat :=
  let c0_i32_2664 : BitVec 32 := 0#32
  let c1_i32_2663 : BitVec 32 := 1#32
  let v2017 : BitVec 32 := Scalar.muli v0 c1_i32_2663
  let v2018 : BitVec 32 := Scalar.addi c0_i32_2664 v2017
  v2018.toNat
def k0_dev74 (v1 : BitVec 32) : Nat :=
  let c0_i32_2700 : BitVec 32 := 0#32
  let c1_i32_2699 : BitVec 32 := 1#32
  let v2041 : BitVec 32 := Scalar.muli v1 c1_i32_2699
  let v2042 : BitVec 32 := Scalar.addi c0_i32_2700 v2041
  v2042.toNat
def k0_off37 (v2051 : BitVec 32) : Fin 2 → Nat :=
  let c128_i32_2706 : BitVec 32 := 128#32
  let v2053 : BitVec 32 := Scalar.muli v2051 c128_i32_2706
  let v2054 : Index := Scalar.indexCast v2053
  let c0_2707 : Index := 0#32
  ![v2054.toNat, 0]

def k0_chk39 (v2051 : BitVec 32) : Prop :=
  (∀ a, (k0_off37 v2051) a + S128x128.size a ≤ S4096x128.size a)
theorem k0_off37_inb : ∀ (v2051 : BitVec 32) (k0_hw39 : k0_chk39 v2051), ∀ a, (k0_off37 v2051) a + S128x128.size a ≤ S4096x128.size a := fun v2051 k0_hw39 => k0_hw39

def k0_off38 (v2052 : BitVec 32) : Fin 2 → Nat :=
  let c128_i32_2711 : BitVec 32 := 128#32
  let v2060 : BitVec 32 := Scalar.muli v2052 c128_i32_2711
  let v2061 : Index := Scalar.indexCast v2060
  let c0_2712 : Index := 0#32
  ![v2061.toNat, 0]

def k0_chk40 (v2052 : BitVec 32) : Prop :=
  (∀ a, (k0_off38 v2052) a + S128x128.size a ≤ S4096x128.size a)
theorem k0_off38_inb : ∀ (v2052 : BitVec 32) (k0_hw40 : k0_chk40 v2052), ∀ a, (k0_off38 v2052) a + S128x128.size a ≤ S4096x128.size a := fun v2052 k0_hw40 => k0_hw40

def k0_dev75 (v0 : BitVec 32) : Nat :=
  let c0_i32_2746 : BitVec 32 := 0#32
  let c1_i32_2745 : BitVec 32 := 1#32
  let v2085 : BitVec 32 := Scalar.muli v0 c1_i32_2745
  let v2086 : BitVec 32 := Scalar.addi c0_i32_2746 v2085
  v2086.toNat
def k0_dev76 (v1 : BitVec 32) : Nat :=
  let c0_i32_2782 : BitVec 32 := 0#32
  let c1_i32_2781 : BitVec 32 := 1#32
  let v2109 : BitVec 32 := Scalar.muli v1 c1_i32_2781
  let v2110 : BitVec 32 := Scalar.addi c0_i32_2782 v2109
  v2110.toNat
def k0_dev77 (v0 : BitVec 32) : Nat :=
  let c0_i32_2818 : BitVec 32 := 0#32
  let c1_i32_2817 : BitVec 32 := 1#32
  let v2133 : BitVec 32 := Scalar.muli v0 c1_i32_2817
  let v2134 : BitVec 32 := Scalar.addi c0_i32_2818 v2133
  v2134.toNat
def k0_dev78 (v1 : BitVec 32) : Nat :=
  let c0_i32_2854 : BitVec 32 := 0#32
  let c1_i32_2853 : BitVec 32 := 1#32
  let v2157 : BitVec 32 := Scalar.muli v1 c1_i32_2853
  let v2158 : BitVec 32 := Scalar.addi c0_i32_2854 v2157
  v2158.toNat
def k0_off39 (v2167 : BitVec 32) : Fin 2 → Nat :=
  let c128_i32_2860 : BitVec 32 := 128#32
  let v2169 : BitVec 32 := Scalar.muli v2167 c128_i32_2860
  let v2170 : Index := Scalar.indexCast v2169
  let c0_2861 : Index := 0#32
  ![v2170.toNat, 0]

def k0_chk41 (v2167 : BitVec 32) : Prop :=
  (∀ a, (k0_off39 v2167) a + S128x128.size a ≤ S4096x128.size a)
theorem k0_off39_inb : ∀ (v2167 : BitVec 32) (k0_hw41 : k0_chk41 v2167), ∀ a, (k0_off39 v2167) a + S128x128.size a ≤ S4096x128.size a := fun v2167 k0_hw41 => k0_hw41

def k0_off40 (v2168 : BitVec 32) : Fin 2 → Nat :=
  let c128_i32_2865 : BitVec 32 := 128#32
  let v2176 : BitVec 32 := Scalar.muli v2168 c128_i32_2865
  let v2177 : Index := Scalar.indexCast v2176
  let c0_2866 : Index := 0#32
  ![v2177.toNat, 0]

def k0_chk42 (v2168 : BitVec 32) : Prop :=
  (∀ a, (k0_off40 v2168) a + S128x128.size a ≤ S4096x128.size a)
theorem k0_off40_inb : ∀ (v2168 : BitVec 32) (k0_hw42 : k0_chk42 v2168), ∀ a, (k0_off40 v2168) a + S128x128.size a ≤ S4096x128.size a := fun v2168 k0_hw42 => k0_hw42

def k0_dev79 (v0 : BitVec 32) : Nat :=
  let c0_i32_2900 : BitVec 32 := 0#32
  let c1_i32_2899 : BitVec 32 := 1#32
  let v2201 : BitVec 32 := Scalar.muli v0 c1_i32_2899
  let v2202 : BitVec 32 := Scalar.addi c0_i32_2900 v2201
  v2202.toNat
def k0_dev80 (v1 : BitVec 32) : Nat :=
  let c0_i32_2936 : BitVec 32 := 0#32
  let c1_i32_2935 : BitVec 32 := 1#32
  let v2225 : BitVec 32 := Scalar.muli v1 c1_i32_2935
  let v2226 : BitVec 32 := Scalar.addi c0_i32_2936 v2225
  v2226.toNat
def k0_dev81 (v0 : BitVec 32) : Nat :=
  let c0_i32_2972 : BitVec 32 := 0#32
  let c1_i32_2971 : BitVec 32 := 1#32
  let v2249 : BitVec 32 := Scalar.muli v0 c1_i32_2971
  let v2250 : BitVec 32 := Scalar.addi c0_i32_2972 v2249
  v2250.toNat
def k0_dev82 (v1 : BitVec 32) : Nat :=
  let c0_i32_3008 : BitVec 32 := 0#32
  let c1_i32_3007 : BitVec 32 := 1#32
  let v2273 : BitVec 32 := Scalar.muli v1 c1_i32_3007
  let v2274 : BitVec 32 := Scalar.addi c0_i32_3008 v2273
  v2274.toNat
def k0_off41 (v2283 : BitVec 32) : Fin 2 → Nat :=
  let c128_i32_3014 : BitVec 32 := 128#32
  let v2285 : BitVec 32 := Scalar.muli v2283 c128_i32_3014
  let v2286 : Index := Scalar.indexCast v2285
  let c0_3015 : Index := 0#32
  ![v2286.toNat, 0]

def k0_chk43 (v2283 : BitVec 32) : Prop :=
  (∀ a, (k0_off41 v2283) a + S128x128.size a ≤ S4096x128.size a)
theorem k0_off41_inb : ∀ (v2283 : BitVec 32) (k0_hw43 : k0_chk43 v2283), ∀ a, (k0_off41 v2283) a + S128x128.size a ≤ S4096x128.size a := fun v2283 k0_hw43 => k0_hw43

def k0_off42 (v2284 : BitVec 32) : Fin 2 → Nat :=
  let c128_i32_3019 : BitVec 32 := 128#32
  let v2292 : BitVec 32 := Scalar.muli v2284 c128_i32_3019
  let v2293 : Index := Scalar.indexCast v2292
  let c0_3020 : Index := 0#32
  ![v2293.toNat, 0]

def k0_chk44 (v2284 : BitVec 32) : Prop :=
  (∀ a, (k0_off42 v2284) a + S128x128.size a ≤ S4096x128.size a)
theorem k0_off42_inb : ∀ (v2284 : BitVec 32) (k0_hw44 : k0_chk44 v2284), ∀ a, (k0_off42 v2284) a + S128x128.size a ≤ S4096x128.size a := fun v2284 k0_hw44 => k0_hw44

def k0_dev83 (v0 : BitVec 32) : Nat :=
  let c0_i32_3054 : BitVec 32 := 0#32
  let c1_i32_3053 : BitVec 32 := 1#32
  let v2317 : BitVec 32 := Scalar.muli v0 c1_i32_3053
  let v2318 : BitVec 32 := Scalar.addi c0_i32_3054 v2317
  v2318.toNat
def k0_dev84 (v1 : BitVec 32) : Nat :=
  let c0_i32_3090 : BitVec 32 := 0#32
  let c1_i32_3089 : BitVec 32 := 1#32
  let v2341 : BitVec 32 := Scalar.muli v1 c1_i32_3089
  let v2342 : BitVec 32 := Scalar.addi c0_i32_3090 v2341
  v2342.toNat
def k0_dev85 (v0 : BitVec 32) : Nat :=
  let c0_i32_3126 : BitVec 32 := 0#32
  let c1_i32_3125 : BitVec 32 := 1#32
  let v2365 : BitVec 32 := Scalar.muli v0 c1_i32_3125
  let v2366 : BitVec 32 := Scalar.addi c0_i32_3126 v2365
  v2366.toNat
def k0_dev86 (v1 : BitVec 32) : Nat :=
  let c0_i32_3162 : BitVec 32 := 0#32
  let c1_i32_3161 : BitVec 32 := 1#32
  let v2389 : BitVec 32 := Scalar.muli v1 c1_i32_3161
  let v2390 : BitVec 32 := Scalar.addi c0_i32_3162 v2389
  v2390.toNat
def k0_off43 (v2399 : BitVec 32) : Fin 2 → Nat :=
  let c128_i32_3168 : BitVec 32 := 128#32
  let v2401 : BitVec 32 := Scalar.muli v2399 c128_i32_3168
  let v2402 : Index := Scalar.indexCast v2401
  let c0_3169 : Index := 0#32
  ![v2402.toNat, 0]

def k0_chk45 (v2399 : BitVec 32) : Prop :=
  (∀ a, (k0_off43 v2399) a + S128x128.size a ≤ S4096x128.size a)
theorem k0_off43_inb : ∀ (v2399 : BitVec 32) (k0_hw45 : k0_chk45 v2399), ∀ a, (k0_off43 v2399) a + S128x128.size a ≤ S4096x128.size a := fun v2399 k0_hw45 => k0_hw45

def k0_off44 (v2400 : BitVec 32) : Fin 2 → Nat :=
  let c128_i32_3173 : BitVec 32 := 128#32
  let v2408 : BitVec 32 := Scalar.muli v2400 c128_i32_3173
  let v2409 : Index := Scalar.indexCast v2408
  let c0_3174 : Index := 0#32
  ![v2409.toNat, 0]

def k0_chk46 (v2400 : BitVec 32) : Prop :=
  (∀ a, (k0_off44 v2400) a + S128x128.size a ≤ S4096x128.size a)
theorem k0_off44_inb : ∀ (v2400 : BitVec 32) (k0_hw46 : k0_chk46 v2400), ∀ a, (k0_off44 v2400) a + S128x128.size a ≤ S4096x128.size a := fun v2400 k0_hw46 => k0_hw46

def k0_dev87 (v0 : BitVec 32) : Nat :=
  let c0_i32_3208 : BitVec 32 := 0#32
  let c1_i32_3207 : BitVec 32 := 1#32
  let v2433 : BitVec 32 := Scalar.muli v0 c1_i32_3207
  let v2434 : BitVec 32 := Scalar.addi c0_i32_3208 v2433
  v2434.toNat
def k0_dev88 (v1 : BitVec 32) : Nat :=
  let c0_i32_3244 : BitVec 32 := 0#32
  let c1_i32_3243 : BitVec 32 := 1#32
  let v2457 : BitVec 32 := Scalar.muli v1 c1_i32_3243
  let v2458 : BitVec 32 := Scalar.addi c0_i32_3244 v2457
  v2458.toNat
def k0_dev89 (v0 : BitVec 32) : Nat :=
  let c0_i32_3280 : BitVec 32 := 0#32
  let c1_i32_3279 : BitVec 32 := 1#32
  let v2481 : BitVec 32 := Scalar.muli v0 c1_i32_3279
  let v2482 : BitVec 32 := Scalar.addi c0_i32_3280 v2481
  v2482.toNat
def k0_dev90 (v1 : BitVec 32) : Nat :=
  let c0_i32_3316 : BitVec 32 := 0#32
  let c1_i32_3315 : BitVec 32 := 1#32
  let v2505 : BitVec 32 := Scalar.muli v1 c1_i32_3315
  let v2506 : BitVec 32 := Scalar.addi c0_i32_3316 v2505
  v2506.toNat
def k0_off45 (v2515 : BitVec 32) : Fin 2 → Nat :=
  let c128_i32_3322 : BitVec 32 := 128#32
  let v2517 : BitVec 32 := Scalar.muli v2515 c128_i32_3322
  let v2518 : Index := Scalar.indexCast v2517
  let c0_3323 : Index := 0#32
  ![v2518.toNat, 0]

def k0_chk47 (v2515 : BitVec 32) : Prop :=
  (∀ a, (k0_off45 v2515) a + S128x128.size a ≤ S4096x128.size a)
theorem k0_off45_inb : ∀ (v2515 : BitVec 32) (k0_hw47 : k0_chk47 v2515), ∀ a, (k0_off45 v2515) a + S128x128.size a ≤ S4096x128.size a := fun v2515 k0_hw47 => k0_hw47

def k0_off46 (v2516 : BitVec 32) : Fin 2 → Nat :=
  let c128_i32_3327 : BitVec 32 := 128#32
  let v2524 : BitVec 32 := Scalar.muli v2516 c128_i32_3327
  let v2525 : Index := Scalar.indexCast v2524
  let c0_3328 : Index := 0#32
  ![v2525.toNat, 0]

def k0_chk48 (v2516 : BitVec 32) : Prop :=
  (∀ a, (k0_off46 v2516) a + S128x128.size a ≤ S4096x128.size a)
theorem k0_off46_inb : ∀ (v2516 : BitVec 32) (k0_hw48 : k0_chk48 v2516), ∀ a, (k0_off46 v2516) a + S128x128.size a ≤ S4096x128.size a := fun v2516 k0_hw48 => k0_hw48

def k0_dev91 (v0 : BitVec 32) : Nat :=
  let c0_i32_3362 : BitVec 32 := 0#32
  let c1_i32_3361 : BitVec 32 := 1#32
  let v2549 : BitVec 32 := Scalar.muli v0 c1_i32_3361
  let v2550 : BitVec 32 := Scalar.addi c0_i32_3362 v2549
  v2550.toNat
def k0_dev92 (v1 : BitVec 32) : Nat :=
  let c0_i32_3398 : BitVec 32 := 0#32
  let c1_i32_3397 : BitVec 32 := 1#32
  let v2573 : BitVec 32 := Scalar.muli v1 c1_i32_3397
  let v2574 : BitVec 32 := Scalar.addi c0_i32_3398 v2573
  v2574.toNat
def k0_dev93 (v0 : BitVec 32) : Nat :=
  let c0_i32_3434 : BitVec 32 := 0#32
  let c1_i32_3433 : BitVec 32 := 1#32
  let v2597 : BitVec 32 := Scalar.muli v0 c1_i32_3433
  let v2598 : BitVec 32 := Scalar.addi c0_i32_3434 v2597
  v2598.toNat
def k0_dev94 (v1 : BitVec 32) : Nat :=
  let c0_i32_3470 : BitVec 32 := 0#32
  let c1_i32_3469 : BitVec 32 := 1#32
  let v2621 : BitVec 32 := Scalar.muli v1 c1_i32_3469
  let v2622 : BitVec 32 := Scalar.addi c0_i32_3470 v2621
  v2622.toNat
def k0_off47 (v2631 : BitVec 32) : Fin 2 → Nat :=
  let c128_i32_3476 : BitVec 32 := 128#32
  let v2633 : BitVec 32 := Scalar.muli v2631 c128_i32_3476
  let v2634 : Index := Scalar.indexCast v2633
  let c0_3477 : Index := 0#32
  ![v2634.toNat, 0]

def k0_chk49 (v2631 : BitVec 32) : Prop :=
  (∀ a, (k0_off47 v2631) a + S128x128.size a ≤ S4096x128.size a)
theorem k0_off47_inb : ∀ (v2631 : BitVec 32) (k0_hw49 : k0_chk49 v2631), ∀ a, (k0_off47 v2631) a + S128x128.size a ≤ S4096x128.size a := fun v2631 k0_hw49 => k0_hw49

def k0_off48 (v2632 : BitVec 32) : Fin 2 → Nat :=
  let c128_i32_3481 : BitVec 32 := 128#32
  let v2640 : BitVec 32 := Scalar.muli v2632 c128_i32_3481
  let v2641 : Index := Scalar.indexCast v2640
  let c0_3482 : Index := 0#32
  ![v2641.toNat, 0]

def k0_chk50 (v2632 : BitVec 32) : Prop :=
  (∀ a, (k0_off48 v2632) a + S128x128.size a ≤ S4096x128.size a)
theorem k0_off48_inb : ∀ (v2632 : BitVec 32) (k0_hw50 : k0_chk50 v2632), ∀ a, (k0_off48 v2632) a + S128x128.size a ≤ S4096x128.size a := fun v2632 k0_hw50 => k0_hw50

def k0_dev95 (v0 : BitVec 32) : Nat :=
  let c0_i32_3516 : BitVec 32 := 0#32
  let c1_i32_3515 : BitVec 32 := 1#32
  let v2665 : BitVec 32 := Scalar.muli v0 c1_i32_3515
  let v2666 : BitVec 32 := Scalar.addi c0_i32_3516 v2665
  v2666.toNat
def k0_dev96 (v1 : BitVec 32) : Nat :=
  let c0_i32_3552 : BitVec 32 := 0#32
  let c1_i32_3551 : BitVec 32 := 1#32
  let v2689 : BitVec 32 := Scalar.muli v1 c1_i32_3551
  let v2690 : BitVec 32 := Scalar.addi c0_i32_3552 v2689
  v2690.toNat
def k0_dev97 (v0 : BitVec 32) : Nat :=
  let c0_i32_3588 : BitVec 32 := 0#32
  let c1_i32_3587 : BitVec 32 := 1#32
  let v2713 : BitVec 32 := Scalar.muli v0 c1_i32_3587
  let v2714 : BitVec 32 := Scalar.addi c0_i32_3588 v2713
  v2714.toNat
def k0_dev98 (v1 : BitVec 32) : Nat :=
  let c0_i32_3624 : BitVec 32 := 0#32
  let c1_i32_3623 : BitVec 32 := 1#32
  let v2737 : BitVec 32 := Scalar.muli v1 c1_i32_3623
  let v2738 : BitVec 32 := Scalar.addi c0_i32_3624 v2737
  v2738.toNat
def k0_off49 (v2747 : BitVec 32) : Fin 2 → Nat :=
  let c128_i32_3630 : BitVec 32 := 128#32
  let v2749 : BitVec 32 := Scalar.muli v2747 c128_i32_3630
  let v2750 : Index := Scalar.indexCast v2749
  let c0_3631 : Index := 0#32
  ![v2750.toNat, 0]

def k0_chk51 (v2747 : BitVec 32) : Prop :=
  (∀ a, (k0_off49 v2747) a + S128x128.size a ≤ S4096x128.size a)
theorem k0_off49_inb : ∀ (v2747 : BitVec 32) (k0_hw51 : k0_chk51 v2747), ∀ a, (k0_off49 v2747) a + S128x128.size a ≤ S4096x128.size a := fun v2747 k0_hw51 => k0_hw51

def k0_off50 (v2748 : BitVec 32) : Fin 2 → Nat :=
  let c128_i32_3635 : BitVec 32 := 128#32
  let v2756 : BitVec 32 := Scalar.muli v2748 c128_i32_3635
  let v2757 : Index := Scalar.indexCast v2756
  let c0_3636 : Index := 0#32
  ![v2757.toNat, 0]

def k0_chk52 (v2748 : BitVec 32) : Prop :=
  (∀ a, (k0_off50 v2748) a + S128x128.size a ≤ S4096x128.size a)
theorem k0_off50_inb : ∀ (v2748 : BitVec 32) (k0_hw52 : k0_chk52 v2748), ∀ a, (k0_off50 v2748) a + S128x128.size a ≤ S4096x128.size a := fun v2748 k0_hw52 => k0_hw52

def k0_dev99 (v0 : BitVec 32) : Nat :=
  let c0_i32_3670 : BitVec 32 := 0#32
  let c1_i32_3669 : BitVec 32 := 1#32
  let v2781 : BitVec 32 := Scalar.muli v0 c1_i32_3669
  let v2782 : BitVec 32 := Scalar.addi c0_i32_3670 v2781
  v2782.toNat
def k0_dev100 (v1 : BitVec 32) : Nat :=
  let c0_i32_3706 : BitVec 32 := 0#32
  let c1_i32_3705 : BitVec 32 := 1#32
  let v2805 : BitVec 32 := Scalar.muli v1 c1_i32_3705
  let v2806 : BitVec 32 := Scalar.addi c0_i32_3706 v2805
  v2806.toNat
def k0_dev101 (v0 : BitVec 32) : Nat :=
  let c0_i32_3742 : BitVec 32 := 0#32
  let c1_i32_3741 : BitVec 32 := 1#32
  let v2829 : BitVec 32 := Scalar.muli v0 c1_i32_3741
  let v2830 : BitVec 32 := Scalar.addi c0_i32_3742 v2829
  v2830.toNat
def k0_dev102 (v1 : BitVec 32) : Nat :=
  let c0_i32_3778 : BitVec 32 := 0#32
  let c1_i32_3777 : BitVec 32 := 1#32
  let v2853 : BitVec 32 := Scalar.muli v1 c1_i32_3777
  let v2854 : BitVec 32 := Scalar.addi c0_i32_3778 v2853
  v2854.toNat
def k0_off51 (v2863 : BitVec 32) : Fin 2 → Nat :=
  let c128_i32_3784 : BitVec 32 := 128#32
  let v2865 : BitVec 32 := Scalar.muli v2863 c128_i32_3784
  let v2866 : Index := Scalar.indexCast v2865
  let c0_3785 : Index := 0#32
  ![v2866.toNat, 0]

def k0_chk53 (v2863 : BitVec 32) : Prop :=
  (∀ a, (k0_off51 v2863) a + S128x128.size a ≤ S4096x128.size a)
theorem k0_off51_inb : ∀ (v2863 : BitVec 32) (k0_hw53 : k0_chk53 v2863), ∀ a, (k0_off51 v2863) a + S128x128.size a ≤ S4096x128.size a := fun v2863 k0_hw53 => k0_hw53

def k0_off52 (v2864 : BitVec 32) : Fin 2 → Nat :=
  let c128_i32_3789 : BitVec 32 := 128#32
  let v2872 : BitVec 32 := Scalar.muli v2864 c128_i32_3789
  let v2873 : Index := Scalar.indexCast v2872
  let c0_3790 : Index := 0#32
  ![v2873.toNat, 0]

def k0_chk54 (v2864 : BitVec 32) : Prop :=
  (∀ a, (k0_off52 v2864) a + S128x128.size a ≤ S4096x128.size a)
theorem k0_off52_inb : ∀ (v2864 : BitVec 32) (k0_hw54 : k0_chk54 v2864), ∀ a, (k0_off52 v2864) a + S128x128.size a ≤ S4096x128.size a := fun v2864 k0_hw54 => k0_hw54

def k0_dev103 (v0 : BitVec 32) : Nat :=
  let c0_i32_3824 : BitVec 32 := 0#32
  let c1_i32_3823 : BitVec 32 := 1#32
  let v2897 : BitVec 32 := Scalar.muli v0 c1_i32_3823
  let v2898 : BitVec 32 := Scalar.addi c0_i32_3824 v2897
  v2898.toNat
def k0_dev104 (v1 : BitVec 32) : Nat :=
  let c0_i32_3860 : BitVec 32 := 0#32
  let c1_i32_3859 : BitVec 32 := 1#32
  let v2921 : BitVec 32 := Scalar.muli v1 c1_i32_3859
  let v2922 : BitVec 32 := Scalar.addi c0_i32_3860 v2921
  v2922.toNat
def k0_dev105 (v0 : BitVec 32) : Nat :=
  let c0_i32_3896 : BitVec 32 := 0#32
  let c1_i32_3895 : BitVec 32 := 1#32
  let v2945 : BitVec 32 := Scalar.muli v0 c1_i32_3895
  let v2946 : BitVec 32 := Scalar.addi c0_i32_3896 v2945
  v2946.toNat
def k0_dev106 (v1 : BitVec 32) : Nat :=
  let c0_i32_3932 : BitVec 32 := 0#32
  let c1_i32_3931 : BitVec 32 := 1#32
  let v2969 : BitVec 32 := Scalar.muli v1 c1_i32_3931
  let v2970 : BitVec 32 := Scalar.addi c0_i32_3932 v2969
  v2970.toNat
def k0_off53 (v2979 : BitVec 32) : Fin 2 → Nat :=
  let c128_i32_3938 : BitVec 32 := 128#32
  let v2981 : BitVec 32 := Scalar.muli v2979 c128_i32_3938
  let v2982 : Index := Scalar.indexCast v2981
  let c0_3939 : Index := 0#32
  ![v2982.toNat, 0]

def k0_chk55 (v2979 : BitVec 32) : Prop :=
  (∀ a, (k0_off53 v2979) a + S128x128.size a ≤ S4096x128.size a)
theorem k0_off53_inb : ∀ (v2979 : BitVec 32) (k0_hw55 : k0_chk55 v2979), ∀ a, (k0_off53 v2979) a + S128x128.size a ≤ S4096x128.size a := fun v2979 k0_hw55 => k0_hw55

def k0_off54 (v2980 : BitVec 32) : Fin 2 → Nat :=
  let c128_i32_3943 : BitVec 32 := 128#32
  let v2988 : BitVec 32 := Scalar.muli v2980 c128_i32_3943
  let v2989 : Index := Scalar.indexCast v2988
  let c0_3944 : Index := 0#32
  ![v2989.toNat, 0]

def k0_chk56 (v2980 : BitVec 32) : Prop :=
  (∀ a, (k0_off54 v2980) a + S128x128.size a ≤ S4096x128.size a)
theorem k0_off54_inb : ∀ (v2980 : BitVec 32) (k0_hw56 : k0_chk56 v2980), ∀ a, (k0_off54 v2980) a + S128x128.size a ≤ S4096x128.size a := fun v2980 k0_hw56 => k0_hw56

def k0_dev107 (v0 : BitVec 32) : Nat :=
  let c0_i32_3978 : BitVec 32 := 0#32
  let c1_i32_3977 : BitVec 32 := 1#32
  let v3013 : BitVec 32 := Scalar.muli v0 c1_i32_3977
  let v3014 : BitVec 32 := Scalar.addi c0_i32_3978 v3013
  v3014.toNat
def k0_dev108 (v1 : BitVec 32) : Nat :=
  let c0_i32_4014 : BitVec 32 := 0#32
  let c1_i32_4013 : BitVec 32 := 1#32
  let v3037 : BitVec 32 := Scalar.muli v1 c1_i32_4013
  let v3038 : BitVec 32 := Scalar.addi c0_i32_4014 v3037
  v3038.toNat
def k0_dev109 (v0 : BitVec 32) : Nat :=
  let c0_i32_4050 : BitVec 32 := 0#32
  let c1_i32_4049 : BitVec 32 := 1#32
  let v3061 : BitVec 32 := Scalar.muli v0 c1_i32_4049
  let v3062 : BitVec 32 := Scalar.addi c0_i32_4050 v3061
  v3062.toNat
def k0_dev110 (v1 : BitVec 32) : Nat :=
  let c0_i32_4086 : BitVec 32 := 0#32
  let c1_i32_4085 : BitVec 32 := 1#32
  let v3085 : BitVec 32 := Scalar.muli v1 c1_i32_4085
  let v3086 : BitVec 32 := Scalar.addi c0_i32_4086 v3085
  v3086.toNat
def k0_off55 (v3095 : BitVec 32) : Fin 2 → Nat :=
  let c128_i32_4092 : BitVec 32 := 128#32
  let v3097 : BitVec 32 := Scalar.muli v3095 c128_i32_4092
  let v3098 : Index := Scalar.indexCast v3097
  let c0_4093 : Index := 0#32
  ![v3098.toNat, 0]

def k0_chk57 (v3095 : BitVec 32) : Prop :=
  (∀ a, (k0_off55 v3095) a + S128x128.size a ≤ S4096x128.size a)
theorem k0_off55_inb : ∀ (v3095 : BitVec 32) (k0_hw57 : k0_chk57 v3095), ∀ a, (k0_off55 v3095) a + S128x128.size a ≤ S4096x128.size a := fun v3095 k0_hw57 => k0_hw57

def k0_off56 (v3096 : BitVec 32) : Fin 2 → Nat :=
  let c128_i32_4097 : BitVec 32 := 128#32
  let v3104 : BitVec 32 := Scalar.muli v3096 c128_i32_4097
  let v3105 : Index := Scalar.indexCast v3104
  let c0_4098 : Index := 0#32
  ![v3105.toNat, 0]

def k0_chk58 (v3096 : BitVec 32) : Prop :=
  (∀ a, (k0_off56 v3096) a + S128x128.size a ≤ S4096x128.size a)
theorem k0_off56_inb : ∀ (v3096 : BitVec 32) (k0_hw58 : k0_chk58 v3096), ∀ a, (k0_off56 v3096) a + S128x128.size a ≤ S4096x128.size a := fun v3096 k0_hw58 => k0_hw58

def k0_dev111 (v0 : BitVec 32) : Nat :=
  let c0_i32_4132 : BitVec 32 := 0#32
  let c1_i32_4131 : BitVec 32 := 1#32
  let v3129 : BitVec 32 := Scalar.muli v0 c1_i32_4131
  let v3130 : BitVec 32 := Scalar.addi c0_i32_4132 v3129
  v3130.toNat
def k0_dev112 (v1 : BitVec 32) : Nat :=
  let c0_i32_4168 : BitVec 32 := 0#32
  let c1_i32_4167 : BitVec 32 := 1#32
  let v3153 : BitVec 32 := Scalar.muli v1 c1_i32_4167
  let v3154 : BitVec 32 := Scalar.addi c0_i32_4168 v3153
  v3154.toNat
def k0_dev113 (v0 : BitVec 32) : Nat :=
  let c0_i32_4204 : BitVec 32 := 0#32
  let c1_i32_4203 : BitVec 32 := 1#32
  let v3177 : BitVec 32 := Scalar.muli v0 c1_i32_4203
  let v3178 : BitVec 32 := Scalar.addi c0_i32_4204 v3177
  v3178.toNat
def k0_dev114 (v1 : BitVec 32) : Nat :=
  let c0_i32_4240 : BitVec 32 := 0#32
  let c1_i32_4239 : BitVec 32 := 1#32
  let v3201 : BitVec 32 := Scalar.muli v1 c1_i32_4239
  let v3202 : BitVec 32 := Scalar.addi c0_i32_4240 v3201
  v3202.toNat
def k0_off57 (v3211 : BitVec 32) : Fin 2 → Nat :=
  let c128_i32_4246 : BitVec 32 := 128#32
  let v3213 : BitVec 32 := Scalar.muli v3211 c128_i32_4246
  let v3214 : Index := Scalar.indexCast v3213
  let c0_4247 : Index := 0#32
  ![v3214.toNat, 0]

def k0_chk59 (v3211 : BitVec 32) : Prop :=
  (∀ a, (k0_off57 v3211) a + S128x128.size a ≤ S4096x128.size a)
theorem k0_off57_inb : ∀ (v3211 : BitVec 32) (k0_hw59 : k0_chk59 v3211), ∀ a, (k0_off57 v3211) a + S128x128.size a ≤ S4096x128.size a := fun v3211 k0_hw59 => k0_hw59

def k0_off58 (v3212 : BitVec 32) : Fin 2 → Nat :=
  let c128_i32_4251 : BitVec 32 := 128#32
  let v3220 : BitVec 32 := Scalar.muli v3212 c128_i32_4251
  let v3221 : Index := Scalar.indexCast v3220
  let c0_4252 : Index := 0#32
  ![v3221.toNat, 0]

def k0_chk60 (v3212 : BitVec 32) : Prop :=
  (∀ a, (k0_off58 v3212) a + S128x128.size a ≤ S4096x128.size a)
theorem k0_off58_inb : ∀ (v3212 : BitVec 32) (k0_hw60 : k0_chk60 v3212), ∀ a, (k0_off58 v3212) a + S128x128.size a ≤ S4096x128.size a := fun v3212 k0_hw60 => k0_hw60

def k0_dev115 (v0 : BitVec 32) : Nat :=
  let c0_i32_4286 : BitVec 32 := 0#32
  let c1_i32_4285 : BitVec 32 := 1#32
  let v3245 : BitVec 32 := Scalar.muli v0 c1_i32_4285
  let v3246 : BitVec 32 := Scalar.addi c0_i32_4286 v3245
  v3246.toNat
def k0_dev116 (v1 : BitVec 32) : Nat :=
  let c0_i32_4322 : BitVec 32 := 0#32
  let c1_i32_4321 : BitVec 32 := 1#32
  let v3269 : BitVec 32 := Scalar.muli v1 c1_i32_4321
  let v3270 : BitVec 32 := Scalar.addi c0_i32_4322 v3269
  v3270.toNat
def k0_dev117 (v0 : BitVec 32) : Nat :=
  let c0_i32_4358 : BitVec 32 := 0#32
  let c1_i32_4357 : BitVec 32 := 1#32
  let v3293 : BitVec 32 := Scalar.muli v0 c1_i32_4357
  let v3294 : BitVec 32 := Scalar.addi c0_i32_4358 v3293
  v3294.toNat
def k0_dev118 (v1 : BitVec 32) : Nat :=
  let c0_i32_4394 : BitVec 32 := 0#32
  let c1_i32_4393 : BitVec 32 := 1#32
  let v3317 : BitVec 32 := Scalar.muli v1 c1_i32_4393
  let v3318 : BitVec 32 := Scalar.addi c0_i32_4394 v3317
  v3318.toNat
def k0_off59 (v3327 : BitVec 32) : Fin 2 → Nat :=
  let c128_i32_4400 : BitVec 32 := 128#32
  let v3329 : BitVec 32 := Scalar.muli v3327 c128_i32_4400
  let v3330 : Index := Scalar.indexCast v3329
  let c0_4401 : Index := 0#32
  ![v3330.toNat, 0]

def k0_chk61 (v3327 : BitVec 32) : Prop :=
  (∀ a, (k0_off59 v3327) a + S128x128.size a ≤ S4096x128.size a)
theorem k0_off59_inb : ∀ (v3327 : BitVec 32) (k0_hw61 : k0_chk61 v3327), ∀ a, (k0_off59 v3327) a + S128x128.size a ≤ S4096x128.size a := fun v3327 k0_hw61 => k0_hw61

def k0_off60 (v3328 : BitVec 32) : Fin 2 → Nat :=
  let c128_i32_4405 : BitVec 32 := 128#32
  let v3336 : BitVec 32 := Scalar.muli v3328 c128_i32_4405
  let v3337 : Index := Scalar.indexCast v3336
  let c0_4406 : Index := 0#32
  ![v3337.toNat, 0]

def k0_chk62 (v3328 : BitVec 32) : Prop :=
  (∀ a, (k0_off60 v3328) a + S128x128.size a ≤ S4096x128.size a)
theorem k0_off60_inb : ∀ (v3328 : BitVec 32) (k0_hw62 : k0_chk62 v3328), ∀ a, (k0_off60 v3328) a + S128x128.size a ≤ S4096x128.size a := fun v3328 k0_hw62 => k0_hw62

def k0_dev119 (v0 : BitVec 32) : Nat :=
  let c0_i32_4440 : BitVec 32 := 0#32
  let c1_i32_4439 : BitVec 32 := 1#32
  let v3361 : BitVec 32 := Scalar.muli v0 c1_i32_4439
  let v3362 : BitVec 32 := Scalar.addi c0_i32_4440 v3361
  v3362.toNat
def k0_dev120 (v1 : BitVec 32) : Nat :=
  let c0_i32_4476 : BitVec 32 := 0#32
  let c1_i32_4475 : BitVec 32 := 1#32
  let v3385 : BitVec 32 := Scalar.muli v1 c1_i32_4475
  let v3386 : BitVec 32 := Scalar.addi c0_i32_4476 v3385
  v3386.toNat
def k0_dev121 (v0 : BitVec 32) : Nat :=
  let c0_i32_4512 : BitVec 32 := 0#32
  let c1_i32_4511 : BitVec 32 := 1#32
  let v3409 : BitVec 32 := Scalar.muli v0 c1_i32_4511
  let v3410 : BitVec 32 := Scalar.addi c0_i32_4512 v3409
  v3410.toNat
def k0_dev122 (v1 : BitVec 32) : Nat :=
  let c0_i32_4548 : BitVec 32 := 0#32
  let c1_i32_4547 : BitVec 32 := 1#32
  let v3433 : BitVec 32 := Scalar.muli v1 c1_i32_4547
  let v3434 : BitVec 32 := Scalar.addi c0_i32_4548 v3433
  v3434.toNat
def k0_off61 (v3443 : BitVec 32) : Fin 2 → Nat :=
  let c128_i32_4554 : BitVec 32 := 128#32
  let v3445 : BitVec 32 := Scalar.muli v3443 c128_i32_4554
  let v3446 : Index := Scalar.indexCast v3445
  let c0_4555 : Index := 0#32
  ![v3446.toNat, 0]

def k0_chk63 (v3443 : BitVec 32) : Prop :=
  (∀ a, (k0_off61 v3443) a + S128x128.size a ≤ S4096x128.size a)
theorem k0_off61_inb : ∀ (v3443 : BitVec 32) (k0_hw63 : k0_chk63 v3443), ∀ a, (k0_off61 v3443) a + S128x128.size a ≤ S4096x128.size a := fun v3443 k0_hw63 => k0_hw63

def k0_off62 (v3444 : BitVec 32) : Fin 2 → Nat :=
  let c128_i32_4559 : BitVec 32 := 128#32
  let v3452 : BitVec 32 := Scalar.muli v3444 c128_i32_4559
  let v3453 : Index := Scalar.indexCast v3452
  let c0_4560 : Index := 0#32
  ![v3453.toNat, 0]

def k0_chk64 (v3444 : BitVec 32) : Prop :=
  (∀ a, (k0_off62 v3444) a + S128x128.size a ≤ S4096x128.size a)
theorem k0_off62_inb : ∀ (v3444 : BitVec 32) (k0_hw64 : k0_chk64 v3444), ∀ a, (k0_off62 v3444) a + S128x128.size a ≤ S4096x128.size a := fun v3444 k0_hw64 => k0_hw64

def k0_dev123 (v0 : BitVec 32) : Nat :=
  let c0_i32_4594 : BitVec 32 := 0#32
  let c1_i32_4593 : BitVec 32 := 1#32
  let v3477 : BitVec 32 := Scalar.muli v0 c1_i32_4593
  let v3478 : BitVec 32 := Scalar.addi c0_i32_4594 v3477
  v3478.toNat
def k0_dev124 (v1 : BitVec 32) : Nat :=
  let c0_i32_4630 : BitVec 32 := 0#32
  let c1_i32_4629 : BitVec 32 := 1#32
  let v3501 : BitVec 32 := Scalar.muli v1 c1_i32_4629
  let v3502 : BitVec 32 := Scalar.addi c0_i32_4630 v3501
  v3502.toNat
def k0_dev125 (v0 : BitVec 32) : Nat :=
  let c0_i32_4666 : BitVec 32 := 0#32
  let c1_i32_4665 : BitVec 32 := 1#32
  let v3525 : BitVec 32 := Scalar.muli v0 c1_i32_4665
  let v3526 : BitVec 32 := Scalar.addi c0_i32_4666 v3525
  v3526.toNat
def k0_dev126 (v1 : BitVec 32) : Nat :=
  let c0_i32_4702 : BitVec 32 := 0#32
  let c1_i32_4701 : BitVec 32 := 1#32
  let v3549 : BitVec 32 := Scalar.muli v1 c1_i32_4701
  let v3550 : BitVec 32 := Scalar.addi c0_i32_4702 v3549
  v3550.toNat
def k0_off63 (v3559 : BitVec 32) : Fin 2 → Nat :=
  let c128_i32_4708 : BitVec 32 := 128#32
  let v3561 : BitVec 32 := Scalar.muli v3559 c128_i32_4708
  let v3562 : Index := Scalar.indexCast v3561
  let c0_4709 : Index := 0#32
  ![v3562.toNat, 0]

def k0_chk65 (v3559 : BitVec 32) : Prop :=
  (∀ a, (k0_off63 v3559) a + S128x128.size a ≤ S4096x128.size a)
theorem k0_off63_inb : ∀ (v3559 : BitVec 32) (k0_hw65 : k0_chk65 v3559), ∀ a, (k0_off63 v3559) a + S128x128.size a ≤ S4096x128.size a := fun v3559 k0_hw65 => k0_hw65

def k0_off64 (v3560 : BitVec 32) : Fin 2 → Nat :=
  let c128_i32_4713 : BitVec 32 := 128#32
  let v3568 : BitVec 32 := Scalar.muli v3560 c128_i32_4713
  let v3569 : Index := Scalar.indexCast v3568
  let c0_4714 : Index := 0#32
  ![v3569.toNat, 0]

def k0_chk66 (v3560 : BitVec 32) : Prop :=
  (∀ a, (k0_off64 v3560) a + S128x128.size a ≤ S4096x128.size a)
theorem k0_off64_inb : ∀ (v3560 : BitVec 32) (k0_hw66 : k0_chk66 v3560), ∀ a, (k0_off64 v3560) a + S128x128.size a ≤ S4096x128.size a := fun v3560 k0_hw66 => k0_hw66

def k0_dev127 (d3627 : Dev nD) : Nat :=
  let c0_i32_4810 : BitVec 32 := 0#32
  let v3627 : BitVec 32 := Dev.word d3627
  let c1_i32_4796 : BitVec 32 := 1#32
  let v3628 : BitVec 32 := Scalar.divsi v3627 c1_i32_4796
  let c32_i32 : BitVec 32 := 32#32
  let v3629 : BitVec 32 := Scalar.remsi v3628 c32_i32
  let c1_i32_4803 : BitVec 32 := 1#32
  let v3641 : BitVec 32 := Scalar.addi v3629 c1_i32_4803
  let c32_i32_4804 : BitVec 32 := 32#32
  let v3642 : BitVec 32 := Scalar.remsi v3641 c32_i32_4804
  let c1_i32_4809 : BitVec 32 := 1#32
  let v3643 : BitVec 32 := Scalar.muli v3642 c1_i32_4809
  let v3644 : BitVec 32 := Scalar.addi c0_i32_4810 v3643
  v3644.toNat
def k0_dev128 (d3627 : Dev nD) : Nat :=
  let c0_i32_4822 : BitVec 32 := 0#32
  let v3627 : BitVec 32 := Dev.word d3627
  let c1_i32_4796 : BitVec 32 := 1#32
  let v3628 : BitVec 32 := Scalar.divsi v3627 c1_i32_4796
  let c32_i32 : BitVec 32 := 32#32
  let v3629 : BitVec 32 := Scalar.remsi v3628 c32_i32
  let c2_i32_4815 : BitVec 32 := 2#32
  let v3653 : BitVec 32 := Scalar.addi v3629 c2_i32_4815
  let c32_i32_4816 : BitVec 32 := 32#32
  let v3654 : BitVec 32 := Scalar.remsi v3653 c32_i32_4816
  let c1_i32_4821 : BitVec 32 := 1#32
  let v3655 : BitVec 32 := Scalar.muli v3654 c1_i32_4821
  let v3656 : BitVec 32 := Scalar.addi c0_i32_4822 v3655
  v3656.toNat
def k0_dev129 (d3627 : Dev nD) : Nat :=
  let c0_i32_4834 : BitVec 32 := 0#32
  let v3627 : BitVec 32 := Dev.word d3627
  let c1_i32_4796 : BitVec 32 := 1#32
  let v3628 : BitVec 32 := Scalar.divsi v3627 c1_i32_4796
  let c32_i32 : BitVec 32 := 32#32
  let v3629 : BitVec 32 := Scalar.remsi v3628 c32_i32
  let c3_i32_4827 : BitVec 32 := 3#32
  let v3665 : BitVec 32 := Scalar.addi v3629 c3_i32_4827
  let c32_i32_4828 : BitVec 32 := 32#32
  let v3666 : BitVec 32 := Scalar.remsi v3665 c32_i32_4828
  let c1_i32_4833 : BitVec 32 := 1#32
  let v3667 : BitVec 32 := Scalar.muli v3666 c1_i32_4833
  let v3668 : BitVec 32 := Scalar.addi c0_i32_4834 v3667
  v3668.toNat
def k0_dev130 (d3627 : Dev nD) : Nat :=
  let c0_i32_4846 : BitVec 32 := 0#32
  let v3627 : BitVec 32 := Dev.word d3627
  let c1_i32_4796 : BitVec 32 := 1#32
  let v3628 : BitVec 32 := Scalar.divsi v3627 c1_i32_4796
  let c32_i32 : BitVec 32 := 32#32
  let v3629 : BitVec 32 := Scalar.remsi v3628 c32_i32
  let c4_i32_4839 : BitVec 32 := 4#32
  let v3677 : BitVec 32 := Scalar.addi v3629 c4_i32_4839
  let c32_i32_4840 : BitVec 32 := 32#32
  let v3678 : BitVec 32 := Scalar.remsi v3677 c32_i32_4840
  let c1_i32_4845 : BitVec 32 := 1#32
  let v3679 : BitVec 32 := Scalar.muli v3678 c1_i32_4845
  let v3680 : BitVec 32 := Scalar.addi c0_i32_4846 v3679
  v3680.toNat
def k0_dev131 (d3627 : Dev nD) : Nat :=
  let c0_i32_4858 : BitVec 32 := 0#32
  let v3627 : BitVec 32 := Dev.word d3627
  let c1_i32_4796 : BitVec 32 := 1#32
  let v3628 : BitVec 32 := Scalar.divsi v3627 c1_i32_4796
  let c32_i32 : BitVec 32 := 32#32
  let v3629 : BitVec 32 := Scalar.remsi v3628 c32_i32
  let c5_i32_4851 : BitVec 32 := 5#32
  let v3689 : BitVec 32 := Scalar.addi v3629 c5_i32_4851
  let c32_i32_4852 : BitVec 32 := 32#32
  let v3690 : BitVec 32 := Scalar.remsi v3689 c32_i32_4852
  let c1_i32_4857 : BitVec 32 := 1#32
  let v3691 : BitVec 32 := Scalar.muli v3690 c1_i32_4857
  let v3692 : BitVec 32 := Scalar.addi c0_i32_4858 v3691
  v3692.toNat
def k0_dev132 (d3627 : Dev nD) : Nat :=
  let c0_i32_4870 : BitVec 32 := 0#32
  let v3627 : BitVec 32 := Dev.word d3627
  let c1_i32_4796 : BitVec 32 := 1#32
  let v3628 : BitVec 32 := Scalar.divsi v3627 c1_i32_4796
  let c32_i32 : BitVec 32 := 32#32
  let v3629 : BitVec 32 := Scalar.remsi v3628 c32_i32
  let c6_i32_4863 : BitVec 32 := 6#32
  let v3701 : BitVec 32 := Scalar.addi v3629 c6_i32_4863
  let c32_i32_4864 : BitVec 32 := 32#32
  let v3702 : BitVec 32 := Scalar.remsi v3701 c32_i32_4864
  let c1_i32_4869 : BitVec 32 := 1#32
  let v3703 : BitVec 32 := Scalar.muli v3702 c1_i32_4869
  let v3704 : BitVec 32 := Scalar.addi c0_i32_4870 v3703
  v3704.toNat
def k0_dev133 (d3627 : Dev nD) : Nat :=
  let c0_i32_4882 : BitVec 32 := 0#32
  let v3627 : BitVec 32 := Dev.word d3627
  let c1_i32_4796 : BitVec 32 := 1#32
  let v3628 : BitVec 32 := Scalar.divsi v3627 c1_i32_4796
  let c32_i32 : BitVec 32 := 32#32
  let v3629 : BitVec 32 := Scalar.remsi v3628 c32_i32
  let c7_i32_4875 : BitVec 32 := 7#32
  let v3713 : BitVec 32 := Scalar.addi v3629 c7_i32_4875
  let c32_i32_4876 : BitVec 32 := 32#32
  let v3714 : BitVec 32 := Scalar.remsi v3713 c32_i32_4876
  let c1_i32_4881 : BitVec 32 := 1#32
  let v3715 : BitVec 32 := Scalar.muli v3714 c1_i32_4881
  let v3716 : BitVec 32 := Scalar.addi c0_i32_4882 v3715
  v3716.toNat
def k0_dev134 (d3627 : Dev nD) : Nat :=
  let c0_i32_4894 : BitVec 32 := 0#32
  let v3627 : BitVec 32 := Dev.word d3627
  let c1_i32_4796 : BitVec 32 := 1#32
  let v3628 : BitVec 32 := Scalar.divsi v3627 c1_i32_4796
  let c32_i32 : BitVec 32 := 32#32
  let v3629 : BitVec 32 := Scalar.remsi v3628 c32_i32
  let c8_i32_4887 : BitVec 32 := 8#32
  let v3725 : BitVec 32 := Scalar.addi v3629 c8_i32_4887
  let c32_i32_4888 : BitVec 32 := 32#32
  let v3726 : BitVec 32 := Scalar.remsi v3725 c32_i32_4888
  let c1_i32_4893 : BitVec 32 := 1#32
  let v3727 : BitVec 32 := Scalar.muli v3726 c1_i32_4893
  let v3728 : BitVec 32 := Scalar.addi c0_i32_4894 v3727
  v3728.toNat
def k0_dev135 (d3627 : Dev nD) : Nat :=
  let c0_i32_4906 : BitVec 32 := 0#32
  let v3627 : BitVec 32 := Dev.word d3627
  let c1_i32_4796 : BitVec 32 := 1#32
  let v3628 : BitVec 32 := Scalar.divsi v3627 c1_i32_4796
  let c32_i32 : BitVec 32 := 32#32
  let v3629 : BitVec 32 := Scalar.remsi v3628 c32_i32
  let c9_i32_4899 : BitVec 32 := 9#32
  let v3737 : BitVec 32 := Scalar.addi v3629 c9_i32_4899
  let c32_i32_4900 : BitVec 32 := 32#32
  let v3738 : BitVec 32 := Scalar.remsi v3737 c32_i32_4900
  let c1_i32_4905 : BitVec 32 := 1#32
  let v3739 : BitVec 32 := Scalar.muli v3738 c1_i32_4905
  let v3740 : BitVec 32 := Scalar.addi c0_i32_4906 v3739
  v3740.toNat
def k0_dev136 (d3627 : Dev nD) : Nat :=
  let c0_i32_4918 : BitVec 32 := 0#32
  let v3627 : BitVec 32 := Dev.word d3627
  let c1_i32_4796 : BitVec 32 := 1#32
  let v3628 : BitVec 32 := Scalar.divsi v3627 c1_i32_4796
  let c32_i32 : BitVec 32 := 32#32
  let v3629 : BitVec 32 := Scalar.remsi v3628 c32_i32
  let c10_i32_4911 : BitVec 32 := 10#32
  let v3749 : BitVec 32 := Scalar.addi v3629 c10_i32_4911
  let c32_i32_4912 : BitVec 32 := 32#32
  let v3750 : BitVec 32 := Scalar.remsi v3749 c32_i32_4912
  let c1_i32_4917 : BitVec 32 := 1#32
  let v3751 : BitVec 32 := Scalar.muli v3750 c1_i32_4917
  let v3752 : BitVec 32 := Scalar.addi c0_i32_4918 v3751
  v3752.toNat
def k0_dev137 (d3627 : Dev nD) : Nat :=
  let c0_i32_4930 : BitVec 32 := 0#32
  let v3627 : BitVec 32 := Dev.word d3627
  let c1_i32_4796 : BitVec 32 := 1#32
  let v3628 : BitVec 32 := Scalar.divsi v3627 c1_i32_4796
  let c32_i32 : BitVec 32 := 32#32
  let v3629 : BitVec 32 := Scalar.remsi v3628 c32_i32
  let c11_i32_4923 : BitVec 32 := 11#32
  let v3761 : BitVec 32 := Scalar.addi v3629 c11_i32_4923
  let c32_i32_4924 : BitVec 32 := 32#32
  let v3762 : BitVec 32 := Scalar.remsi v3761 c32_i32_4924
  let c1_i32_4929 : BitVec 32 := 1#32
  let v3763 : BitVec 32 := Scalar.muli v3762 c1_i32_4929
  let v3764 : BitVec 32 := Scalar.addi c0_i32_4930 v3763
  v3764.toNat
def k0_dev138 (d3627 : Dev nD) : Nat :=
  let c0_i32_4942 : BitVec 32 := 0#32
  let v3627 : BitVec 32 := Dev.word d3627
  let c1_i32_4796 : BitVec 32 := 1#32
  let v3628 : BitVec 32 := Scalar.divsi v3627 c1_i32_4796
  let c32_i32 : BitVec 32 := 32#32
  let v3629 : BitVec 32 := Scalar.remsi v3628 c32_i32
  let c12_i32_4935 : BitVec 32 := 12#32
  let v3773 : BitVec 32 := Scalar.addi v3629 c12_i32_4935
  let c32_i32_4936 : BitVec 32 := 32#32
  let v3774 : BitVec 32 := Scalar.remsi v3773 c32_i32_4936
  let c1_i32_4941 : BitVec 32 := 1#32
  let v3775 : BitVec 32 := Scalar.muli v3774 c1_i32_4941
  let v3776 : BitVec 32 := Scalar.addi c0_i32_4942 v3775
  v3776.toNat
def k0_dev139 (d3627 : Dev nD) : Nat :=
  let c0_i32_4954 : BitVec 32 := 0#32
  let v3627 : BitVec 32 := Dev.word d3627
  let c1_i32_4796 : BitVec 32 := 1#32
  let v3628 : BitVec 32 := Scalar.divsi v3627 c1_i32_4796
  let c32_i32 : BitVec 32 := 32#32
  let v3629 : BitVec 32 := Scalar.remsi v3628 c32_i32
  let c13_i32_4947 : BitVec 32 := 13#32
  let v3785 : BitVec 32 := Scalar.addi v3629 c13_i32_4947
  let c32_i32_4948 : BitVec 32 := 32#32
  let v3786 : BitVec 32 := Scalar.remsi v3785 c32_i32_4948
  let c1_i32_4953 : BitVec 32 := 1#32
  let v3787 : BitVec 32 := Scalar.muli v3786 c1_i32_4953
  let v3788 : BitVec 32 := Scalar.addi c0_i32_4954 v3787
  v3788.toNat
def k0_dev140 (d3627 : Dev nD) : Nat :=
  let c0_i32_4966 : BitVec 32 := 0#32
  let v3627 : BitVec 32 := Dev.word d3627
  let c1_i32_4796 : BitVec 32 := 1#32
  let v3628 : BitVec 32 := Scalar.divsi v3627 c1_i32_4796
  let c32_i32 : BitVec 32 := 32#32
  let v3629 : BitVec 32 := Scalar.remsi v3628 c32_i32
  let c14_i32_4959 : BitVec 32 := 14#32
  let v3797 : BitVec 32 := Scalar.addi v3629 c14_i32_4959
  let c32_i32_4960 : BitVec 32 := 32#32
  let v3798 : BitVec 32 := Scalar.remsi v3797 c32_i32_4960
  let c1_i32_4965 : BitVec 32 := 1#32
  let v3799 : BitVec 32 := Scalar.muli v3798 c1_i32_4965
  let v3800 : BitVec 32 := Scalar.addi c0_i32_4966 v3799
  v3800.toNat
def k0_dev141 (d3627 : Dev nD) : Nat :=
  let c0_i32_4978 : BitVec 32 := 0#32
  let v3627 : BitVec 32 := Dev.word d3627
  let c1_i32_4796 : BitVec 32 := 1#32
  let v3628 : BitVec 32 := Scalar.divsi v3627 c1_i32_4796
  let c32_i32 : BitVec 32 := 32#32
  let v3629 : BitVec 32 := Scalar.remsi v3628 c32_i32
  let c15_i32_4971 : BitVec 32 := 15#32
  let v3809 : BitVec 32 := Scalar.addi v3629 c15_i32_4971
  let c32_i32_4972 : BitVec 32 := 32#32
  let v3810 : BitVec 32 := Scalar.remsi v3809 c32_i32_4972
  let c1_i32_4977 : BitVec 32 := 1#32
  let v3811 : BitVec 32 := Scalar.muli v3810 c1_i32_4977
  let v3812 : BitVec 32 := Scalar.addi c0_i32_4978 v3811
  v3812.toNat
def k0_dev142 (d3627 : Dev nD) : Nat :=
  let c0_i32_4990 : BitVec 32 := 0#32
  let v3627 : BitVec 32 := Dev.word d3627
  let c1_i32_4796 : BitVec 32 := 1#32
  let v3628 : BitVec 32 := Scalar.divsi v3627 c1_i32_4796
  let c32_i32 : BitVec 32 := 32#32
  let v3629 : BitVec 32 := Scalar.remsi v3628 c32_i32
  let c16_i32_4983 : BitVec 32 := 16#32
  let v3821 : BitVec 32 := Scalar.addi v3629 c16_i32_4983
  let c32_i32_4984 : BitVec 32 := 32#32
  let v3822 : BitVec 32 := Scalar.remsi v3821 c32_i32_4984
  let c1_i32_4989 : BitVec 32 := 1#32
  let v3823 : BitVec 32 := Scalar.muli v3822 c1_i32_4989
  let v3824 : BitVec 32 := Scalar.addi c0_i32_4990 v3823
  v3824.toNat
def k0_dev143 (d3627 : Dev nD) : Nat :=
  let c0_i32_5002 : BitVec 32 := 0#32
  let v3627 : BitVec 32 := Dev.word d3627
  let c1_i32_4796 : BitVec 32 := 1#32
  let v3628 : BitVec 32 := Scalar.divsi v3627 c1_i32_4796
  let c32_i32 : BitVec 32 := 32#32
  let v3629 : BitVec 32 := Scalar.remsi v3628 c32_i32
  let c17_i32_4995 : BitVec 32 := 17#32
  let v3833 : BitVec 32 := Scalar.addi v3629 c17_i32_4995
  let c32_i32_4996 : BitVec 32 := 32#32
  let v3834 : BitVec 32 := Scalar.remsi v3833 c32_i32_4996
  let c1_i32_5001 : BitVec 32 := 1#32
  let v3835 : BitVec 32 := Scalar.muli v3834 c1_i32_5001
  let v3836 : BitVec 32 := Scalar.addi c0_i32_5002 v3835
  v3836.toNat
def k0_dev144 (d3627 : Dev nD) : Nat :=
  let c0_i32_5014 : BitVec 32 := 0#32
  let v3627 : BitVec 32 := Dev.word d3627
  let c1_i32_4796 : BitVec 32 := 1#32
  let v3628 : BitVec 32 := Scalar.divsi v3627 c1_i32_4796
  let c32_i32 : BitVec 32 := 32#32
  let v3629 : BitVec 32 := Scalar.remsi v3628 c32_i32
  let c18_i32_5007 : BitVec 32 := 18#32
  let v3845 : BitVec 32 := Scalar.addi v3629 c18_i32_5007
  let c32_i32_5008 : BitVec 32 := 32#32
  let v3846 : BitVec 32 := Scalar.remsi v3845 c32_i32_5008
  let c1_i32_5013 : BitVec 32 := 1#32
  let v3847 : BitVec 32 := Scalar.muli v3846 c1_i32_5013
  let v3848 : BitVec 32 := Scalar.addi c0_i32_5014 v3847
  v3848.toNat
def k0_dev145 (d3627 : Dev nD) : Nat :=
  let c0_i32_5026 : BitVec 32 := 0#32
  let v3627 : BitVec 32 := Dev.word d3627
  let c1_i32_4796 : BitVec 32 := 1#32
  let v3628 : BitVec 32 := Scalar.divsi v3627 c1_i32_4796
  let c32_i32 : BitVec 32 := 32#32
  let v3629 : BitVec 32 := Scalar.remsi v3628 c32_i32
  let c19_i32_5019 : BitVec 32 := 19#32
  let v3857 : BitVec 32 := Scalar.addi v3629 c19_i32_5019
  let c32_i32_5020 : BitVec 32 := 32#32
  let v3858 : BitVec 32 := Scalar.remsi v3857 c32_i32_5020
  let c1_i32_5025 : BitVec 32 := 1#32
  let v3859 : BitVec 32 := Scalar.muli v3858 c1_i32_5025
  let v3860 : BitVec 32 := Scalar.addi c0_i32_5026 v3859
  v3860.toNat
def k0_dev146 (d3627 : Dev nD) : Nat :=
  let c0_i32_5038 : BitVec 32 := 0#32
  let v3627 : BitVec 32 := Dev.word d3627
  let c1_i32_4796 : BitVec 32 := 1#32
  let v3628 : BitVec 32 := Scalar.divsi v3627 c1_i32_4796
  let c32_i32 : BitVec 32 := 32#32
  let v3629 : BitVec 32 := Scalar.remsi v3628 c32_i32
  let c20_i32_5031 : BitVec 32 := 20#32
  let v3869 : BitVec 32 := Scalar.addi v3629 c20_i32_5031
  let c32_i32_5032 : BitVec 32 := 32#32
  let v3870 : BitVec 32 := Scalar.remsi v3869 c32_i32_5032
  let c1_i32_5037 : BitVec 32 := 1#32
  let v3871 : BitVec 32 := Scalar.muli v3870 c1_i32_5037
  let v3872 : BitVec 32 := Scalar.addi c0_i32_5038 v3871
  v3872.toNat
def k0_dev147 (d3627 : Dev nD) : Nat :=
  let c0_i32_5050 : BitVec 32 := 0#32
  let v3627 : BitVec 32 := Dev.word d3627
  let c1_i32_4796 : BitVec 32 := 1#32
  let v3628 : BitVec 32 := Scalar.divsi v3627 c1_i32_4796
  let c32_i32 : BitVec 32 := 32#32
  let v3629 : BitVec 32 := Scalar.remsi v3628 c32_i32
  let c21_i32_5043 : BitVec 32 := 21#32
  let v3881 : BitVec 32 := Scalar.addi v3629 c21_i32_5043
  let c32_i32_5044 : BitVec 32 := 32#32
  let v3882 : BitVec 32 := Scalar.remsi v3881 c32_i32_5044
  let c1_i32_5049 : BitVec 32 := 1#32
  let v3883 : BitVec 32 := Scalar.muli v3882 c1_i32_5049
  let v3884 : BitVec 32 := Scalar.addi c0_i32_5050 v3883
  v3884.toNat
def k0_dev148 (d3627 : Dev nD) : Nat :=
  let c0_i32_5062 : BitVec 32 := 0#32
  let v3627 : BitVec 32 := Dev.word d3627
  let c1_i32_4796 : BitVec 32 := 1#32
  let v3628 : BitVec 32 := Scalar.divsi v3627 c1_i32_4796
  let c32_i32 : BitVec 32 := 32#32
  let v3629 : BitVec 32 := Scalar.remsi v3628 c32_i32
  let c22_i32_5055 : BitVec 32 := 22#32
  let v3893 : BitVec 32 := Scalar.addi v3629 c22_i32_5055
  let c32_i32_5056 : BitVec 32 := 32#32
  let v3894 : BitVec 32 := Scalar.remsi v3893 c32_i32_5056
  let c1_i32_5061 : BitVec 32 := 1#32
  let v3895 : BitVec 32 := Scalar.muli v3894 c1_i32_5061
  let v3896 : BitVec 32 := Scalar.addi c0_i32_5062 v3895
  v3896.toNat
def k0_dev149 (d3627 : Dev nD) : Nat :=
  let c0_i32_5074 : BitVec 32 := 0#32
  let v3627 : BitVec 32 := Dev.word d3627
  let c1_i32_4796 : BitVec 32 := 1#32
  let v3628 : BitVec 32 := Scalar.divsi v3627 c1_i32_4796
  let c32_i32 : BitVec 32 := 32#32
  let v3629 : BitVec 32 := Scalar.remsi v3628 c32_i32
  let c23_i32_5067 : BitVec 32 := 23#32
  let v3905 : BitVec 32 := Scalar.addi v3629 c23_i32_5067
  let c32_i32_5068 : BitVec 32 := 32#32
  let v3906 : BitVec 32 := Scalar.remsi v3905 c32_i32_5068
  let c1_i32_5073 : BitVec 32 := 1#32
  let v3907 : BitVec 32 := Scalar.muli v3906 c1_i32_5073
  let v3908 : BitVec 32 := Scalar.addi c0_i32_5074 v3907
  v3908.toNat
def k0_dev150 (d3627 : Dev nD) : Nat :=
  let c0_i32_5086 : BitVec 32 := 0#32
  let v3627 : BitVec 32 := Dev.word d3627
  let c1_i32_4796 : BitVec 32 := 1#32
  let v3628 : BitVec 32 := Scalar.divsi v3627 c1_i32_4796
  let c32_i32 : BitVec 32 := 32#32
  let v3629 : BitVec 32 := Scalar.remsi v3628 c32_i32
  let c24_i32_5079 : BitVec 32 := 24#32
  let v3917 : BitVec 32 := Scalar.addi v3629 c24_i32_5079
  let c32_i32_5080 : BitVec 32 := 32#32
  let v3918 : BitVec 32 := Scalar.remsi v3917 c32_i32_5080
  let c1_i32_5085 : BitVec 32 := 1#32
  let v3919 : BitVec 32 := Scalar.muli v3918 c1_i32_5085
  let v3920 : BitVec 32 := Scalar.addi c0_i32_5086 v3919
  v3920.toNat
def k0_dev151 (d3627 : Dev nD) : Nat :=
  let c0_i32_5098 : BitVec 32 := 0#32
  let v3627 : BitVec 32 := Dev.word d3627
  let c1_i32_4796 : BitVec 32 := 1#32
  let v3628 : BitVec 32 := Scalar.divsi v3627 c1_i32_4796
  let c32_i32 : BitVec 32 := 32#32
  let v3629 : BitVec 32 := Scalar.remsi v3628 c32_i32
  let c25_i32_5091 : BitVec 32 := 25#32
  let v3929 : BitVec 32 := Scalar.addi v3629 c25_i32_5091
  let c32_i32_5092 : BitVec 32 := 32#32
  let v3930 : BitVec 32 := Scalar.remsi v3929 c32_i32_5092
  let c1_i32_5097 : BitVec 32 := 1#32
  let v3931 : BitVec 32 := Scalar.muli v3930 c1_i32_5097
  let v3932 : BitVec 32 := Scalar.addi c0_i32_5098 v3931
  v3932.toNat
def k0_dev152 (d3627 : Dev nD) : Nat :=
  let c0_i32_5110 : BitVec 32 := 0#32
  let v3627 : BitVec 32 := Dev.word d3627
  let c1_i32_4796 : BitVec 32 := 1#32
  let v3628 : BitVec 32 := Scalar.divsi v3627 c1_i32_4796
  let c32_i32 : BitVec 32 := 32#32
  let v3629 : BitVec 32 := Scalar.remsi v3628 c32_i32
  let c26_i32_5103 : BitVec 32 := 26#32
  let v3941 : BitVec 32 := Scalar.addi v3629 c26_i32_5103
  let c32_i32_5104 : BitVec 32 := 32#32
  let v3942 : BitVec 32 := Scalar.remsi v3941 c32_i32_5104
  let c1_i32_5109 : BitVec 32 := 1#32
  let v3943 : BitVec 32 := Scalar.muli v3942 c1_i32_5109
  let v3944 : BitVec 32 := Scalar.addi c0_i32_5110 v3943
  v3944.toNat
def k0_dev153 (d3627 : Dev nD) : Nat :=
  let c0_i32_5122 : BitVec 32 := 0#32
  let v3627 : BitVec 32 := Dev.word d3627
  let c1_i32_4796 : BitVec 32 := 1#32
  let v3628 : BitVec 32 := Scalar.divsi v3627 c1_i32_4796
  let c32_i32 : BitVec 32 := 32#32
  let v3629 : BitVec 32 := Scalar.remsi v3628 c32_i32
  let c27_i32_5115 : BitVec 32 := 27#32
  let v3953 : BitVec 32 := Scalar.addi v3629 c27_i32_5115
  let c32_i32_5116 : BitVec 32 := 32#32
  let v3954 : BitVec 32 := Scalar.remsi v3953 c32_i32_5116
  let c1_i32_5121 : BitVec 32 := 1#32
  let v3955 : BitVec 32 := Scalar.muli v3954 c1_i32_5121
  let v3956 : BitVec 32 := Scalar.addi c0_i32_5122 v3955
  v3956.toNat
def k0_dev154 (d3627 : Dev nD) : Nat :=
  let c0_i32_5134 : BitVec 32 := 0#32
  let v3627 : BitVec 32 := Dev.word d3627
  let c1_i32_4796 : BitVec 32 := 1#32
  let v3628 : BitVec 32 := Scalar.divsi v3627 c1_i32_4796
  let c32_i32 : BitVec 32 := 32#32
  let v3629 : BitVec 32 := Scalar.remsi v3628 c32_i32
  let c28_i32_5127 : BitVec 32 := 28#32
  let v3965 : BitVec 32 := Scalar.addi v3629 c28_i32_5127
  let c32_i32_5128 : BitVec 32 := 32#32
  let v3966 : BitVec 32 := Scalar.remsi v3965 c32_i32_5128
  let c1_i32_5133 : BitVec 32 := 1#32
  let v3967 : BitVec 32 := Scalar.muli v3966 c1_i32_5133
  let v3968 : BitVec 32 := Scalar.addi c0_i32_5134 v3967
  v3968.toNat
def k0_dev155 (d3627 : Dev nD) : Nat :=
  let c0_i32_5146 : BitVec 32 := 0#32
  let v3627 : BitVec 32 := Dev.word d3627
  let c1_i32_4796 : BitVec 32 := 1#32
  let v3628 : BitVec 32 := Scalar.divsi v3627 c1_i32_4796
  let c32_i32 : BitVec 32 := 32#32
  let v3629 : BitVec 32 := Scalar.remsi v3628 c32_i32
  let c29_i32_5139 : BitVec 32 := 29#32
  let v3977 : BitVec 32 := Scalar.addi v3629 c29_i32_5139
  let c32_i32_5140 : BitVec 32 := 32#32
  let v3978 : BitVec 32 := Scalar.remsi v3977 c32_i32_5140
  let c1_i32_5145 : BitVec 32 := 1#32
  let v3979 : BitVec 32 := Scalar.muli v3978 c1_i32_5145
  let v3980 : BitVec 32 := Scalar.addi c0_i32_5146 v3979
  v3980.toNat
def k0_dev156 (d3627 : Dev nD) : Nat :=
  let c0_i32_5158 : BitVec 32 := 0#32
  let v3627 : BitVec 32 := Dev.word d3627
  let c1_i32_4796 : BitVec 32 := 1#32
  let v3628 : BitVec 32 := Scalar.divsi v3627 c1_i32_4796
  let c32_i32 : BitVec 32 := 32#32
  let v3629 : BitVec 32 := Scalar.remsi v3628 c32_i32
  let c30_i32_5151 : BitVec 32 := 30#32
  let v3989 : BitVec 32 := Scalar.addi v3629 c30_i32_5151
  let c32_i32_5152 : BitVec 32 := 32#32
  let v3990 : BitVec 32 := Scalar.remsi v3989 c32_i32_5152
  let c1_i32_5157 : BitVec 32 := 1#32
  let v3991 : BitVec 32 := Scalar.muli v3990 c1_i32_5157
  let v3992 : BitVec 32 := Scalar.addi c0_i32_5158 v3991
  v3992.toNat
def k0_dev157 (d3627 : Dev nD) : Nat :=
  let c0_i32_5170 : BitVec 32 := 0#32
  let v3627 : BitVec 32 := Dev.word d3627
  let c1_i32_4796 : BitVec 32 := 1#32
  let v3628 : BitVec 32 := Scalar.divsi v3627 c1_i32_4796
  let c32_i32 : BitVec 32 := 32#32
  let v3629 : BitVec 32 := Scalar.remsi v3628 c32_i32
  let c31_i32_5163 : BitVec 32 := 31#32
  let v4001 : BitVec 32 := Scalar.addi v3629 c31_i32_5163
  let c32_i32_5164 : BitVec 32 := 32#32
  let v4002 : BitVec 32 := Scalar.remsi v4001 c32_i32_5164
  let c1_i32_5169 : BitVec 32 := 1#32
  let v4003 : BitVec 32 := Scalar.muli v4002 c1_i32_5169
  let v4004 : BitVec 32 := Scalar.addi c0_i32_5170 v4003
  v4004.toNat
def k0_dev158 (v0 : BitVec 32) : Nat :=
  let c0_i32_7479_r0 : BitVec 32 := 0#32
  let c1_i32_7478_r0 : BitVec 32 := 1#32
  let v5360_r0 : BitVec 32 := Scalar.muli v0 c1_i32_7478_r0
  let v5361_r0 : BitVec 32 := Scalar.addi c0_i32_7479_r0 v5360_r0
  v5361_r0.toNat

def k0_chk1_0 (v0 : BitVec 32) : Prop :=
  ((k0_dev1 v0) < nD) ∧
  ((k0_dev3 v0) < nD) ∧
  ((k0_dev5 v0) < nD) ∧
  ((k0_dev7 v0) < nD) ∧
  ((k0_dev9 v0) < nD) ∧
  ((k0_dev11 v0) < nD) ∧
  ((k0_dev13 v0) < nD) ∧
  ((k0_dev15 v0) < nD) ∧
  ((k0_dev17 v0) < nD) ∧
  ((k0_dev19 v0) < nD) ∧
  ((k0_dev21 v0) < nD) ∧
  ((k0_dev23 v0) < nD) ∧
  ((k0_dev25 v0) < nD) ∧
  ((k0_dev27 v0) < nD) ∧
  ((k0_dev29 v0) < nD) ∧
  ((k0_dev31 v0) < nD) ∧
  ((k0_dev33 v0) < nD) ∧
  ((k0_dev35 v0) < nD) ∧
  ((k0_dev37 v0) < nD) ∧
  ((k0_dev39 v0) < nD) ∧
  ((k0_dev41 v0) < nD) ∧
  ((k0_dev43 v0) < nD) ∧
  ((k0_dev45 v0) < nD) ∧
  ((k0_dev47 v0) < nD) ∧
  ((k0_dev49 v0) < nD) ∧
  ((k0_dev51 v0) < nD) ∧
  ((k0_dev53 v0) < nD) ∧
  ((k0_dev55 v0) < nD) ∧
  ((k0_dev57 v0) < nD) ∧
  ((k0_dev59 v0) < nD) ∧
  ((k0_dev61 v0) < nD) ∧
  ((k0_dev63 v0) < nD)
def k0_chk1_1 (v0 : BitVec 32) : Prop :=
  ((k0_dev65 v0) < nD) ∧
  ((k0_dev67 v0) < nD) ∧
  ((k0_dev69 v0) < nD) ∧
  ((k0_dev71 v0) < nD) ∧
  ((k0_dev73 v0) < nD) ∧
  ((k0_dev75 v0) < nD) ∧
  ((k0_dev77 v0) < nD) ∧
  ((k0_dev79 v0) < nD) ∧
  ((k0_dev81 v0) < nD) ∧
  ((k0_dev83 v0) < nD) ∧
  ((k0_dev85 v0) < nD) ∧
  ((k0_dev87 v0) < nD) ∧
  ((k0_dev89 v0) < nD) ∧
  ((k0_dev91 v0) < nD) ∧
  ((k0_dev93 v0) < nD) ∧
  ((k0_dev95 v0) < nD) ∧
  ((k0_dev97 v0) < nD) ∧
  ((k0_dev99 v0) < nD) ∧
  ((k0_dev101 v0) < nD) ∧
  ((k0_dev103 v0) < nD) ∧
  ((k0_dev105 v0) < nD) ∧
  ((k0_dev107 v0) < nD) ∧
  ((k0_dev109 v0) < nD) ∧
  ((k0_dev111 v0) < nD) ∧
  ((k0_dev113 v0) < nD) ∧
  ((k0_dev115 v0) < nD) ∧
  ((k0_dev117 v0) < nD) ∧
  ((k0_dev119 v0) < nD) ∧
  ((k0_dev121 v0) < nD) ∧
  ((k0_dev123 v0) < nD) ∧
  ((k0_dev125 v0) < nD) ∧
  ((k0_dev158 v0) < nD)
def k0_chk1 (v0 : BitVec 32) : Prop :=
  k0_chk1_0 v0 ∧
  k0_chk1_1 v0
theorem k0_dev1_lt : ∀ (v0 : BitVec 32) (k0_hw1 : k0_chk1 v0), (k0_dev1 v0) < nD := fun v0 k0_hw1 => k0_hw1.1.1
theorem k0_dev3_lt : ∀ (v0 : BitVec 32) (k0_hw1 : k0_chk1 v0), (k0_dev3 v0) < nD := fun v0 k0_hw1 => k0_hw1.1.2.1
theorem k0_dev5_lt : ∀ (v0 : BitVec 32) (k0_hw1 : k0_chk1 v0), (k0_dev5 v0) < nD := fun v0 k0_hw1 => k0_hw1.1.2.2.1
theorem k0_dev7_lt : ∀ (v0 : BitVec 32) (k0_hw1 : k0_chk1 v0), (k0_dev7 v0) < nD := fun v0 k0_hw1 => k0_hw1.1.2.2.2.1
theorem k0_dev9_lt : ∀ (v0 : BitVec 32) (k0_hw1 : k0_chk1 v0), (k0_dev9 v0) < nD := fun v0 k0_hw1 => k0_hw1.1.2.2.2.2.1
theorem k0_dev11_lt : ∀ (v0 : BitVec 32) (k0_hw1 : k0_chk1 v0), (k0_dev11 v0) < nD := fun v0 k0_hw1 => k0_hw1.1.2.2.2.2.2.1
theorem k0_dev13_lt : ∀ (v0 : BitVec 32) (k0_hw1 : k0_chk1 v0), (k0_dev13 v0) < nD := fun v0 k0_hw1 => k0_hw1.1.2.2.2.2.2.2.1
theorem k0_dev15_lt : ∀ (v0 : BitVec 32) (k0_hw1 : k0_chk1 v0), (k0_dev15 v0) < nD := fun v0 k0_hw1 => k0_hw1.1.2.2.2.2.2.2.2.1
theorem k0_dev17_lt : ∀ (v0 : BitVec 32) (k0_hw1 : k0_chk1 v0), (k0_dev17 v0) < nD := fun v0 k0_hw1 => k0_hw1.1.2.2.2.2.2.2.2.2.1
theorem k0_dev19_lt : ∀ (v0 : BitVec 32) (k0_hw1 : k0_chk1 v0), (k0_dev19 v0) < nD := fun v0 k0_hw1 => k0_hw1.1.2.2.2.2.2.2.2.2.2.1
theorem k0_dev21_lt : ∀ (v0 : BitVec 32) (k0_hw1 : k0_chk1 v0), (k0_dev21 v0) < nD := fun v0 k0_hw1 => k0_hw1.1.2.2.2.2.2.2.2.2.2.2.1
theorem k0_dev23_lt : ∀ (v0 : BitVec 32) (k0_hw1 : k0_chk1 v0), (k0_dev23 v0) < nD := fun v0 k0_hw1 => k0_hw1.1.2.2.2.2.2.2.2.2.2.2.2.1
theorem k0_dev25_lt : ∀ (v0 : BitVec 32) (k0_hw1 : k0_chk1 v0), (k0_dev25 v0) < nD := fun v0 k0_hw1 => k0_hw1.1.2.2.2.2.2.2.2.2.2.2.2.2.1
theorem k0_dev27_lt : ∀ (v0 : BitVec 32) (k0_hw1 : k0_chk1 v0), (k0_dev27 v0) < nD := fun v0 k0_hw1 => k0_hw1.1.2.2.2.2.2.2.2.2.2.2.2.2.2.1
theorem k0_dev29_lt : ∀ (v0 : BitVec 32) (k0_hw1 : k0_chk1 v0), (k0_dev29 v0) < nD := fun v0 k0_hw1 => k0_hw1.1.2.2.2.2.2.2.2.2.2.2.2.2.2.2.1
theorem k0_dev31_lt : ∀ (v0 : BitVec 32) (k0_hw1 : k0_chk1 v0), (k0_dev31 v0) < nD := fun v0 k0_hw1 => k0_hw1.1.2.2.2.2.2.2.2.2.2.2.2.2.2.2.2.1
theorem k0_dev33_lt : ∀ (v0 : BitVec 32) (k0_hw1 : k0_chk1 v0), (k0_dev33 v0) < nD := fun v0 k0_hw1 => k0_hw1.1.2.2.2.2.2.2.2.2.2.2.2.2.2.2.2.2.1
theorem k0_dev35_lt : ∀ (v0 : BitVec 32) (k0_hw1 : k0_chk1 v0), (k0_dev35 v0) < nD := fun v0 k0_hw1 => k0_hw1.1.2.2.2.2.2.2.2.2.2.2.2.2.2.2.2.2.2.1
theorem k0_dev37_lt : ∀ (v0 : BitVec 32) (k0_hw1 : k0_chk1 v0), (k0_dev37 v0) < nD := fun v0 k0_hw1 => k0_hw1.1.2.2.2.2.2.2.2.2.2.2.2.2.2.2.2.2.2.2.1
theorem k0_dev39_lt : ∀ (v0 : BitVec 32) (k0_hw1 : k0_chk1 v0), (k0_dev39 v0) < nD := fun v0 k0_hw1 => k0_hw1.1.2.2.2.2.2.2.2.2.2.2.2.2.2.2.2.2.2.2.2.1
theorem k0_dev41_lt : ∀ (v0 : BitVec 32) (k0_hw1 : k0_chk1 v0), (k0_dev41 v0) < nD := fun v0 k0_hw1 => k0_hw1.1.2.2.2.2.2.2.2.2.2.2.2.2.2.2.2.2.2.2.2.2.1
theorem k0_dev43_lt : ∀ (v0 : BitVec 32) (k0_hw1 : k0_chk1 v0), (k0_dev43 v0) < nD := fun v0 k0_hw1 => k0_hw1.1.2.2.2.2.2.2.2.2.2.2.2.2.2.2.2.2.2.2.2.2.2.1
theorem k0_dev45_lt : ∀ (v0 : BitVec 32) (k0_hw1 : k0_chk1 v0), (k0_dev45 v0) < nD := fun v0 k0_hw1 => k0_hw1.1.2.2.2.2.2.2.2.2.2.2.2.2.2.2.2.2.2.2.2.2.2.2.1
theorem k0_dev47_lt : ∀ (v0 : BitVec 32) (k0_hw1 : k0_chk1 v0), (k0_dev47 v0) < nD := fun v0 k0_hw1 => k0_hw1.1.2.2.2.2.2.2.2.2.2.2.2.2.2.2.2.2.2.2.2.2.2.2.2.1
theorem k0_dev49_lt : ∀ (v0 : BitVec 32) (k0_hw1 : k0_chk1 v0), (k0_dev49 v0) < nD := fun v0 k0_hw1 => k0_hw1.1.2.2.2.2.2.2.2.2.2.2.2.2.2.2.2.2.2.2.2.2.2.2.2.2.1
theorem k0_dev51_lt : ∀ (v0 : BitVec 32) (k0_hw1 : k0_chk1 v0), (k0_dev51 v0) < nD := fun v0 k0_hw1 => k0_hw1.1.2.2.2.2.2.2.2.2.2.2.2.2.2.2.2.2.2.2.2.2.2.2.2.2.2.1
theorem k0_dev53_lt : ∀ (v0 : BitVec 32) (k0_hw1 : k0_chk1 v0), (k0_dev53 v0) < nD := fun v0 k0_hw1 => k0_hw1.1.2.2.2.2.2.2.2.2.2.2.2.2.2.2.2.2.2.2.2.2.2.2.2.2.2.2.1
theorem k0_dev55_lt : ∀ (v0 : BitVec 32) (k0_hw1 : k0_chk1 v0), (k0_dev55 v0) < nD := fun v0 k0_hw1 => k0_hw1.1.2.2.2.2.2.2.2.2.2.2.2.2.2.2.2.2.2.2.2.2.2.2.2.2.2.2.2.1
theorem k0_dev57_lt : ∀ (v0 : BitVec 32) (k0_hw1 : k0_chk1 v0), (k0_dev57 v0) < nD := fun v0 k0_hw1 => k0_hw1.1.2.2.2.2.2.2.2.2.2.2.2.2.2.2.2.2.2.2.2.2.2.2.2.2.2.2.2.2.1
theorem k0_dev59_lt : ∀ (v0 : BitVec 32) (k0_hw1 : k0_chk1 v0), (k0_dev59 v0) < nD := fun v0 k0_hw1 => k0_hw1.1.2.2.2.2.2.2.2.2.2.2.2.2.2.2.2.2.2.2.2.2.2.2.2.2.2.2.2.2.2.1
theorem k0_dev61_lt : ∀ (v0 : BitVec 32) (k0_hw1 : k0_chk1 v0), (k0_dev61 v0) < nD := fun v0 k0_hw1 => k0_hw1.1.2.2.2.2.2.2.2.2.2.2.2.2.2.2.2.2.2.2.2.2.2.2.2.2.2.2.2.2.2.2.1
theorem k0_dev63_lt : ∀ (v0 : BitVec 32) (k0_hw1 : k0_chk1 v0), (k0_dev63 v0) < nD := fun v0 k0_hw1 => k0_hw1.1.2.2.2.2.2.2.2.2.2.2.2.2.2.2.2.2.2.2.2.2.2.2.2.2.2.2.2.2.2.2.2
theorem k0_dev65_lt : ∀ (v0 : BitVec 32) (k0_hw1 : k0_chk1 v0), (k0_dev65 v0) < nD := fun v0 k0_hw1 => k0_hw1.2.1
theorem k0_dev67_lt : ∀ (v0 : BitVec 32) (k0_hw1 : k0_chk1 v0), (k0_dev67 v0) < nD := fun v0 k0_hw1 => k0_hw1.2.2.1
theorem k0_dev69_lt : ∀ (v0 : BitVec 32) (k0_hw1 : k0_chk1 v0), (k0_dev69 v0) < nD := fun v0 k0_hw1 => k0_hw1.2.2.2.1
theorem k0_dev71_lt : ∀ (v0 : BitVec 32) (k0_hw1 : k0_chk1 v0), (k0_dev71 v0) < nD := fun v0 k0_hw1 => k0_hw1.2.2.2.2.1
theorem k0_dev73_lt : ∀ (v0 : BitVec 32) (k0_hw1 : k0_chk1 v0), (k0_dev73 v0) < nD := fun v0 k0_hw1 => k0_hw1.2.2.2.2.2.1
theorem k0_dev75_lt : ∀ (v0 : BitVec 32) (k0_hw1 : k0_chk1 v0), (k0_dev75 v0) < nD := fun v0 k0_hw1 => k0_hw1.2.2.2.2.2.2.1
theorem k0_dev77_lt : ∀ (v0 : BitVec 32) (k0_hw1 : k0_chk1 v0), (k0_dev77 v0) < nD := fun v0 k0_hw1 => k0_hw1.2.2.2.2.2.2.2.1
theorem k0_dev79_lt : ∀ (v0 : BitVec 32) (k0_hw1 : k0_chk1 v0), (k0_dev79 v0) < nD := fun v0 k0_hw1 => k0_hw1.2.2.2.2.2.2.2.2.1
theorem k0_dev81_lt : ∀ (v0 : BitVec 32) (k0_hw1 : k0_chk1 v0), (k0_dev81 v0) < nD := fun v0 k0_hw1 => k0_hw1.2.2.2.2.2.2.2.2.2.1
theorem k0_dev83_lt : ∀ (v0 : BitVec 32) (k0_hw1 : k0_chk1 v0), (k0_dev83 v0) < nD := fun v0 k0_hw1 => k0_hw1.2.2.2.2.2.2.2.2.2.2.1
theorem k0_dev85_lt : ∀ (v0 : BitVec 32) (k0_hw1 : k0_chk1 v0), (k0_dev85 v0) < nD := fun v0 k0_hw1 => k0_hw1.2.2.2.2.2.2.2.2.2.2.2.1
theorem k0_dev87_lt : ∀ (v0 : BitVec 32) (k0_hw1 : k0_chk1 v0), (k0_dev87 v0) < nD := fun v0 k0_hw1 => k0_hw1.2.2.2.2.2.2.2.2.2.2.2.2.1
theorem k0_dev89_lt : ∀ (v0 : BitVec 32) (k0_hw1 : k0_chk1 v0), (k0_dev89 v0) < nD := fun v0 k0_hw1 => k0_hw1.2.2.2.2.2.2.2.2.2.2.2.2.2.1
theorem k0_dev91_lt : ∀ (v0 : BitVec 32) (k0_hw1 : k0_chk1 v0), (k0_dev91 v0) < nD := fun v0 k0_hw1 => k0_hw1.2.2.2.2.2.2.2.2.2.2.2.2.2.2.1
theorem k0_dev93_lt : ∀ (v0 : BitVec 32) (k0_hw1 : k0_chk1 v0), (k0_dev93 v0) < nD := fun v0 k0_hw1 => k0_hw1.2.2.2.2.2.2.2.2.2.2.2.2.2.2.2.1
theorem k0_dev95_lt : ∀ (v0 : BitVec 32) (k0_hw1 : k0_chk1 v0), (k0_dev95 v0) < nD := fun v0 k0_hw1 => k0_hw1.2.2.2.2.2.2.2.2.2.2.2.2.2.2.2.2.1
theorem k0_dev97_lt : ∀ (v0 : BitVec 32) (k0_hw1 : k0_chk1 v0), (k0_dev97 v0) < nD := fun v0 k0_hw1 => k0_hw1.2.2.2.2.2.2.2.2.2.2.2.2.2.2.2.2.2.1
theorem k0_dev99_lt : ∀ (v0 : BitVec 32) (k0_hw1 : k0_chk1 v0), (k0_dev99 v0) < nD := fun v0 k0_hw1 => k0_hw1.2.2.2.2.2.2.2.2.2.2.2.2.2.2.2.2.2.2.1
theorem k0_dev101_lt : ∀ (v0 : BitVec 32) (k0_hw1 : k0_chk1 v0), (k0_dev101 v0) < nD := fun v0 k0_hw1 => k0_hw1.2.2.2.2.2.2.2.2.2.2.2.2.2.2.2.2.2.2.2.1
theorem k0_dev103_lt : ∀ (v0 : BitVec 32) (k0_hw1 : k0_chk1 v0), (k0_dev103 v0) < nD := fun v0 k0_hw1 => k0_hw1.2.2.2.2.2.2.2.2.2.2.2.2.2.2.2.2.2.2.2.2.1
theorem k0_dev105_lt : ∀ (v0 : BitVec 32) (k0_hw1 : k0_chk1 v0), (k0_dev105 v0) < nD := fun v0 k0_hw1 => k0_hw1.2.2.2.2.2.2.2.2.2.2.2.2.2.2.2.2.2.2.2.2.2.1
theorem k0_dev107_lt : ∀ (v0 : BitVec 32) (k0_hw1 : k0_chk1 v0), (k0_dev107 v0) < nD := fun v0 k0_hw1 => k0_hw1.2.2.2.2.2.2.2.2.2.2.2.2.2.2.2.2.2.2.2.2.2.2.1
theorem k0_dev109_lt : ∀ (v0 : BitVec 32) (k0_hw1 : k0_chk1 v0), (k0_dev109 v0) < nD := fun v0 k0_hw1 => k0_hw1.2.2.2.2.2.2.2.2.2.2.2.2.2.2.2.2.2.2.2.2.2.2.2.1
theorem k0_dev111_lt : ∀ (v0 : BitVec 32) (k0_hw1 : k0_chk1 v0), (k0_dev111 v0) < nD := fun v0 k0_hw1 => k0_hw1.2.2.2.2.2.2.2.2.2.2.2.2.2.2.2.2.2.2.2.2.2.2.2.2.1
theorem k0_dev113_lt : ∀ (v0 : BitVec 32) (k0_hw1 : k0_chk1 v0), (k0_dev113 v0) < nD := fun v0 k0_hw1 => k0_hw1.2.2.2.2.2.2.2.2.2.2.2.2.2.2.2.2.2.2.2.2.2.2.2.2.2.1
theorem k0_dev115_lt : ∀ (v0 : BitVec 32) (k0_hw1 : k0_chk1 v0), (k0_dev115 v0) < nD := fun v0 k0_hw1 => k0_hw1.2.2.2.2.2.2.2.2.2.2.2.2.2.2.2.2.2.2.2.2.2.2.2.2.2.2.1
theorem k0_dev117_lt : ∀ (v0 : BitVec 32) (k0_hw1 : k0_chk1 v0), (k0_dev117 v0) < nD := fun v0 k0_hw1 => k0_hw1.2.2.2.2.2.2.2.2.2.2.2.2.2.2.2.2.2.2.2.2.2.2.2.2.2.2.2.1
theorem k0_dev119_lt : ∀ (v0 : BitVec 32) (k0_hw1 : k0_chk1 v0), (k0_dev119 v0) < nD := fun v0 k0_hw1 => k0_hw1.2.2.2.2.2.2.2.2.2.2.2.2.2.2.2.2.2.2.2.2.2.2.2.2.2.2.2.2.1
theorem k0_dev121_lt : ∀ (v0 : BitVec 32) (k0_hw1 : k0_chk1 v0), (k0_dev121 v0) < nD := fun v0 k0_hw1 => k0_hw1.2.2.2.2.2.2.2.2.2.2.2.2.2.2.2.2.2.2.2.2.2.2.2.2.2.2.2.2.2.1
theorem k0_dev123_lt : ∀ (v0 : BitVec 32) (k0_hw1 : k0_chk1 v0), (k0_dev123 v0) < nD := fun v0 k0_hw1 => k0_hw1.2.2.2.2.2.2.2.2.2.2.2.2.2.2.2.2.2.2.2.2.2.2.2.2.2.2.2.2.2.2.1
theorem k0_dev125_lt : ∀ (v0 : BitVec 32) (k0_hw1 : k0_chk1 v0), (k0_dev125 v0) < nD := fun v0 k0_hw1 => k0_hw1.2.2.2.2.2.2.2.2.2.2.2.2.2.2.2.2.2.2.2.2.2.2.2.2.2.2.2.2.2.2.2.1
theorem k0_dev158_lt : ∀ (v0 : BitVec 32) (k0_hw1 : k0_chk1 v0), (k0_dev158 v0) < nD := fun v0 k0_hw1 => k0_hw1.2.2.2.2.2.2.2.2.2.2.2.2.2.2.2.2.2.2.2.2.2.2.2.2.2.2.2.2.2.2.2.2

def k0_dev159 (v1 : BitVec 32) : Nat :=
  let c0_i32_7482_r0 : BitVec 32 := 0#32
  let c1_i32_7481_r0 : BitVec 32 := 1#32
  let v5362_r0 : BitVec 32 := Scalar.muli v1 c1_i32_7481_r0
  let v5363_r0 : BitVec 32 := Scalar.addi c0_i32_7482_r0 v5362_r0
  v5363_r0.toNat

def k0_chk2_0 (v1 : BitVec 32) : Prop :=
  ((k0_dev2 v1) < nD) ∧
  ((k0_dev4 v1) < nD) ∧
  ((k0_dev6 v1) < nD) ∧
  ((k0_dev8 v1) < nD) ∧
  ((k0_dev10 v1) < nD) ∧
  ((k0_dev12 v1) < nD) ∧
  ((k0_dev14 v1) < nD) ∧
  ((k0_dev16 v1) < nD) ∧
  ((k0_dev18 v1) < nD) ∧
  ((k0_dev20 v1) < nD) ∧
  ((k0_dev22 v1) < nD) ∧
  ((k0_dev24 v1) < nD) ∧
  ((k0_dev26 v1) < nD) ∧
  ((k0_dev28 v1) < nD) ∧
  ((k0_dev30 v1) < nD) ∧
  ((k0_dev32 v1) < nD) ∧
  ((k0_dev34 v1) < nD) ∧
  ((k0_dev36 v1) < nD) ∧
  ((k0_dev38 v1) < nD) ∧
  ((k0_dev40 v1) < nD) ∧
  ((k0_dev42 v1) < nD) ∧
  ((k0_dev44 v1) < nD) ∧
  ((k0_dev46 v1) < nD) ∧
  ((k0_dev48 v1) < nD) ∧
  ((k0_dev50 v1) < nD) ∧
  ((k0_dev52 v1) < nD) ∧
  ((k0_dev54 v1) < nD) ∧
  ((k0_dev56 v1) < nD) ∧
  ((k0_dev58 v1) < nD) ∧
  ((k0_dev60 v1) < nD) ∧
  ((k0_dev62 v1) < nD) ∧
  ((k0_dev64 v1) < nD)
def k0_chk2_1 (v1 : BitVec 32) : Prop :=
  ((k0_dev66 v1) < nD) ∧
  ((k0_dev68 v1) < nD) ∧
  ((k0_dev70 v1) < nD) ∧
  ((k0_dev72 v1) < nD) ∧
  ((k0_dev74 v1) < nD) ∧
  ((k0_dev76 v1) < nD) ∧
  ((k0_dev78 v1) < nD) ∧
  ((k0_dev80 v1) < nD) ∧
  ((k0_dev82 v1) < nD) ∧
  ((k0_dev84 v1) < nD) ∧
  ((k0_dev86 v1) < nD) ∧
  ((k0_dev88 v1) < nD) ∧
  ((k0_dev90 v1) < nD) ∧
  ((k0_dev92 v1) < nD) ∧
  ((k0_dev94 v1) < nD) ∧
  ((k0_dev96 v1) < nD) ∧
  ((k0_dev98 v1) < nD) ∧
  ((k0_dev100 v1) < nD) ∧
  ((k0_dev102 v1) < nD) ∧
  ((k0_dev104 v1) < nD) ∧
  ((k0_dev106 v1) < nD) ∧
  ((k0_dev108 v1) < nD) ∧
  ((k0_dev110 v1) < nD) ∧
  ((k0_dev112 v1) < nD) ∧
  ((k0_dev114 v1) < nD) ∧
  ((k0_dev116 v1) < nD) ∧
  ((k0_dev118 v1) < nD) ∧
  ((k0_dev120 v1) < nD) ∧
  ((k0_dev122 v1) < nD) ∧
  ((k0_dev124 v1) < nD) ∧
  ((k0_dev126 v1) < nD) ∧
  ((k0_dev159 v1) < nD)
def k0_chk2 (v1 : BitVec 32) : Prop :=
  k0_chk2_0 v1 ∧
  k0_chk2_1 v1
theorem k0_dev2_lt : ∀ (v1 : BitVec 32) (k0_hw2 : k0_chk2 v1), (k0_dev2 v1) < nD := fun v1 k0_hw2 => k0_hw2.1.1
theorem k0_dev4_lt : ∀ (v1 : BitVec 32) (k0_hw2 : k0_chk2 v1), (k0_dev4 v1) < nD := fun v1 k0_hw2 => k0_hw2.1.2.1
theorem k0_dev6_lt : ∀ (v1 : BitVec 32) (k0_hw2 : k0_chk2 v1), (k0_dev6 v1) < nD := fun v1 k0_hw2 => k0_hw2.1.2.2.1
theorem k0_dev8_lt : ∀ (v1 : BitVec 32) (k0_hw2 : k0_chk2 v1), (k0_dev8 v1) < nD := fun v1 k0_hw2 => k0_hw2.1.2.2.2.1
theorem k0_dev10_lt : ∀ (v1 : BitVec 32) (k0_hw2 : k0_chk2 v1), (k0_dev10 v1) < nD := fun v1 k0_hw2 => k0_hw2.1.2.2.2.2.1
theorem k0_dev12_lt : ∀ (v1 : BitVec 32) (k0_hw2 : k0_chk2 v1), (k0_dev12 v1) < nD := fun v1 k0_hw2 => k0_hw2.1.2.2.2.2.2.1
theorem k0_dev14_lt : ∀ (v1 : BitVec 32) (k0_hw2 : k0_chk2 v1), (k0_dev14 v1) < nD := fun v1 k0_hw2 => k0_hw2.1.2.2.2.2.2.2.1
theorem k0_dev16_lt : ∀ (v1 : BitVec 32) (k0_hw2 : k0_chk2 v1), (k0_dev16 v1) < nD := fun v1 k0_hw2 => k0_hw2.1.2.2.2.2.2.2.2.1
theorem k0_dev18_lt : ∀ (v1 : BitVec 32) (k0_hw2 : k0_chk2 v1), (k0_dev18 v1) < nD := fun v1 k0_hw2 => k0_hw2.1.2.2.2.2.2.2.2.2.1
theorem k0_dev20_lt : ∀ (v1 : BitVec 32) (k0_hw2 : k0_chk2 v1), (k0_dev20 v1) < nD := fun v1 k0_hw2 => k0_hw2.1.2.2.2.2.2.2.2.2.2.1
theorem k0_dev22_lt : ∀ (v1 : BitVec 32) (k0_hw2 : k0_chk2 v1), (k0_dev22 v1) < nD := fun v1 k0_hw2 => k0_hw2.1.2.2.2.2.2.2.2.2.2.2.1
theorem k0_dev24_lt : ∀ (v1 : BitVec 32) (k0_hw2 : k0_chk2 v1), (k0_dev24 v1) < nD := fun v1 k0_hw2 => k0_hw2.1.2.2.2.2.2.2.2.2.2.2.2.1
theorem k0_dev26_lt : ∀ (v1 : BitVec 32) (k0_hw2 : k0_chk2 v1), (k0_dev26 v1) < nD := fun v1 k0_hw2 => k0_hw2.1.2.2.2.2.2.2.2.2.2.2.2.2.1
theorem k0_dev28_lt : ∀ (v1 : BitVec 32) (k0_hw2 : k0_chk2 v1), (k0_dev28 v1) < nD := fun v1 k0_hw2 => k0_hw2.1.2.2.2.2.2.2.2.2.2.2.2.2.2.1
theorem k0_dev30_lt : ∀ (v1 : BitVec 32) (k0_hw2 : k0_chk2 v1), (k0_dev30 v1) < nD := fun v1 k0_hw2 => k0_hw2.1.2.2.2.2.2.2.2.2.2.2.2.2.2.2.1
theorem k0_dev32_lt : ∀ (v1 : BitVec 32) (k0_hw2 : k0_chk2 v1), (k0_dev32 v1) < nD := fun v1 k0_hw2 => k0_hw2.1.2.2.2.2.2.2.2.2.2.2.2.2.2.2.2.1
theorem k0_dev34_lt : ∀ (v1 : BitVec 32) (k0_hw2 : k0_chk2 v1), (k0_dev34 v1) < nD := fun v1 k0_hw2 => k0_hw2.1.2.2.2.2.2.2.2.2.2.2.2.2.2.2.2.2.1
theorem k0_dev36_lt : ∀ (v1 : BitVec 32) (k0_hw2 : k0_chk2 v1), (k0_dev36 v1) < nD := fun v1 k0_hw2 => k0_hw2.1.2.2.2.2.2.2.2.2.2.2.2.2.2.2.2.2.2.1
theorem k0_dev38_lt : ∀ (v1 : BitVec 32) (k0_hw2 : k0_chk2 v1), (k0_dev38 v1) < nD := fun v1 k0_hw2 => k0_hw2.1.2.2.2.2.2.2.2.2.2.2.2.2.2.2.2.2.2.2.1
theorem k0_dev40_lt : ∀ (v1 : BitVec 32) (k0_hw2 : k0_chk2 v1), (k0_dev40 v1) < nD := fun v1 k0_hw2 => k0_hw2.1.2.2.2.2.2.2.2.2.2.2.2.2.2.2.2.2.2.2.2.1
theorem k0_dev42_lt : ∀ (v1 : BitVec 32) (k0_hw2 : k0_chk2 v1), (k0_dev42 v1) < nD := fun v1 k0_hw2 => k0_hw2.1.2.2.2.2.2.2.2.2.2.2.2.2.2.2.2.2.2.2.2.2.1
theorem k0_dev44_lt : ∀ (v1 : BitVec 32) (k0_hw2 : k0_chk2 v1), (k0_dev44 v1) < nD := fun v1 k0_hw2 => k0_hw2.1.2.2.2.2.2.2.2.2.2.2.2.2.2.2.2.2.2.2.2.2.2.1
theorem k0_dev46_lt : ∀ (v1 : BitVec 32) (k0_hw2 : k0_chk2 v1), (k0_dev46 v1) < nD := fun v1 k0_hw2 => k0_hw2.1.2.2.2.2.2.2.2.2.2.2.2.2.2.2.2.2.2.2.2.2.2.2.1
theorem k0_dev48_lt : ∀ (v1 : BitVec 32) (k0_hw2 : k0_chk2 v1), (k0_dev48 v1) < nD := fun v1 k0_hw2 => k0_hw2.1.2.2.2.2.2.2.2.2.2.2.2.2.2.2.2.2.2.2.2.2.2.2.2.1
theorem k0_dev50_lt : ∀ (v1 : BitVec 32) (k0_hw2 : k0_chk2 v1), (k0_dev50 v1) < nD := fun v1 k0_hw2 => k0_hw2.1.2.2.2.2.2.2.2.2.2.2.2.2.2.2.2.2.2.2.2.2.2.2.2.2.1
theorem k0_dev52_lt : ∀ (v1 : BitVec 32) (k0_hw2 : k0_chk2 v1), (k0_dev52 v1) < nD := fun v1 k0_hw2 => k0_hw2.1.2.2.2.2.2.2.2.2.2.2.2.2.2.2.2.2.2.2.2.2.2.2.2.2.2.1
theorem k0_dev54_lt : ∀ (v1 : BitVec 32) (k0_hw2 : k0_chk2 v1), (k0_dev54 v1) < nD := fun v1 k0_hw2 => k0_hw2.1.2.2.2.2.2.2.2.2.2.2.2.2.2.2.2.2.2.2.2.2.2.2.2.2.2.2.1
theorem k0_dev56_lt : ∀ (v1 : BitVec 32) (k0_hw2 : k0_chk2 v1), (k0_dev56 v1) < nD := fun v1 k0_hw2 => k0_hw2.1.2.2.2.2.2.2.2.2.2.2.2.2.2.2.2.2.2.2.2.2.2.2.2.2.2.2.2.1
theorem k0_dev58_lt : ∀ (v1 : BitVec 32) (k0_hw2 : k0_chk2 v1), (k0_dev58 v1) < nD := fun v1 k0_hw2 => k0_hw2.1.2.2.2.2.2.2.2.2.2.2.2.2.2.2.2.2.2.2.2.2.2.2.2.2.2.2.2.2.1
theorem k0_dev60_lt : ∀ (v1 : BitVec 32) (k0_hw2 : k0_chk2 v1), (k0_dev60 v1) < nD := fun v1 k0_hw2 => k0_hw2.1.2.2.2.2.2.2.2.2.2.2.2.2.2.2.2.2.2.2.2.2.2.2.2.2.2.2.2.2.2.1
theorem k0_dev62_lt : ∀ (v1 : BitVec 32) (k0_hw2 : k0_chk2 v1), (k0_dev62 v1) < nD := fun v1 k0_hw2 => k0_hw2.1.2.2.2.2.2.2.2.2.2.2.2.2.2.2.2.2.2.2.2.2.2.2.2.2.2.2.2.2.2.2.1
theorem k0_dev64_lt : ∀ (v1 : BitVec 32) (k0_hw2 : k0_chk2 v1), (k0_dev64 v1) < nD := fun v1 k0_hw2 => k0_hw2.1.2.2.2.2.2.2.2.2.2.2.2.2.2.2.2.2.2.2.2.2.2.2.2.2.2.2.2.2.2.2.2
theorem k0_dev66_lt : ∀ (v1 : BitVec 32) (k0_hw2 : k0_chk2 v1), (k0_dev66 v1) < nD := fun v1 k0_hw2 => k0_hw2.2.1
theorem k0_dev68_lt : ∀ (v1 : BitVec 32) (k0_hw2 : k0_chk2 v1), (k0_dev68 v1) < nD := fun v1 k0_hw2 => k0_hw2.2.2.1
theorem k0_dev70_lt : ∀ (v1 : BitVec 32) (k0_hw2 : k0_chk2 v1), (k0_dev70 v1) < nD := fun v1 k0_hw2 => k0_hw2.2.2.2.1
theorem k0_dev72_lt : ∀ (v1 : BitVec 32) (k0_hw2 : k0_chk2 v1), (k0_dev72 v1) < nD := fun v1 k0_hw2 => k0_hw2.2.2.2.2.1
theorem k0_dev74_lt : ∀ (v1 : BitVec 32) (k0_hw2 : k0_chk2 v1), (k0_dev74 v1) < nD := fun v1 k0_hw2 => k0_hw2.2.2.2.2.2.1
theorem k0_dev76_lt : ∀ (v1 : BitVec 32) (k0_hw2 : k0_chk2 v1), (k0_dev76 v1) < nD := fun v1 k0_hw2 => k0_hw2.2.2.2.2.2.2.1
theorem k0_dev78_lt : ∀ (v1 : BitVec 32) (k0_hw2 : k0_chk2 v1), (k0_dev78 v1) < nD := fun v1 k0_hw2 => k0_hw2.2.2.2.2.2.2.2.1
theorem k0_dev80_lt : ∀ (v1 : BitVec 32) (k0_hw2 : k0_chk2 v1), (k0_dev80 v1) < nD := fun v1 k0_hw2 => k0_hw2.2.2.2.2.2.2.2.2.1
theorem k0_dev82_lt : ∀ (v1 : BitVec 32) (k0_hw2 : k0_chk2 v1), (k0_dev82 v1) < nD := fun v1 k0_hw2 => k0_hw2.2.2.2.2.2.2.2.2.2.1
theorem k0_dev84_lt : ∀ (v1 : BitVec 32) (k0_hw2 : k0_chk2 v1), (k0_dev84 v1) < nD := fun v1 k0_hw2 => k0_hw2.2.2.2.2.2.2.2.2.2.2.1
theorem k0_dev86_lt : ∀ (v1 : BitVec 32) (k0_hw2 : k0_chk2 v1), (k0_dev86 v1) < nD := fun v1 k0_hw2 => k0_hw2.2.2.2.2.2.2.2.2.2.2.2.1
theorem k0_dev88_lt : ∀ (v1 : BitVec 32) (k0_hw2 : k0_chk2 v1), (k0_dev88 v1) < nD := fun v1 k0_hw2 => k0_hw2.2.2.2.2.2.2.2.2.2.2.2.2.1
theorem k0_dev90_lt : ∀ (v1 : BitVec 32) (k0_hw2 : k0_chk2 v1), (k0_dev90 v1) < nD := fun v1 k0_hw2 => k0_hw2.2.2.2.2.2.2.2.2.2.2.2.2.2.1
theorem k0_dev92_lt : ∀ (v1 : BitVec 32) (k0_hw2 : k0_chk2 v1), (k0_dev92 v1) < nD := fun v1 k0_hw2 => k0_hw2.2.2.2.2.2.2.2.2.2.2.2.2.2.2.1
theorem k0_dev94_lt : ∀ (v1 : BitVec 32) (k0_hw2 : k0_chk2 v1), (k0_dev94 v1) < nD := fun v1 k0_hw2 => k0_hw2.2.2.2.2.2.2.2.2.2.2.2.2.2.2.2.1
theorem k0_dev96_lt : ∀ (v1 : BitVec 32) (k0_hw2 : k0_chk2 v1), (k0_dev96 v1) < nD := fun v1 k0_hw2 => k0_hw2.2.2.2.2.2.2.2.2.2.2.2.2.2.2.2.2.1
theorem k0_dev98_lt : ∀ (v1 : BitVec 32) (k0_hw2 : k0_chk2 v1), (k0_dev98 v1) < nD := fun v1 k0_hw2 => k0_hw2.2.2.2.2.2.2.2.2.2.2.2.2.2.2.2.2.2.1
theorem k0_dev100_lt : ∀ (v1 : BitVec 32) (k0_hw2 : k0_chk2 v1), (k0_dev100 v1) < nD := fun v1 k0_hw2 => k0_hw2.2.2.2.2.2.2.2.2.2.2.2.2.2.2.2.2.2.2.1
theorem k0_dev102_lt : ∀ (v1 : BitVec 32) (k0_hw2 : k0_chk2 v1), (k0_dev102 v1) < nD := fun v1 k0_hw2 => k0_hw2.2.2.2.2.2.2.2.2.2.2.2.2.2.2.2.2.2.2.2.1
theorem k0_dev104_lt : ∀ (v1 : BitVec 32) (k0_hw2 : k0_chk2 v1), (k0_dev104 v1) < nD := fun v1 k0_hw2 => k0_hw2.2.2.2.2.2.2.2.2.2.2.2.2.2.2.2.2.2.2.2.2.1
theorem k0_dev106_lt : ∀ (v1 : BitVec 32) (k0_hw2 : k0_chk2 v1), (k0_dev106 v1) < nD := fun v1 k0_hw2 => k0_hw2.2.2.2.2.2.2.2.2.2.2.2.2.2.2.2.2.2.2.2.2.2.1
theorem k0_dev108_lt : ∀ (v1 : BitVec 32) (k0_hw2 : k0_chk2 v1), (k0_dev108 v1) < nD := fun v1 k0_hw2 => k0_hw2.2.2.2.2.2.2.2.2.2.2.2.2.2.2.2.2.2.2.2.2.2.2.1
theorem k0_dev110_lt : ∀ (v1 : BitVec 32) (k0_hw2 : k0_chk2 v1), (k0_dev110 v1) < nD := fun v1 k0_hw2 => k0_hw2.2.2.2.2.2.2.2.2.2.2.2.2.2.2.2.2.2.2.2.2.2.2.2.1
theorem k0_dev112_lt : ∀ (v1 : BitVec 32) (k0_hw2 : k0_chk2 v1), (k0_dev112 v1) < nD := fun v1 k0_hw2 => k0_hw2.2.2.2.2.2.2.2.2.2.2.2.2.2.2.2.2.2.2.2.2.2.2.2.2.1
theorem k0_dev114_lt : ∀ (v1 : BitVec 32) (k0_hw2 : k0_chk2 v1), (k0_dev114 v1) < nD := fun v1 k0_hw2 => k0_hw2.2.2.2.2.2.2.2.2.2.2.2.2.2.2.2.2.2.2.2.2.2.2.2.2.2.1
theorem k0_dev116_lt : ∀ (v1 : BitVec 32) (k0_hw2 : k0_chk2 v1), (k0_dev116 v1) < nD := fun v1 k0_hw2 => k0_hw2.2.2.2.2.2.2.2.2.2.2.2.2.2.2.2.2.2.2.2.2.2.2.2.2.2.2.1
theorem k0_dev118_lt : ∀ (v1 : BitVec 32) (k0_hw2 : k0_chk2 v1), (k0_dev118 v1) < nD := fun v1 k0_hw2 => k0_hw2.2.2.2.2.2.2.2.2.2.2.2.2.2.2.2.2.2.2.2.2.2.2.2.2.2.2.2.1
theorem k0_dev120_lt : ∀ (v1 : BitVec 32) (k0_hw2 : k0_chk2 v1), (k0_dev120 v1) < nD := fun v1 k0_hw2 => k0_hw2.2.2.2.2.2.2.2.2.2.2.2.2.2.2.2.2.2.2.2.2.2.2.2.2.2.2.2.2.1
theorem k0_dev122_lt : ∀ (v1 : BitVec 32) (k0_hw2 : k0_chk2 v1), (k0_dev122 v1) < nD := fun v1 k0_hw2 => k0_hw2.2.2.2.2.2.2.2.2.2.2.2.2.2.2.2.2.2.2.2.2.2.2.2.2.2.2.2.2.2.1
theorem k0_dev124_lt : ∀ (v1 : BitVec 32) (k0_hw2 : k0_chk2 v1), (k0_dev124 v1) < nD := fun v1 k0_hw2 => k0_hw2.2.2.2.2.2.2.2.2.2.2.2.2.2.2.2.2.2.2.2.2.2.2.2.2.2.2.2.2.2.2.1
theorem k0_dev126_lt : ∀ (v1 : BitVec 32) (k0_hw2 : k0_chk2 v1), (k0_dev126 v1) < nD := fun v1 k0_hw2 => k0_hw2.2.2.2.2.2.2.2.2.2.2.2.2.2.2.2.2.2.2.2.2.2.2.2.2.2.2.2.2.2.2.2.1
theorem k0_dev159_lt : ∀ (v1 : BitVec 32) (k0_hw2 : k0_chk2 v1), (k0_dev159 v1) < nD := fun v1 k0_hw2 => k0_hw2.2.2.2.2.2.2.2.2.2.2.2.2.2.2.2.2.2.2.2.2.2.2.2.2.2.2.2.2.2.2.2.2

abbrev stage0_0 : Fin 1 → Memref sig .tc .smem S32 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S32 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S7 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S128x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S128x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S1x4096x2048 : Shape := ⟨3, ![1, 4096, 2048]⟩
abbrev S1 : Shape := ⟨1, ![1]⟩
abbrev S1x1x1 : Shape := ⟨3, ![1, 1, 1]⟩

abbrev nBuf : Space → Nat
  | .hbm => 4
  | .vmem => 2
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S4096x2048, .f32⟩
  | .hbm, ⟨3, _⟩ => ⟨S4096x2048, .f32⟩
  | .local _ .vmem, ⟨0, _⟩ => ⟨S4096x2048, .f32⟩
  | .local _ .vmem, ⟨1, _⟩ => ⟨S4096x2048, .f32⟩
  | _, _ => ⟨S4096x4096, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S4096x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.Kernel.LoopEq.lean ====
module

public import proofs.«01_k».proof.Proof.Kernel.Loop

@[expose] public section

set_option maxRecDepth 1000000
set_option maxHeartbeats 40000000

noncomputable section

namespace Cert.Kernel.Loop

open Idealize.ShloMosaic Idealize.SL.Sem
open Cert.Kernel
open Cert.Kernel.Facts₀ Cert.Kernel.Facts

variable {F : FTy → Type} [FloatOps F]
variable (arg0 : Memref sig .tc .smem S32 .i32) (h0 : arg0.IsWhole) (arg1 : Memref sig .tc .smem S32 .i32) (h1 : arg1.IsWhole) (arg2 : Memref sig .tc .smem S7 .i32) (h2 : arg2.IsWhole) (arg3 : Memref sig .tc .vmem S4096x128 .f32) (h3 : arg3.IsWhole) (arg4 : Memref sig .tc .vmem S128x2048 .f32) (h4 : arg4.IsWhole) (arg5 : Memref sig .tc .vmem S128x2048 .f32) (h5 : arg5.IsWhole) (arg6 : Memref sig .tc .vmem S8x128 .f32) (h6 : arg6.IsWhole) (arg7 : Memref sig .tc .vmem S4x32x128x512 .f32) (h7 : arg7.IsWhole) (arg8 : DmaSems sig S4x32) (arg9 : DmaSems sig S4x32) (arg10 : Memref sig .tc .vmem S1x8x128 .f32) (h10 : arg10.IsWhole) (arg11 : Memref sig .tc .vmem S32x8x128 .f32) (h11 : arg11.IsWhole) (arg12 : DmaSems sig S32) (arg13 : DmaSems sig S32) (bar2 : Sems sig S_)

/-- Two programs that make the same request and go on alike are the same program. -/
theorem op_congr {α β : Type} {e : TpuEff nD τ sig (Elt F) Λ₀ .tc β}
    {k k' : β → TcProg F α} (h : ∀ x, k x = k' x) : Prog.op e k = Prog.op e k' :=
  congrArg _ (funext h)

/-- The printed body is the body over loops: the same operations in the same order. -/
theorem body_eq :
    cc0_body (F := F) arg0 h0 arg1 h1 arg2 h2 arg3 h3 arg4 h4 arg5 h5 arg6 h6 arg7 h7 arg8 arg9 arg10 h10 arg11 h11 arg12 arg13 bar2
    = body arg0 arg1 arg2 arg3 arg4 arg5 arg6 arg7 arg8 arg9 arg10 arg11 arg12 arg13 bar2 := by
  repeat refine op_congr fun _ => ?_
  rfl

end Cert.Kernel.Loop
-- ==== Proof.KernelIdeal.Loop.lean ====
module

public import proofs.«01_k».proof.Proof.Gen.KernelIdeal

@[expose] public section

noncomputable section

namespace Cert.KernelIdeal.Loop

open Idealize.ShloMosaic Idealize.SL.Sem
open Cert.KernelIdeal
open Cert.KernelIdeal.Facts₀ Cert.KernelIdeal.Facts

variable {F : FTy → Type} [FloatOps F]

/-- Programs of the kernel's body on a TensorCore. -/
abbrev TcProg (F : FTy → Type) (α : Type) := Prog (TpuEff nD τ sig (Elt F) Λ₀ .tc) α

/-! ## Rectangles at an index -/

theorem inbSlot (s : Fin 4) (h : Fin 32) :
    ∀ a, (![s.val, h.val, 0, 0] : Fin 4 → ℕ) a + S1x1x128x512.size a ≤ S4x32x128x512.size a := by
  intro a; have := s.isLt; have := h.isLt
  fin_cases a <;> simp [S1x1x128x512, S4x32x128x512] <;> omega

theorem inbSem (s : Fin 4) (h : Fin 32) :
    ∀ a, (![s.val, h.val] : Fin 2 → ℕ) a + S1x1.size a ≤ S4x32.size a := by
  intro a; have := s.isLt; have := h.isLt
  fin_cases a <;> simp [S1x1, S4x32] <;> omega

theorem inbBf (j : Fin 32) :
    ∀ a, (![j.val, 0, 0] : Fin 3 → ℕ) a + S1x8x128.size a ≤ S32x8x128.size a := by
  intro a; have := j.isLt
  fin_cases a <;> simp [S1x8x128, S32x8x128] <;> omega

theorem inbBfSem (j : Fin 32) :
    ∀ a, (![j.val] : Fin 1 → ℕ) a + S1.size a ≤ S32.size a := by
  intro a; have := j.isLt
  fin_cases a; simp [S1, S32]; omega

theorem inbTab (h : Fin 32) : ∀ a, (![h.val] : Fin 1 → ℕ) a + S1.size a ≤ S32.size a := inbBfSem h

/-- The column at which stream `s` works. -/
def colOf : Fin 4 → ℕ
  | 0 => 0
  | 1 => 1024
  | 2 => 512
  | 3 => 1536

theorem inbOut (s : Fin 4) :
    ∀ a, (![0, colOf s] : Fin 2 → ℕ) a + S128x512.size a ≤ S128x2048.size a := by
  intro a; fin_cases s <;> fin_cases a <;> simp [S128x512, S128x2048, colOf]

/-- The rectangle of slot `(s, h)` in the array of slots. -/
abbrev slotRect (s : Fin 4) (h : Fin 32) : Rect S4x32x128x512 :=
  Rect.unit (s := S4x32x128x512) ![s.val, h.val, 0, 0] S1x1x128x512.size (inbSlot s h)

/-- The rectangle of slot `j` in the array of received maxima. -/
abbrev bfRect (j : Fin 32) : Rect S32x8x128 :=
  Rect.unit (s := S32x8x128) ![j.val, 0, 0] S1x8x128.size (inbBf j)

/-- The rectangle of stream `s`'s columns in the result. -/
abbrev outRect (s : Fin 4) : Rect S128x2048 :=
  Rect.unit (s := S128x2048) ![0, colOf s] S128x512.size (inbOut s)

/-! ## Views -/

/-- Slot `(s, h)` as the copies address it. -/
abbrev slotM (arg7 : Memref sig .tc .vmem S4x32x128x512 .f32) (s : Fin 4) (h : Fin 32) :
    Memref sig .tc .vmem S128x512 .f32 :=
  (arg7.slice (slotRect s h) (fun _ => rfl)).squeeze S128x512 squeezes_S1x1x128x512_S128x512

/-- Semaphore `(s, h)` of a 4 × 32 array of semaphores. -/
abbrev semM (a : DmaSems sig S4x32) (s : Fin 4) (h : Fin 32) : DmaSems sig S_ :=
  (a.slice (Rect.unit (s := S4x32) ![s.val, h.val] S1x1.size (inbSem s h))).squeeze S_ squeezes_S1x1_S_

/-- Slot `j` of the received maxima as the copies address it. -/
abbrev bfM (arg11 : Memref sig .tc .vmem S32x8x128 .f32) (j : Fin 32) : Memref sig .tc .vmem S8x128 .f32 :=
  (arg11.slice (bfRect j) (fun _ => rfl)).squeeze S8x128 squeezes_S1x8x128_S8x128

/-- The sent maximum as the copies address it. -/
abbrev bfSrcM (arg10 : Memref sig .tc .vmem S1x8x128 .f32) : Memref sig .tc .vmem S8x128 .f32 :=
  (arg10.slice (Rect.unit (s := S1x8x128) ![0, 0, 0] S1x8x128.size inb_S1x8x128_S1x8x128_0_0_0)
    (fun _ => rfl)).squeeze S8x128 squeezes_S1x8x128_S8x128

/-- Semaphore `j` of an array of 32 semaphores. -/
abbrev bfSemM (a : DmaSems sig S32) (j : Fin 32) : DmaSems sig S_ :=
  (a.slice (Rect.unit (s := S32) ![j.val] S1.size (inbBfSem j))).squeeze S_ squeezes_S1_S_

/-! ## The steps -/

/-- One product: rows of `x` against columns of `w`, from zero. -/
def prod (x : Vec F S128x128 .f32) (w : Vec F S128x1024 .f32) : FVec F S128x1024 .f32 :=
  matmul dot_S128x128_S128x1024_S128x1024_1_0_0_1_n_n (some .fp32) (shapeCast S128x128 x shapeCasts_S128x128_S128x128) (shapeCast S128x1024 w shapeCasts_S128x1024_S128x1024) (constant S128x1024 .f32 0x00000000#32)

section steps
variable (arg0 : Memref sig .tc .smem S32 .i32) (arg1 : Memref sig .tc .smem S32 .i32) (arg2 : Memref sig .tc .smem S7 .i32) (arg3 : Memref sig .tc .vmem S4096x128 .f32) (arg4 : Memref sig .tc .vmem S128x2048 .f32) (arg5 : Memref sig .tc .vmem S128x2048 .f32) (arg6 : Memref sig .tc .vmem S8x128 .f32) (arg7 : Memref sig .tc .vmem S4x32x128x512 .f32) (arg8 : DmaSems sig S4x32) (arg9 : DmaSems sig S4x32) (arg10 : Memref sig .tc .vmem S1x8x128 .f32) (arg11 : Memref sig .tc .vmem S32x8x128 .f32) (arg12 : DmaSems sig S32) (arg13 : DmaSems sig S32) (bar2 : Sems sig S_)

/-- The two products of one hop: the rows of `x` the two tables name, against the two halves of `w`. -/
def gemms (h : Fin 32) : TcProg F (FVec F S128x1024 .f32 × FVec F S128x1024 .f32) := do
  let of : Elt F .i32 ← smemLoad arg0 (Rect.unit (s := S32) ![h.val] S1.size (inbTab h)) numel1_S1 rfl
  have hof : k0_chk3 of := (← Prog.lift (TpuEff.assume (k0_chk3 of) (k0_chk3.dec of))).down
  let ob : Elt F .i32 ← smemLoad arg1 (Rect.unit (s := S32) ![h.val] S1.size (inbTab h)) numel1_S1 rfl
  have hob : k0_chk4 ob := (← Prog.lift (TpuEff.assume (k0_chk4 ob) (k0_chk4.dec ob))).down
  let xf : Vec F S128x128 .f32 ← Prog.lift (.load arg3 (Rect.unit (s := S4096x128) (k0_off1 of) S128x128.size (k0_off1_inb of hof)).toLoadRect (View.loadsAt_vmem h_S128x128))
  let wf : Vec F S128x1024 .f32 ← Prog.lift (.load arg4 (Rect.unit (s := S128x2048) ![0, 0] S128x1024.size inb_S128x2048_S128x1024_0_0).toLoadRect (View.loadsAt_vmem h_S128x1024))
  let xb : Vec F S128x128 .f32 ← Prog.lift (.load arg3 (Rect.unit (s := S4096x128) (k0_off2 ob) S128x128.size (k0_off2_inb ob hob)).toLoadRect (View.loadsAt_vmem h_S128x128))
  let wb : Vec F S128x1024 .f32 ← Prog.lift (.load arg4 (Rect.unit (s := S128x2048) ![0, 1024] S128x1024.size inb_S128x2048_S128x1024_0_1024).toLoadRect (View.loadsAt_vmem h_S128x1024))
  pure (prod xf wf, prod xb wb)

/-- The slice of the two products stream `s` works on. -/
def partOf (s : Fin 4) (p : FVec F S128x1024 .f32 × FVec F S128x1024 .f32) : FVec F S128x512 .f32 :=
  match s with
  | 0 => extractStridedSlice S128x512 ![0, 0] p.1 slices_S128x1024_o0_0_S128x512
  | 1 => extractStridedSlice S128x512 ![0, 0] p.2 slices_S128x1024_o0_0_S128x512
  | 2 => extractStridedSlice S128x512 ![0, 512] p.1 slices_S128x1024_o0_512_S128x512
  | 3 => extractStridedSlice S128x512 ![0, 512] p.2 slices_S128x1024_o0_512_S128x512

/-- Stream `s` starts: its slice is written to slot `(s, 0)`. -/
def putFirst (s : Fin 4) (part : FVec F S128x512 .f32) : TcProg F PUnit := do
  let _ : Vec F S1x1x128x512 .f32 ← Prog.lift (.load arg7 (slotRect s 0).toLoadRect (View.loadsAt_vmem h_S1x1x128x512))
  Prog.lift (.store arg7 (slotRect s 0) (shapeCast S1x1x128x512 part shapeCasts_S128x512_S1x1x128x512) Finset.univ (View.stores_vmem_bits_univ h_S1x1x128x512 rfl) (.inl rfl))

/-- The wait for the block that arrives in slot `(s, h)`. -/
def waitSlot (s : Fin 4) (h : Fin 32) : TcProg F PUnit :=
  Prog.lift (.waitDma2 (semM arg9 s h).sem (slotM arg7 s h) (slotM arg7 s h) ((View.wordExact_bits rfl).reshape _ _) ((View.wordExact_bits rfl).reshape _ _))

/-- The block in slot `(s, h)` becomes the arrived one plus the stream's slice. -/
def addSlot (s : Fin 4) (h : Fin 32) (part : FVec F S128x512 .f32) : TcProg F PUnit := do
  let v : Vec F S1x1x128x512 .f32 ← Prog.lift (.load arg7 (slotRect s h).toLoadRect (View.loadsAt_vmem h_S1x1x128x512))
  let _ : Vec F S1x1x128x512 .f32 ← Prog.lift (.load arg7 (slotRect s h).toLoadRect (View.loadsAt_vmem h_S1x1x128x512))
  Prog.lift (.store arg7 (slotRect s h) (shapeCast S1x1x128x512 (addf (shapeCast S128x512 v shapeCasts_S1x1x128x512_S128x512) part) shapeCasts_S128x512_S1x1x128x512) Finset.univ (View.stores_vmem_bits_univ h_S1x1x128x512 rfl) (.inl rfl))

/-- The last block of stream `s`, plus the stream's slice, is written to the result's columns. -/
def addOut (s : Fin 4) (part : FVec F S128x512 .f32) : TcProg F PUnit := do
  let v : Vec F S1x1x128x512 .f32 ← Prog.lift (.load arg7 (slotRect s 31).toLoadRect (View.loadsAt_vmem h_S1x1x128x512))
  let _ : Vec F S128x512 .f32 ← Prog.lift (.load arg5 (outRect s).toLoadRect (View.loadsAt_vmem h_S128x512))
  Prog.lift (.store arg5 (outRect s) (addf (shapeCast S128x512 v shapeCasts_S1x1x128x512_S128x512) part) Finset.univ (View.stores_vmem_bits_univ h_S128x512 rfl) (.inl rfl))

/-- The remote copy of slot `(s, h)` to the next slot of device `dst`. -/
def sendSlot (s : Fin 4) (h h' : Fin 32) (dst : Dev nD) : TcProg F PUnit :=
  Prog.lift (.enqueueDma (slotM arg7 s h) (.remote (Dev.tc dst) (slotM arg7 s h') (.dma (semM arg8 s h).sem)) (.dma (semM arg9 s h').sem) ((View.wordExact_bits rfl).reshape _ _) ((View.wordExact_bits rfl).reshape _ _) ⟨⟨rfl, Or.inl rfl⟩, trivial⟩)

/-- The wait for the end of the copy out of slot `(s, h)`. -/
def waitSent (s : Fin 4) (h h' : Fin 32) : TcProg F PUnit :=
  Prog.lift (.waitDma2 (semM arg8 s h).sem (slotM arg7 s h') (slotM arg7 s h) ((View.wordExact_bits rfl).reshape _ _) ((View.wordExact_bits rfl).reshape _ _))

/-- Stream `s` at the first hop. -/
def stream0 (p : FVec F S128x1024 .f32 × FVec F S128x1024 .f32) (s : Fin 4) (dst : Dev nD) : TcProg F PUnit := do
  putFirst arg7 s (partOf s p)
  sendSlot arg7 arg8 arg9 s 0 1 dst

/-- Stream `s` at hop `h`, neither the first nor the last. -/
def streamMid (p : FVec F S128x1024 .f32 × FVec F S128x1024 .f32) (s : Fin 4) (h h' : Fin 32) (dst : Dev nD) : TcProg F PUnit := do
  waitSlot arg7 arg9 s h
  addSlot arg7 s h (partOf s p)
  sendSlot arg7 arg8 arg9 s h h' dst

/-- Stream `s` at the last hop. -/
def streamLast (p : FVec F S128x1024 .f32 × FVec F S128x1024 .f32) (s : Fin 4) : TcProg F PUnit := do
  waitSlot arg7 arg9 s 31
  addOut arg5 arg7 s (partOf s p)

/-- Hop `h`, neither the first nor the last, and the next hop's products. -/
def hopMid (p : FVec F S128x1024 .f32 × FVec F S128x1024 .f32) (h h' : Fin 32) (fwd bwd : Dev nD) :
    TcProg F (FVec F S128x1024 .f32 × FVec F S128x1024 .f32) := do
  streamMid arg7 arg8 arg9 p 0 h h' fwd
  streamMid arg7 arg8 arg9 p 1 h h' bwd
  streamMid arg7 arg8 arg9 p 2 h h' fwd
  streamMid arg7 arg8 arg9 p 3 h h' bwd
  gemms arg0 arg1 arg3 arg4 h'

/-- `n` hops from hop `h` on, each followed by the next hop's products. -/
def hops : (n h : ℕ) → h + n < 32 → (FVec F S128x1024 .f32 × FVec F S128x1024 .f32) → Dev nD → Dev nD →
    TcProg F (FVec F S128x1024 .f32 × FVec F S128x1024 .f32)
  | 0, _, _, p, _, _ => pure p
  | n + 1, h, hn, p, fwd, bwd => do
    let p' ← hopMid arg0 arg1 arg3 arg4 arg7 arg8 arg9 p ⟨h, by omega⟩ ⟨h + 1, by omega⟩ fwd bwd
    hops n (h + 1) (by omega) p' fwd bwd

/-- The device `j` places after `d`, as the kernel computes it. -/
def exTgt (d : Dev nD) (j : Fin 32) : ℕ :=
  (Scalar.addi 0#32 (Scalar.muli (Scalar.remsi (Scalar.addi (Scalar.remsi (Scalar.divsi (Dev.word d) 1#32) 32#32) (BitVec.ofNat 32 j.val)) 32#32) 1#32)).toNat

theorem exTgt_lt : ∀ (d : Dev nD) (j : Fin 32), exTgt d j < nD := by decide +kernel

/-- The copy of the device's maximum to the device `j` places on. -/
def exSend (d : Dev nD) (j : Fin 32) : TcProg F PUnit :=
  Prog.lift (.enqueueDma (bfSrcM arg10) (.remote (Dev.tc (⟨exTgt d j, exTgt_lt d j⟩ : Dev nD)) (bfM arg11 j) (.dma (bfSemM arg12 j).sem)) (.dma (bfSemM arg13 j).sem) ((View.wordExact_bits rfl).reshape _ _) ((View.wordExact_bits rfl).reshape _ _) ⟨⟨rfl, Or.inl rfl⟩, trivial⟩)

/-- `n` copies of the maximum from place `j` on. -/
def exSends (d : Dev nD) : (n j : ℕ) → j + n ≤ 32 → TcProg F PUnit
  | 0, _, _ => pure ⟨⟩
  | n + 1, j, hn => do
    exSend arg10 arg11 arg12 arg13 d ⟨j, by omega⟩
    exSends d n (j + 1) (by omega)

/-- The larger of `a` and the maximum received. -/
def maxWith (a : F .f32) (v : Vec F S1x8x128 .f32) : F .f32 :=
  Scalar.maximumf a (extractAt ![0, 0] (extractStridedSlice S1x1 ![0, 0] (shapeCast S8x128 v shapeCasts_S1x8x128_S8x128) slices_S8x128_o0_0_S1x1) inpos_S1x1_p0_0)

/-- `n` received maxima from place `j` on, folded into `a`. -/
def exRecvs : (n j : ℕ) → j + n ≤ 32 → F .f32 → TcProg F (F .f32)
  | 0, _, _, a => pure a
  | n + 1, j, hn, a => do
    Prog.lift (.waitDma2 (bfSemM arg13 ⟨j, by omega⟩).sem (bfSrcM arg10) (bfM arg11 ⟨j, by omega⟩) ((View.wordExact_bits rfl).reshape _ _) ((View.wordExact_bits rfl).reshape _ _))
    let v : Vec F S1x8x128 .f32 ← Prog.lift (.load arg11 (bfRect ⟨j, by omega⟩).toLoadRect (View.loadsAt_vmem h_S1x8x128))
    exRecvs n (j + 1) (by omega) (maxWith a v)

/-- The waits for the ends of the copies of `n` hops from hop `h` on. -/
def waitHops : (n h : ℕ) → h + n < 32 → TcProg F PUnit
  | 0, _, _ => pure ⟨⟩
  | n + 1, h, hn => do
    waitSent arg7 arg8 0 ⟨h, by omega⟩ ⟨h + 1, by omega⟩
    waitSent arg7 arg8 1 ⟨h, by omega⟩ ⟨h + 1, by omega⟩
    waitSent arg7 arg8 2 ⟨h, by omega⟩ ⟨h + 1, by omega⟩
    waitSent arg7 arg8 3 ⟨h, by omega⟩ ⟨h + 1, by omega⟩
    waitHops n (h + 1) (by omega)

/-- The waits for the ends of `n` copies of the maximum from place `j` on. -/
def waitExs : (n j : ℕ) → j + n ≤ 32 → TcProg F PUnit
  | 0, _, _ => pure ⟨⟩
  | n + 1, j, hn => do
    Prog.lift (.waitDma2 (bfSemM arg12 ⟨j, by omega⟩).sem (bfM arg11 ⟨j, by omega⟩) (bfSrcM arg10) ((View.wordExact_bits rfl).reshape _ _) ((View.wordExact_bits rfl).reshape _ _))
    waitExs n (j + 1) (by omega)

/-- The largest absolute value of a block. -/
def amaxOf (o : Vec F S128x2048 .f32) : F .f32 :=
  extractAt ![0, 0, 0] (shapeCast S1x1x1 (multiReduction .maximumf [1, 2] S1 (shapeCast S1x128x2048 (absf (shapeCast S128x2048 o shapeCasts_S128x2048_S128x2048)) shapeCasts_S128x2048_S1x128x2048) 0xFF800000#32 reduces_S1x128x2048_S1 (.inl rfl) rfl) shapeCasts_S1_S1x1x1) inpos_S1x1x1_p0_0_0

/-- A block quantised to eight bits and back, at the scale the maximum gives. -/
def quant (a : F .f32) (o : Vec F S128x2048 .f32) : FVec F S128x2048 .f32 :=
  mulf (extf .f32 (truncf .fp8e4m3 (mulf (shapeCast S128x2048 o shapeCasts_S128x2048_S128x2048) (broadcast S128x2048 (Scalar.divf (Scalar.ofBits .f32 0x43E00000#32) a))) bitsLt_fp8e4m3_f32) bitsLt_fp8e4m3_f32) (broadcast S128x2048 (Scalar.divf a (Scalar.ofBits .f32 0x43E00000#32)))

/-- The exchange of the maxima and the quantisation. -/
def exchange : TcProg F PUnit := do
  let d : Dev nD ← Prog.lift .deviceId
  let o : Vec F S128x2048 .f32 ← Prog.lift (.load arg5 (Rect.unit (s := S128x2048) ![0, 0] S128x2048.size inb_S128x2048_S128x2048_0_0).toLoadRect (View.loadsAt_vmem h_S128x2048))
  let _ : Vec F S1x8x128 .f32 ← Prog.lift (.load arg10 (Rect.unit (s := S1x8x128) ![0, 0, 0] S1x8x128.size inb_S1x8x128_S1x8x128_0_0_0).toLoadRect (View.loadsAt_vmem h_S1x8x128))
  Prog.lift (.store arg10 (Rect.unit (s := S1x8x128) ![0, 0, 0] S1x8x128.size inb_S1x8x128_S1x8x128_0_0_0) (shapeCast S1x8x128 (broadcast S8x128 (amaxOf o)) shapeCasts_S8x128_S1x8x128) Finset.univ (View.stores_vmem_bits_univ h_S1x8x128 rfl) (.inl rfl))
  exSends arg10 arg11 arg12 arg13 d 31 1 (by omega)
  let a : F .f32 ← exRecvs arg10 arg11 arg13 31 1 (by omega) (amaxOf o)
  let _ : Vec F S8x128 .f32 ← Prog.lift (.load arg6 (Rect.unit (s := S8x128) ![0, 0] S8x128.size inb_S8x128_S8x128_0_0).toLoadRect (View.loadsAt_vmem h_S8x128))
  Prog.lift (.store arg6 (Rect.unit (s := S8x128) ![0, 0] S8x128.size inb_S8x128_S8x128_0_0) (broadcast S8x128 a) Finset.univ (View.stores_vmem_bits_univ h_S8x128 rfl) (.inl rfl))
  let o' : Vec F S128x2048 .f32 ← Prog.lift (.load arg5 (Rect.unit (s := S128x2048) ![0, 0] S128x2048.size inb_S128x2048_S128x2048_0_0).toLoadRect (View.loadsAt_vmem h_S128x2048))
  let _ : Vec F S128x2048 .f32 ← Prog.lift (.load arg5 (Rect.unit (s := S128x2048) ![0, 0] S128x2048.size inb_S128x2048_S128x2048_0_0).toLoadRect (View.loadsAt_vmem h_S128x2048))
  Prog.lift (.store arg5 (Rect.unit (s := S128x2048) ![0, 0] S128x2048.size inb_S128x2048_S128x2048_0_0) (quant a o') Finset.univ (View.stores_vmem_bits_univ h_S128x2048 rfl) (.inl rfl))

/-- The body's opening: the neighbours read off the table, their barriers signalled, the first products, the barrier. -/
def opening : TcProg F ((Dev nD × Dev nD) × (FVec F S128x1024 .f32 × FVec F S128x1024 .f32)) := do
  let v0 : Elt F .i32 ← smemLoad arg2 (Rect.unit (s := S7) ![0] S1.size inb_S7_S1_0) numel1_S1 rfl
  have hw1 : k0_chk1 v0 := (← Prog.lift (TpuEff.assume (k0_chk1 v0) (k0_chk1.dec v0))).down
  let v1 : Elt F .i32 ← smemLoad arg2 (Rect.unit (s := S7) ![1] S1.size inb_S7_S1_1) numel1_S1 rfl
  have hw2 : k0_chk2 v1 := (← Prog.lift (TpuEff.assume (k0_chk2 v1) (k0_chk2.dec v1))).down
  semSignalWord (⟨k0_dev1 v0, k0_dev1_lt v0 hw1⟩ : Dev nD) (SemArray.scalar (sig.barrier 0 rfl) : Sems sig S_).sem 1#32
  semSignalWord (⟨k0_dev2 v1, k0_dev2_lt v1 hw2⟩ : Dev nD) (SemArray.scalar (sig.barrier 0 rfl) : Sems sig S_).sem 1#32
  let p ← gemms arg0 arg1 arg3 arg4 0
  semWaitWord (SemArray.scalar (sig.barrier 0 rfl) : Sems sig S_).sem 2#32
  pure ((⟨k0_dev1 v0, k0_dev1_lt v0 hw1⟩, ⟨k0_dev2 v1, k0_dev2_lt v1 hw2⟩), p)

/-- The first hop, and the second hop's products. -/
def hop0 (p : FVec F S128x1024 .f32 × FVec F S128x1024 .f32) (fwd bwd : Dev nD) :
    TcProg F (FVec F S128x1024 .f32 × FVec F S128x1024 .f32) := do
  stream0 arg7 arg8 arg9 p 0 fwd
  stream0 arg7 arg8 arg9 p 1 bwd
  stream0 arg7 arg8 arg9 p 2 fwd
  stream0 arg7 arg8 arg9 p 3 bwd
  gemms arg0 arg1 arg3 arg4 1

/-- The last hop. -/
def hopLast (p : FVec F S128x1024 .f32 × FVec F S128x1024 .f32) : TcProg F PUnit := do
  streamLast arg5 arg7 arg9 p 0
  streamLast arg5 arg7 arg9 p 1
  streamLast arg5 arg7 arg9 p 2
  streamLast arg5 arg7 arg9 p 3

/-- The barrier at the end. -/
def closing (fwd bwd : Dev nD) : TcProg F PUnit := do
  semSignalWord fwd bar2.sem 1#32
  semSignalWord bwd bar2.sem 1#32
  semWaitWord bar2.sem 2#32
  pure ⟨⟩

/-- The kernel's body over loops: the same operations in the same order as `cc0_body`. -/
def body : TcProg F PUnit := do
  let r ← opening arg0 arg1 arg2 arg3 arg4
  let p ← hop0 arg0 arg1 arg3 arg4 arg7 arg8 arg9 r.2 r.1.1 r.1.2
  let p ← hops arg0 arg1 arg3 arg4 arg7 arg8 arg9 30 1 (by omega) p r.1.1 r.1.2
  hopLast arg5 arg7 arg9 p
  exchange arg5 arg6 arg10 arg11 arg12 arg13
  waitHops arg7 arg8 31 0 (by omega)
  waitExs arg10 arg11 arg12 31 1 (by omega)
  closing bar2 r.1.1 r.1.2

end steps

end Cert.KernelIdeal.Loop
-- ==== Proof.KernelIdeal.Mesh.lean ====
module

public import proofs.«01_k».proof.Proof.KernelIdeal.Loop

@[expose] public section

noncomputable section

namespace Cert.KernelIdeal.Mesh

open Idealize.ShloMosaic Idealize.SL.Sem
open Cert.KernelIdeal
open Cert.KernelIdeal.Facts₀ Cert.KernelIdeal.Facts
open Cert.KernelIdeal.Loop

/-! ## The ring of devices -/

/-- The devices in the order of the ring. -/
def seqV : Fin 32 → Fin 32 :=
  ![0, 3, 4, 7, 15, 12, 11, 8, 16, 19, 20, 23, 31, 28, 27, 24, 25, 26, 29, 30, 22, 21, 18, 17, 9, 10, 13, 14, 6, 5, 2, 1]

/-- The place of a device in the ring. -/
def posV : Fin 32 → Fin 32 :=
  ![0, 31, 30, 1, 2, 29, 28, 3, 7, 24, 25, 6, 5, 26, 27, 4, 8, 23, 22, 9, 10, 21, 20, 11, 15, 16, 17, 14, 13, 18, 19, 12]

theorem pos_seq : ∀ i, posV (seqV i) = i := by decide
theorem seq_pos : ∀ d, seqV (posV d) = d := by decide

/-! Addition of places, round the ring. -/

theorem fadd_assoc (a b c : Fin 32) : a + b + c = a + (b + c) := by
  apply Fin.ext; simp only [Fin.val_add]; omega
theorem fadd_zero : ∀ a : Fin 32, a + 0 = a := by decide
theorem fadd_neg : ∀ a : Fin 32, a + -a = 0 := by decide
theorem fneg_add : ∀ a : Fin 32, -a + a = 0 := by decide
theorem fadd_cancel (a b c : Fin 32) (h : a + b = a + c) : b = c := by
  have := congrArg Fin.val h; simp only [Fin.val_add] at this; apply Fin.ext; omega
theorem fadd_sub (a b : Fin 32) : a + (b - a) = b := by
  apply Fin.ext; simp only [Fin.val_add, Fin.val_sub]; omega
theorem fadd_sub' (a b : Fin 32) : (a + b) - a = b := by
  apply Fin.ext; simp only [Fin.val_add, Fin.val_sub]; omega

/-- The device `k` places on in the ring. -/
def rot (k : Fin 32) (d : Dev nD) : Dev nD := seqV (posV d + k)

theorem rot_rot (a b : Fin 32) (d : Dev nD) : rot a (rot b d) = rot (b + a) d := by
  unfold rot; rw [pos_seq, fadd_assoc]
theorem rot_zero (d : Dev nD) : rot 0 d = d := by
  unfold rot; rw [fadd_zero, seq_pos]
theorem rot_neg_rot (a : Fin 32) (d : Dev nD) : rot (-a) (rot a d) = d := by
  rw [rot_rot, fadd_neg, rot_zero]
theorem rot_rot_neg (a : Fin 32) (d : Dev nD) : rot a (rot (-a) d) = d := by
  rw [rot_rot, fneg_add, rot_zero]
theorem rot_inj {a b : Fin 32} {d : Dev nD} (h : rot a d = rot b d) : a = b := by
  have h' := congrArg posV h
  unfold rot at h'; rw [pos_seq, pos_seq] at h'
  exact fadd_cancel _ _ _ h'

/-- Going round the ring as a rearrangement of the devices. -/
def rotE (a : Fin 32) : Dev nD ≃ Dev nD := ⟨rot a, rot (-a), rot_neg_rot a, rot_rot_neg a⟩

/-- The places in the ring counted from a device. -/
def placeE (d : Dev nD) : Fin 32 ≃ Dev nD where
  toFun k := rot k d
  invFun u := posV u - posV d
  left_inv k := by show posV (rot k d) - posV d = k; unfold rot; rw [pos_seq, fadd_sub']
  right_inv u := by show rot (posV u - posV d) d = u; unfold rot; rw [fadd_sub, seq_pos]

/-- The way a stream's blocks go round the ring. -/
def dir : Fin 4 → Fin 32 := ![1, -1, 1, -1]

/-- The device stream `s` of `d` sends to. -/
abbrev tgt (s : Fin 4) (d : Dev nD) : Dev nD := rot (dir s) d
/-- The device stream `s` of `d` receives from. -/
abbrev org (s : Fin 4) (d : Dev nD) : Dev nD := rot (-(dir s)) d

/-- The block the forward streams of device `d` work on at hop `h`. -/
def blkF (h : Fin 32) (d : Dev nD) : Dev nD := rot (-(h + 1)) d
/-- The block the backward streams of device `d` work on at hop `h`. -/
def blkB (h : Fin 32) (d : Dev nD) : Dev nD := rot (h + 1) d

/-- The device `j` places after `d` in the order of the devices' numbers. -/
theorem exTgt_eq : ∀ (d : Dev nD) (j : Fin 32), exTgt d j = (d + j).val := by decide +kernel

/-! ## What the hops compute -/

variable {F : FTy → Type} [FloatOps F]

theorem inbRows (b : Fin 32) : ∀ a, (![b.val * 128, 0] : Fin 2 → ℕ) a + S128x128.size a ≤ S4096x128.size a := by
  intro a; have := b.isLt
  fin_cases a <;> simp [S128x128, S4096x128]; omega

/-- Block `b` of the rows of `x`. -/
def rowsOf (x : Vec F S4096x128 .f32) (b : Fin 32) : Vec F S128x128 .f32 := fun i =>
  x ((Rect.unit (s := S4096x128) ![b.val * 128, 0] S128x128.size (inbRows b)).emb i)
/-- The first half of the columns of `w`. -/
def colsL (w : Vec F S128x2048 .f32) : Vec F S128x1024 .f32 := fun i =>
  w ((Rect.unit (s := S128x2048) ![0, 0] S128x1024.size inb_S128x2048_S128x1024_0_0).emb i)
/-- The second half of the columns of `w`. -/
def colsR (w : Vec F S128x2048 .f32) : Vec F S128x1024 .f32 := fun i =>
  w ((Rect.unit (s := S128x2048) ![0, 1024] S128x1024.size inb_S128x2048_S128x1024_0_1024).emb i)

section values
variable (xv : Dev nD → Vec F S4096x128 .f32) (wv : Dev nD → Vec F S128x2048 .f32)

/-- The two products of hop `h` on device `d`. -/
def prods (h : Fin 32) (d : Dev nD) : FVec F S128x1024 .f32 × FVec F S128x1024 .f32 :=
  (prod (rowsOf (xv d) (blkF h d)) (colsL (wv d)), prod (rowsOf (xv d) (blkB h d)) (colsR (wv d)))

/-- What stream `s` carries on device `d` at hop `h`. -/
def acc (s : Fin 4) : ℕ → Dev nD → FVec F S128x512 .f32
  | 0, d => partOf s (prods xv wv 0 d)
  | h + 1, d => addf (acc s h (org s d)) (partOf s (prods xv wv (Fin.ofNat 32 (h + 1)) d))

/-- The stream that computes a column of the result. -/
def strOf (i : S128x2048.Idx) : Fin 4 := ![0, 2, 1, 3] ⟨(i 1).val / 512, by have := (i 1).isLt; simp [S128x2048] at this; omega⟩

/-- The place of a column of the result in its stream's block. -/
def inStr (i : S128x2048.Idx) : S128x512.Idx := fun a => match a with
  | 0 => ⟨(i 0).val, (i 0).isLt⟩
  | 1 => ⟨(i 1).val % 512, Nat.mod_lt _ (by decide)⟩

/-- The product's rows on device `d`, before the quantisation. -/
def outV (d : Dev nD) : Vec F S128x2048 .f32 := fun i => acc xv wv (strOf i) 31 d (inStr i)

/-- The largest absolute value of device `d`'s rows. -/
def am (d : Dev nD) : F .f32 := amaxOf (outV xv wv d)

/-- The largest absolute value of all rows, as device `d` folds it: `n` received ones from place `j` on. -/
def amFold (d : Dev nD) : ℕ → ℕ → F .f32 → F .f32
  | 0, _, a => a
  | n + 1, j, a => amFold d n (j + 1) (Scalar.maximumf a (am xv wv (d - Fin.ofNat 32 j)))

/-- The largest absolute value of all rows, as device `d` finds it. -/
def amAll (d : Dev nD) : F .f32 := amFold xv wv d 31 1 (am xv wv d)

/-- The result on device `d`. -/
def resV (d : Dev nD) : Vec F S128x2048 .f32 := quant (amAll xv wv d) (outV xv wv d)

end values

end Cert.KernelIdeal.Mesh
-- ==== Proof.KernelIdeal.Proto.lean ====
module

public import proofs.«01_k».proof.Proof.KernelIdeal.Mesh
public import Idealize.ShloMosaic.Lib.Pipeline.Regions
public import Idealize.ShloMosaic.Lib.Pipeline.Kit
public import Idealize.ShloMosaic.Lib.Rounds
public import Idealize.ShloMosaic.Lib.Ring
public import Idealize.ShloMosaic.Lib.Transfers
public import Idealize.ShloMosaic.Lib.Tactic
public import Idealize.ShloMosaic.Lib.Pipeline.RegionTalk

@[expose] public section

noncomputable section

namespace Cert.KernelIdeal.Proto

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal
open Cert.KernelIdeal.Facts₀ Cert.KernelIdeal.Facts
open Cert.KernelIdeal.Loop Cert.KernelIdeal.Mesh

/-! ## The cells -/

/-- The kernel's own semaphores: per stream and hop one for the end of the copy out and one for the arrival, per
    place one of each for the exchange of the maxima, and the closing barrier's. -/
inductive Sc
  | send (s : Fin 4) (h : Fin 32)
  | recv (s : Fin 4) (h : Fin 32)
  | bfs (j : Fin 32)
  | bfr (j : Fin 32)
  | bar2
  deriving DecidableEq

/-- The kinds as a sum. -/
def scE : ((Fin 4 × Fin 32) ⊕ (Fin 4 × Fin 32)) ⊕ ((Fin 32 ⊕ Fin 32) ⊕ Unit) ≃ Sc where
  toFun
    | .inl (.inl p) => .send p.1 p.2
    | .inl (.inr p) => .recv p.1 p.2
    | .inr (.inl (.inl j)) => .bfs j
    | .inr (.inl (.inr j)) => .bfr j
    | .inr (.inr _) => .bar2
  invFun
    | .send s h => .inl (.inl (s, h))
    | .recv s h => .inl (.inr (s, h))
    | .bfs j => .inr (.inl (.inl j))
    | .bfr j => .inr (.inl (.inr j))
    | .bar2 => .inr (.inr ())
  left_inv x := by rcases x with (p | p) | ((j | j) | u) <;> rfl
  right_inv x := by cases x <;> rfl

instance : Fintype Sc := Fintype.ofEquiv _ scE

/-- The semaphore of a kind; `none` is the opening barrier's. -/
def semOf : Option Sc → SemLoc sig
  | none => .reg (SemArray.scalar (sig.barrier 0 rfl) : Sems sig S_).sem
  | some (.send s h) => .dma (semM cc0_scratch1 s h).sem
  | some (.recv s h) => .dma (semM cc0_scratch2 s h).sem
  | some (.bfs j) => .dma (bfSemM cc0_scratch5 j).sem
  | some (.bfr j) => .dma (bfSemM cc0_scratch6 j).sem
  | some .bar2 => .reg cc0_scoped0.sem

/-- The kind of a semaphore, if it is the kernel's. -/
def kindOf : SemLoc sig → Option (Option Sc)
  | .reg i => if i.val = 0 then some none else if i.val = 1 then some (some .bar2) else none
  | .dma i =>
    if i.val < 7 then none
    else if i.val < 135 then some (some (.send (Fin.ofNat 4 ((i.val - 7) / 32)) (Fin.ofNat 32 ((i.val - 7) % 32))))
    else if i.val < 263 then some (some (.recv (Fin.ofNat 4 ((i.val - 135) / 32)) (Fin.ofNat 32 ((i.val - 135) % 32))))
    else if i.val < 295 then some (some (.bfs (Fin.ofNat 32 (i.val - 263))))
    else some (some (.bfr (Fin.ofNat 32 (i.val - 295))))

theorem kind_send : ∀ s h, kindOf (semOf (some (.send s h))) = some (some (.send s h)) := by decide +kernel
theorem kind_recv : ∀ s h, kindOf (semOf (some (.recv s h))) = some (some (.recv s h)) := by decide +kernel
theorem kind_bfs : ∀ j, kindOf (semOf (some (.bfs j))) = some (some (.bfs j)) := by decide +kernel
theorem kind_bfr : ∀ j, kindOf (semOf (some (.bfr j))) = some (some (.bfr j)) := by decide +kernel

theorem kind_sem (k : Option Sc) : kindOf (semOf k) = some k := by
  rcases k with _ | (⟨s, h⟩ | ⟨s, h⟩ | j | j | _)
  · rfl
  · exact kind_send s h
  · exact kind_recv s h
  · exact kind_bfs j
  · exact kind_bfr j
  · rfl

theorem semOf_inj : Function.Injective semOf := fun a b h => by
  have := congrArg kindOf h; rw [kind_sem, kind_sem] at this; exact Option.some.inj this

/-- Device `c`'s cell of kind `k`. -/
abbrev cell (c : Dev nD) (k : Option Sc) : GSem nD τ sig := ((c : Thread nD τ), semOf k)

/-- The two duties of a barrier, the one of any other semaphore in use. -/
def dutK : Option Sc → Finset Bool
  | none => Finset.univ
  | some .bar2 => Finset.univ
  | some (.send _ h) => if h = 31 then ∅ else {false}
  | some (.recv _ h) => if h = 0 then ∅ else {false}
  | some (.bfs j) => if j = 0 then ∅ else {false}
  | some (.bfr j) => if j = 0 then ∅ else {false}

abbrev slots : Memref sig .tc .vmem S4x32x128x512 .f32 := Memref.whole cc0_scratch0
abbrev bfSrc : Memref sig .tc .vmem S1x8x128 .f32 := Memref.whole cc0_scratch3
abbrev bfBuf : Memref sig .tc .vmem S32x8x128 .f32 := Memref.whole cc0_scratch4

/-- The units of one block's copy and of one maximum's copy. -/
def nSlot : ℕ := (slotM slots 0 0).view.dmaCredit
def nBf : ℕ := (bfM bfBuf 0).view.dmaCredit
theorem nSlot_pos : 0 < nSlot := View.dmaCredit_pos _ (by decide)
theorem nBf_pos : 0 < nBf := View.dmaCredit_pos _ (by decide)

theorem credit_slot (s : Fin 4) (h : Fin 32) : (slotM slots s h).view.dmaCredit = nSlot := rfl
theorem credit_bf (j : Fin 32) : (bfM bfBuf j).view.dmaCredit = nBf := rfl
theorem credit_src : (bfSrcM bfSrc).view.dmaCredit = nBf := rfl

/-- The units of one duty. -/
def amtK : Option Sc → ℕ
  | none => 1
  | some .bar2 => 1
  | some (.send _ _) => nSlot
  | some (.recv _ _) => nSlot
  | some (.bfs _) => nBf
  | some (.bfr _) => nBf

theorem amtK_pos (k : Option Sc) : 0 < amtK k := by
  rcases k with _ | (⟨s, h⟩ | ⟨s, h⟩ | j | j | _)
  · exact Nat.one_pos
  · exact nSlot_pos
  · exact nSlot_pos
  · exact nBf_pos
  · exact nBf_pos
  · exact Nat.one_pos

/-- The device whose cell of kind `k` device `d`'s duty `b` is on. -/
def payee : Option Sc → Bool → Dev nD ≃ Dev nD
  | none, true => rotE 1
  | none, false => rotE (-1)
  | some .bar2, true => rotE 1
  | some .bar2, false => rotE (-1)
  | some (.send _ _), _ => Equiv.refl _
  | some (.recv s _), _ => rotE (dir s)
  | some (.bfs _), _ => Equiv.refl _
  | some (.bfr j), _ => ⟨fun d => d + j, fun d => d - j, fun d => by
      apply Fin.ext; simp only [Fin.val_add, Fin.val_sub]; have := d.isLt; have := j.isLt; simp only [nD] at *; omega, fun d => by
      apply Fin.ext; simp only [Fin.val_add, Fin.val_sub]; have := d.isLt; have := j.isLt; simp only [nD] at *; omega⟩

/-! ## Levels -/

/-- The order in which the waits of a device happen. -/
def lvK : Option Sc → ℕ
  | none => 1
  | some (.recv _ h) => 2 + h.val
  | some (.bfr _) => 40
  | some .bar2 => 41
  | some (.send _ _) => 0
  | some (.bfs _) => 0

def L (g : GSem nD τ sig) : Finset Unit := if g.1.2 = .tc then {()} else ∅
def lv (g : GSem nD τ sig) (_ : Unit) : ℕ := match kindOf g.2 with
  | some k => lvK k
  | none => 0

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (k : Option Sc) (u : Unit) : lv (cell c k) u = lvK k := by
  unfold lv; rw [show (cell c k).2 = semOf k from rfl, kind_sem]

/-! ## What a device owes -/

/-- The units device `d` pays on duty `p.2` of a cell of kind `p.1`. -/
def tal (d : Dev nD) (p : Option Sc × Bool) : CellTallies nD τ sig Unit := tallyAt (cell (payee p.1 p.2 d) p.1) () (amtK p.1)

/-- What device `d` owes for the duties listed. -/
def owe (d : Dev nD) : List (Option Sc × Bool) → CellTallies nD τ sig Unit
  | [] => 0
  | p :: l => owe d l + tal d p

theorem owe_pos {d : Dev nD} {l : List (Option Sc × Bool)} {g : GSem nD τ sig} {u : Unit} (h : 0 < owe d l g u) :
    ∃ p ∈ l, g = cell (payee p.1 p.2 d) p.1 := by
  induction l with
  | nil => exact absurd h (Nat.lt_irrefl 0)
  | cons p l ih =>
    rw [owe, Pi.add_apply, Finsupp.add_apply] at h
    rcases Nat.add_pos_iff_pos_or_pos.mp h with h | h
    · obtain ⟨q, hq, e⟩ := ih h; exact ⟨q, List.mem_cons_of_mem _ hq, e⟩
    · unfold tal at h; rw [tallyAt_apply] at h
      split at h
      · next hg => exact ⟨p, List.mem_cons_self, hg.1⟩
      · exact absurd h (Nat.lt_irrefl 0)

/-- The duties of `n` hops from hop `h` on. -/
def hopDues : ℕ → ℕ → List (Option Sc × Bool) → List (Option Sc × Bool)
  | 0, _, l => l
  | n + 1, h, l => (some (.recv 0 (Fin.ofNat 32 h)), false) :: (some (.recv 1 (Fin.ofNat 32 h)), false)
      :: (some (.recv 2 (Fin.ofNat 32 h)), false) :: (some (.recv 3 (Fin.ofNat 32 h)), false) :: hopDues n (h + 1) l

/-- The duties of `n` copies of the maximum from place `j` on. -/
def exDues : ℕ → ℕ → List (Option Sc × Bool) → List (Option Sc × Bool)
  | 0, _, l => l
  | n + 1, j, l => (some (.bfr (Fin.ofNat 32 j)), false) :: exDues n (j + 1) l

/-- The closing barrier's duties. -/
def endDues : List (Option Sc × Bool) := [(some .bar2, true), (some .bar2, false)]

/-- All the duties a device owes at launch, in the order it pays them. -/
def dues : List (Option Sc × Bool) := (none, true) :: (none, false) :: hopDues 31 1 (exDues 31 1 endDues)

/-- Every duty listed is on a cell waited for after level `v`. -/
def Above (v : ℕ) (l : List (Option Sc × Bool)) : Prop := ∀ p ∈ l, v < lvK p.1

theorem Above.cons {v : ℕ} {p : Option Sc × Bool} {l : List (Option Sc × Bool)} (h : v < lvK p.1) (hl : Above v l) : Above v (p :: l) := by
  intro q hq; rcases List.mem_cons.mp hq with rfl | hq
  · exact h
  · exact hl q hq

theorem Above.tail {v : ℕ} {p : Option Sc × Bool} {l : List (Option Sc × Bool)} (h : Above v (p :: l)) : Above v l :=
  fun q hq => h q (List.mem_cons_of_mem _ hq)

theorem above_end {v : ℕ} (hv : v < 41) : Above v endDues := by
  intro p hp; simp only [endDues, List.mem_cons, List.not_mem_nil, or_false] at hp
  rcases hp with rfl | rfl <;> exact hv

theorem above_ex {v : ℕ} (hv : v < 40) : ∀ n j, Above v (exDues n j endDues)
  | 0, _ => above_end (by omega)
  | n + 1, j => (above_ex hv n (j + 1)).cons hv

theorem above_hops {v : ℕ} (hv : v < 40) : ∀ n h, v < 2 + h → h + n ≤ 32 → Above v (hopDues n h (exDues 31 1 endDues))
  | 0, _, _, _ => above_ex hv 31 1
  | n + 1, h, hh, hn => by
    have e : (Fin.ofNat 32 h).val = h := Nat.mod_eq_of_lt (by omega)
    have hl : ∀ s, v < lvK (some (.recv s (Fin.ofNat 32 h))) := fun s => by show v < 2 + (Fin.ofNat 32 h).val; rw [e]; exact hh
    exact ((((above_hops hv n (h + 1) (by omega) (by omega)).cons (hl 3)).cons (hl 2)).cons (hl 1)).cons (hl 0)

end Cert.KernelIdeal.Proto
-- ==== Proof.KernelIdeal.Sched.lean ====
module

public import proofs.«01_k».proof.Proof.KernelIdeal.Proto

@[expose] public section

noncomputable section

namespace Cert.KernelIdeal.Proto

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal
open Cert.KernelIdeal.Facts₀ Cert.KernelIdeal.Facts
open Cert.KernelIdeal.Loop Cert.KernelIdeal.Mesh

variable {F : FTy → Type} [FloatOps F]

/-- The resource algebra: the pipeline library's copy and the protocol's. -/
abbrev UU : Type := UR sig nD τ × URounds (GSem nD τ sig) Bool

local notation "𝕄" => MT nD τ sig Unit (Elt F) ℕ UU ℕ

abbrev EP : Emb (UR sig nD τ) (MT nD τ sig Unit (Elt F) ℕ UU ℕ) := embL
abbrev ER : Emb (URounds (GSem nD τ sig) Bool) (MT nD τ sig Unit (Elt F) ℕ UU ℕ) := embR

/-! ## Pieces of buffers -/

/-- The elements `S` of one buffer, at contents with the property `P`. -/
def held (ℓ : Loc nD τ sig) (S : Finset (Idx ℓ)) (P : Buf (Elt F) ℓ → Prop) : sProp 𝕄 :=
  iprop(∃ f : Buf (Elt F) ℓ, ⌜P f⌝ ∗ ℓ ↦[S]{fullShare} f)

/-- A share of the elements `S` of one buffer, at the contents `f`. -/
def shared (ℓ : Loc nD τ sig) (S : Finset (Idx ℓ)) (q : PosShare TreeShare) (f : Buf (Elt F) ℓ) : sProp 𝕄 := ℓ ↦[S]{q} f

instance held_storable (ℓ : Loc nD τ sig) (S : Finset (Idx ℓ)) (P : Buf (Elt F) ℓ → Prop) :
    Storable (upEmb : UEmb _ 𝕄) (held ℓ S P) := by unfold held; infer_instance
instance shared_storable (ℓ : Loc nD τ sig) (S : Finset (Idx ℓ)) (q) (f : Buf (Elt F) ℓ) :
    Storable (upEmb : UEmb _ 𝕄) (shared ℓ S q f) := by unfold shared; infer_instance

theorem held_weaken {ℓ : Loc nD τ sig} {S : Finset (Idx ℓ)} {P P' : Buf (Elt F) ℓ → Prop} (h : ∀ f, P f → P' f) :
    (held ℓ S P : sProp 𝕄) ⊢ held ℓ S P' := by
  unfold held; iintro ⟨%f, %hf, H⟩; iexists f; isplitr
  · ipureintro; exact h f hf
  · iexact H

/-- Device `c`'s slot `(s, h)` at contents not chosen. -/
def slotAny (c : Dev nD) (s : Fin 4) (h : Fin 32) : sProp 𝕄 :=
  held ((slotM slots s h).view.loc (c : Thread nD τ)) (slotM slots s h).view.set fun _ => True

/-- Device `c`'s slot `(s, h)` holding the block `v`. -/
def slotHas (c : Dev nD) (s : Fin 4) (h : Fin 32) (v : Vec F S128x512 .f32) : sProp 𝕄 :=
  held ((slotM slots s h).view.loc (c : Thread nD τ)) (slotM slots s h).view.set
    fun f => (slotM slots s h).view.read (Elt F) f = v

/-- Device `c`'s slot `j` for a received maximum, at contents not chosen. -/
def bfAny (c : Dev nD) (j : Fin 32) : sProp 𝕄 :=
  held ((bfM bfBuf j).view.loc (c : Thread nD τ)) (bfM bfBuf j).view.set fun _ => True

/-- Device `c`'s slot `j` holding the maximum `a` everywhere. -/
def bfHas (c : Dev nD) (j : Fin 32) (a : F .f32) : sProp 𝕄 :=
  held ((bfM bfBuf j).view.loc (c : Thread nD τ)) (bfM bfBuf j).view.set
    fun f => (bfM bfBuf j).view.read (Elt F) f = fun _ => a

/-- A share of device `c`'s buffer of the maximum it sends, holding `a` everywhere. -/
def srcPt (c : Dev nD) (q : PosShare TreeShare) (a : F .f32) : sProp 𝕄 :=
  shared ((bfSrcM bfSrc).view.loc (c : Thread nD τ)) (bfSrcM bfSrc).view.set q fun _ => a

instance (c : Dev nD) (s : Fin 4) (h : Fin 32) : Storable (upEmb : UEmb _ 𝕄) (slotAny (F := F) c s h) := held_storable _ _ _
instance (c : Dev nD) (s : Fin 4) (h : Fin 32) (v) : Storable (upEmb : UEmb _ 𝕄) (slotHas (F := F) c s h v) := held_storable _ _ _
instance (c : Dev nD) (j : Fin 32) : Storable (upEmb : UEmb _ 𝕄) (bfAny (F := F) c j) := held_storable _ _ _
instance (c : Dev nD) (j : Fin 32) (a) : Storable (upEmb : UEmb _ 𝕄) (bfHas (F := F) c j a) := held_storable _ _ _
instance (c : Dev nD) (q) (a) : Storable (upEmb : UEmb _ 𝕄) (srcPt (F := F) c q a) := shared_storable _ _ _ _

theorem slotHas_any (c : Dev nD) (s : Fin 4) (h : Fin 32) (v) : (slotHas c s h v : sProp 𝕄) ⊢ slotAny c s h :=
  held_weaken fun _ _ => trivial
theorem bfHas_any (c : Dev nD) (j : Fin 32) (a) : (bfHas c j a : sProp 𝕄) ⊢ bfAny c j :=
  held_weaken fun _ _ => trivial

/-! ## What the cells hand over -/

/-- Device `c` has opened its cells. -/
def allReached (c : Dev nD) : sProp 𝕄 := bigSep Finset.univ fun k : Sc => reached ER (cell c (some k)) 0

instance (c : Dev nD) : BI.Persistent (allReached (F := F) c) := by unfold allReached; infer_instance
instance (c : Dev nD) : Storable (upEmb : UEmb _ 𝕄) (allReached (F := F) c) := by unfold allReached; infer_instance

theorem allReached_at (c : Dev nD) (k : Sc) : (allReached c : sProp 𝕄) ⊢ reached ER (cell c (some k)) 0 := by
  unfold allReached; exact bigSep_elim (Finset.mem_univ k)

/-- The slots of stream `s` on device `c` that blocks arrive in. -/
def landing (c : Dev nD) (s : Fin 4) : sProp 𝕄 := bigSep (Finset.Ico 1 32) fun h => slotAny c s (Fin.ofNat 32 h)

/-- Device `u`'s slot for device `t`'s maximum. -/
def bfFor (t u : Dev nD) : sProp 𝕄 := if u = t then iprop(emp) else iprop(bfAny u (u - t) ∗ allReached u)

/-- The slots for device `t`'s maximum of the `h` devices after it in the ring. -/
def pack (t : Dev nD) (h : ℕ) : sProp 𝕄 := bigSep (Finset.Ico 1 (h + 1)) fun i => bfFor t (rot (Fin.ofNat 32 i) t)

instance (c : Dev nD) (s : Fin 4) : Storable (upEmb : UEmb _ 𝕄) (landing (F := F) c s) := by unfold landing; infer_instance
instance (t u : Dev nD) : Storable (upEmb : UEmb _ 𝕄) (bfFor (F := F) t u) := by unfold bfFor; split <;> infer_instance
instance (t : Dev nD) (h : ℕ) : Storable (upEmb : UEmb _ 𝕄) (pack (F := F) t h) := by unfold pack; infer_instance

/-- What rides with the block stream `s` of device `c` receives at hop `h`. -/
def extra (s : Fin 4) (t : Dev nD) (h : ℕ) : sProp 𝕄 := if s = 0 then pack t h else iprop(emp)
instance (s : Fin 4) (t : Dev nD) (h : ℕ) : Storable (upEmb : UEmb _ 𝕄) (extra (F := F) s t h) := by
  unfold extra; split <;> infer_instance

section sched
variable (xv : Dev nD → Vec F S4096x128 .f32) (wv : Dev nD → Vec F S128x2048 .f32)

/-- What duty `b` of device `c`'s cell of kind `k` hands to `c`. -/
def payK : Option Sc → Bool → Dev nD → sProp 𝕄
  | none, true, c => iprop(landing (rot (-1) c) 1 ∗ landing (rot (-1) c) 3 ∗ allReached (rot (-1) c))
  | none, false, c => iprop(landing (rot 1 c) 0 ∗ landing (rot 1 c) 2 ∗ allReached (rot 1 c))
  | some .bar2, _, _ => iprop(emp)
  | some (.send s h), _, c => slotAny c s h
  | some (.recv s h), _, c => iprop(slotHas c s h (acc xv wv s (h.val - 1) (org s c)) ∗ extra s (rot (-(h + 1)) c) h.val)
  | some (.bfs j), _, c => srcPt c (Transfers.shareTokN fullShare j.val) (am xv wv c)
  | some (.bfr j), _, c => bfHas c j (am xv wv (c - j))

instance (k : Option Sc) (b : Bool) (c : Dev nD) : Storable (upEmb : UEmb _ 𝕄) (payK xv wv k b c) := by
  rcases k with _ | (⟨s, h⟩ | ⟨s, h⟩ | j | j | _) <;> cases b <;> unfold payK <;> infer_instance

/-- The protocol: one round on every cell. -/
def Rd : Rounds.Schedule (GSem nD τ sig) Bool 𝕄 where
  duties g r := if r = 0 ∧ g.1.2 = .tc then (match kindOf g.2 with | some k => dutK k | none => ∅) else ∅
  unitless _ := False
  amount g _ _ := match kindOf g.2 with | some k => amtK k | none => 1
  payload g _ b := match kindOf g.2 with | some k => payK xv wv k b g.1.1 | none => iprop(emp)
  amount_pos g _ _ _ := by
    show 0 < (match kindOf g.2 with | some k => amtK k | none => 1)
    cases kindOf g.2 with
    | none => exact Nat.one_pos
    | some k => exact amtK_pos k

instance Rd_storable (g : GSem nD τ sig) (r : ℕ) (d : Bool) : Storable (upEmb : UEmb _ 𝕄) ((Rd xv wv).payload g r d) := by
  show Storable upEmb (match kindOf g.2 with | some k => payK xv wv k d g.1.1 | none => iprop(emp))
  split <;> infer_instance

theorem duties_cell (c : Dev nD) (k : Option Sc) : (Rd xv wv).duties (cell c k) 0 = dutK k := by
  dsimp only [Rd]; rw [if_pos ⟨rfl, rfl⟩]
  rw [kind_sem]
theorem amount_cell (c : Dev nD) (k : Option Sc) (b : Bool) : (Rd xv wv).amount (cell c k) 0 b = amtK k := by
  dsimp only [Rd]; rw [kind_sem]
theorem payload_cell (c : Dev nD) (k : Option Sc) (b : Bool) : (Rd xv wv).payload (cell c k) 0 b = payK xv wv k b c := by
  dsimp only [Rd]; rw [kind_sem]
theorem duties_later (g : GSem nD τ sig) : ∀ r, 1 ≤ r → (Rd xv wv).duties g r = ∅ := fun r hr => by
  dsimp only [Rd]; rw [if_neg (fun h => by omega)]
theorem duties_unused (c : Dev nD) (k : Option Sc) (hk : dutK k = ∅) : ∀ r, 0 ≤ r → (Rd xv wv).duties (cell c k) r = ∅ := fun r _ => by
  rcases Nat.eq_zero_or_pos r with rfl | h
  · rw [duties_cell, hk]
  · exact duties_later xv wv _ r h

theorem expect_one (c : Dev nD) (k : Option Sc) (hk : dutK k = {false}) : (Rd xv wv).expect (cell c k) 0 = amtK k := by
  unfold Schedule.expect Schedule.amountOf; rw [duties_cell, hk, Finset.sum_singleton, amount_cell]
theorem expect_two (c : Dev nD) (k : Option Sc) (hk : dutK k = Finset.univ) : (Rd xv wv).expect (cell c k) 0 = amtK k + amtK k := by
  unfold Schedule.expect Schedule.amountOf
  rw [duties_cell, hk, Fintype.sum_bool, amount_cell, amount_cell]

theorem rest_one (c : Dev nD) (k : Option Sc) (hk : dutK k = {false}) :
    bigSep ((Rd xv wv).duties (cell c k) 0 \ ∅) (fun u => (Rd xv wv).payload (cell c k) 0 u) = payK xv wv k false c := by
  rw [Finset.sdiff_empty, duties_cell, hk, bigSep_singleton, payload_cell]
theorem rest_two (c : Dev nD) (k : Option Sc) (hk : dutK k = Finset.univ) :
    bigSep ((Rd xv wv).duties (cell c k) 0 \ ∅) (fun u => (Rd xv wv).payload (cell c k) 0 u)
      = iprop(payK xv wv k true c ∗ payK xv wv k false c) := by
  rw [Finset.sdiff_empty, duties_cell, hk, show (Finset.univ : Finset Bool) = {true, false} from rfl, bigSep_insert (by decide),
    bigSep_singleton, payload_cell, payload_cell]
  rfl

/-! ## The cells of all devices -/

def barEmb : Dev nD ↪ GSem nD τ sig := ⟨fun c => cell c none, fun _ _ h => congrArg (fun g : GSem nD τ sig => g.1.1) h⟩
def scEmb : Dev nD × Sc ↪ GSem nD τ sig := ⟨fun p => cell p.1 (some p.2), fun _ _ h =>
  Prod.ext (congrArg (fun g : GSem nD τ sig => g.1.1) h) (Option.some.inj (semOf_inj (congrArg Prod.snd h)))⟩
def barCells : Finset (GSem nD τ sig) := Finset.univ.map barEmb
def scCells : Finset (GSem nD τ sig) := Finset.univ.map scEmb

theorem cell_mem (c : Dev nD) (k : Option Sc) : cell c k ∈ (barCells ∪ scCells : Finset (GSem nD τ sig)) := by
  rcases k with _ | k
  · exact Finset.mem_union_left _ (Finset.mem_map_of_mem barEmb (Finset.mem_univ c))
  · exact Finset.mem_union_right _ (Finset.mem_map_of_mem scEmb (Finset.mem_univ (c, k)))

/-- What every device may consult: the invariants of all cells, and that the opening barriers are open. -/
def records (κ : GSem nD τ sig → ℕ) : sProp 𝕄 :=
  iprop((bigSep (barCells ∪ scCells) fun g => cellInv ER (Rd xv wv) (κ g) g) ∗ bigSep barCells fun g => reached ER g 0)

instance records_persistent (κ : GSem nD τ sig → ℕ) : BI.Persistent (records xv wv κ) := by unfold records; infer_instance

theorem inv_of (κ : GSem nD τ sig → ℕ) {g : GSem nD τ sig} (hg : g ∈ (barCells ∪ scCells : Finset (GSem nD τ sig))) :
    (bigSep (barCells ∪ scCells) fun g => (cellInv ER (Rd xv wv) (κ g) g : sProp 𝕄)) ⊢ cellInv ER (Rd xv wv) (κ g) g :=
  bigSep_elim hg
theorem open_of {g : GSem nD τ sig} (hg : g ∈ barCells) :
    (bigSep barCells fun g => (reached ER g 0 : sProp 𝕄)) ⊢ reached ER g 0 := bigSep_elim hg

theorem inv_at (κ : GSem nD τ sig → ℕ) (c : Dev nD) (k : Option Sc) :
    (records xv wv κ : sProp 𝕄) ⊢ cellInv ER (Rd xv wv) (κ (cell c k)) (cell c k) := by
  unfold records
  iintro ⟨#H, -⟩; iapply (inv_of xv wv κ (cell_mem c k)); iexact H
theorem bar_mem (c : Dev nD) : cell c none ∈ barCells := Finset.mem_map_of_mem barEmb (Finset.mem_univ c)
theorem bar_at (κ : GSem nD τ sig → ℕ) (c : Dev nD) : (records xv wv κ : sProp 𝕄) ⊢ reached ER (cell c none) 0 := by
  unfold records
  iintro ⟨-, #H⟩; iapply (open_of (bar_mem c)); iexact H

/-! ## Steps of the protocol -/

abbrev 𝒱₀ : Variants := Variants.none

/-- Device `c` owes the duties listed. -/
def Owes (c : Dev nD) (l : List (Option Sc × Bool)) : sProp 𝕄 := iprop(∃ W, owes (c : Thread nD τ) (owe c l) W)

theorem mayWait (c : Dev nD) (k : Option Sc) (l : List (Option Sc × Bool)) (hl : Above (lvK k) l) :
    (levAts L lv : sProp 𝕄) ⊢ MayWait (c : Thread nD τ) (semOf k) () (owe c l) :=
  MayOwe.of_cut (L := L) (lev := lv) (lvK k) (fun p hp => by rw [Finset.mem_singleton.mp hp, L_tc]; exact Finset.mem_singleton_self _)
    (fun g u hg => by
      obtain ⟨p, -, rfl⟩ := owe_pos hg
      rw [L_tc]; exact Finset.mem_singleton_self _)
    (fun p hp => by rw [Finset.mem_singleton.mp hp]; exact le_of_eq (lv_cell c k ()))
    (fun g u hg => by
      obtain ⟨p, hp, rfl⟩ := owe_pos hg
      rw [lv_cell]; exact hl p hp)

/-- The wait for a copy: what its one duty hands over. -/
theorem wp_waitOne {κ : GSem nD τ sig → ℕ} (c : Dev nD) (k : Sc) (hk : dutK (some k) = {false}) (l : List (Option Sc × Bool))
    (hl : Above (lvK (some k)) l) {sm : DmaSem sig} (hs : SemLoc.dma sm = semOf (some k))
    {sp sp' : Space} {S S' : Shape} {e e' : EltTy} {src : Memref sig .tc sp' S' e'} {dst : Memref sig .tc sp S e}
    {hsrc : src.view.WordExact} {hdst : dst.view.WordExact} (hc : dst.view.dmaCredit = amtK (some k)) (Q : PUnit → sProp 𝕄) :
    iprop(records xv wv κ ∗ levAts L lv ∗ cred (tallyAt (cell c (some k)) () (amtK (some k))) ∗ Owes c l
        ∗ atPos ER (cell c (some k)) 0 ∅ 0
        ∗ ((Owes c l ∗ atPos ER (cell c (some k)) 1 ∅ 0 ∗ payK xv wv (some k) false c) -∗ Q ⟨⟩))
      ⊢ wp frame (wpE (defs₀ (F := F)) 𝒱₀ c none) Set.univ (Prog.lift (.waitDma2 sm src dst hsrc hdst)) Q := by
  unfold Owes
  iintro ⟨#HR, #Hlev, Hc, ⟨%W, HO⟩, Hat, Hk⟩
  have hw := wpE_waitDma2_eq (defs := defs₀ (F := F)) (src := src) (dst := dst) (hsrc := hsrc) (hdst := hdst) (sem := sm) 𝒱₀ (c : Thread nD τ) none (Set.univ : Set ℕ) (Ix := Unit) (U := UU) (Lvl := ℕ)
  rw [hc, hs] at hw
  iapply (Rounds.wp_wait_rest_token 𝒱₀ ER (Rd xv wv) (c : Thread nD τ) none (κ := κ (cell c (some k)))
      hw (Set.mem_univ _) () (O := owe c l) (W := W) (R := 0) (m := 0) (T := ∅)
      ((Nat.zero_add _).trans (expect_one xv wv c (some k) hk).symm)) $$ [Hc HO Hat]
  · isplitr; · iapply (inv_at xv wv κ c (some k)); iexact HR
    isplitl [Hc]; · iexact Hc
    isplitl [HO]; · iexact HO
    isplitr; · iapply (mayWait c (some k) l hl); iexact Hlev
    iexact Hat
  iintro ⟨HO, Hat, -, Hpay⟩
  rw [wp_ret]
  imodintro
  iapply Hk
  isplitl [HO]; · iexists _; iexact HO
  isplitl [Hat]; · iexact Hat
  iapply (Entails.of_eq (rest_one xv wv c (some k) hk)); iexact Hpay

end sched

end Cert.KernelIdeal.Proto
-- ==== Proof.KernelIdeal.Steps.lean ====
module

public import proofs.«01_k».proof.Proof.KernelIdeal.Sched
public import Idealize.ShloMosaic.Lib.Pipeline.Value

@[expose] public section

noncomputable section

namespace Cert.KernelIdeal.Proto

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal
open Cert.KernelIdeal.Facts₀ Cert.KernelIdeal.Facts
open Cert.KernelIdeal.Loop Cert.KernelIdeal.Mesh

variable {F : FTy → Type} [FloatOps F]

local notation "𝕄" => MT nD τ sig Unit (Elt F) ℕ UU ℕ

/-- Running a program on device `c`'s core. -/
def WP (c : Dev nD) {α : Type} (p : TcProg F α) (Q : α → sProp 𝕄) : sProp 𝕄 :=
  wp frame (wpE (defs₀ (F := F)) 𝒱₀ c none) Set.univ p Q

theorem WP_bind (c : Dev nD) {α β : Type} (p : TcProg F α) (k : α → TcProg F β) (Q : β → sProp 𝕄) :
    WP c (p >>= k) Q = WP c p fun a => WP c (k a) Q := by
  unfold WP; exact wp_bind _ _ _ _ _ _

theorem WP_pure (c : Dev nD) {α : Type} (a : α) (Q : α → sProp 𝕄) : Q a ⊢ WP c (pure a : TcProg F α) Q := by
  unfold WP
  rw [Prog.pure_eq_ret, wp_ret]
  iintro H; imodintro; iexact H

/-- A load, holding elements that include the rectangle's. -/
theorem WP_load (c : Dev nD) {sp : CoreSpace} {S : Shape} {e : EltTy} {m : Memref sig .tc sp S e} {r : Rect S} {hl : m.view.LoadsAt r}
    {I : Finset (Idx ((m.access r).loc (c : Thread nD τ)))} {q : PosShare TreeShare} {f : Buf (Elt F) ((m.access r).loc (c : Thread nD τ))}
    (hI : (m.access r).set ⊆ I) (Q : (r.shape.Idx → Elt F e) → sProp 𝕄) :
    iprop(((m.access r).loc (c : Thread nD τ) ↦[I]{q} f)
        ∗ (((m.access r).loc (c : Thread nD τ) ↦[I]{q} f) -∗ Q ((m.access r).read (Elt F) f)))
      ⊢ WP c (Prog.lift (.load m r.toLoadRect hl)) Q := by
  unfold WP
  iintro ⟨H, HQ⟩
  iapply (wp_load_rect 𝒱₀ (c : Thread nD τ) none Set.univ hI) $$ [H]
  · iexact H
  iintro H
  rw [wp_ret]; imodintro
  iapply HQ; iexact H

/-- A whole store, holding elements that include the rectangle's. -/
theorem WP_store (c : Dev nD) {sp : CoreSpace} {S : Shape} {e : EltTy} {m : Memref sig .tc sp S e} {r : Rect S} {w : r.shape.Idx → Elt F e}
    {hx : (m.access r).Stores Finset.univ} {hm : (Finset.univ : Finset r.shape.Idx) = Finset.univ ∨ ∀ a, r.stride a = 1}
    {I : Finset (Idx ((m.access r).loc (c : Thread nD τ)))} {f : Buf (Elt F) ((m.access r).loc (c : Thread nD τ))}
    (hI : (m.access r).set ⊆ I) (Q : PUnit → sProp 𝕄) :
    iprop(((m.access r).loc (c : Thread nD τ) ↦[I]{fullShare} f)
        ∗ (((m.access r).loc (c : Thread nD τ) ↦[I]{fullShare} ((m.access r).write (Elt F) f w Finset.univ)) -∗ Q ⟨⟩))
      ⊢ WP c (Prog.lift (.store m r w Finset.univ hx hm)) Q := by
  unfold WP
  iintro ⟨H, HQ⟩
  iapply (wp_store 𝒱₀ (c : Thread nD τ) none Set.univ hI) $$ [H]
  · iexact H
  iintro H
  rw [wp_ret]; imodintro
  iapply HQ; iexact H

/-! ## Slots -/

theorem slot_set (a : Memref sig .tc .vmem S4x32x128x512 .f32) (s : Fin 4) (h : Fin 32) :
    (slotM a s h).view.set = (a.access (slotRect s h)).set := View.set_reshape _ _
theorem slot_read (a : Memref sig .tc .vmem S4x32x128x512 .f32) (s : Fin 4) (h : Fin 32) (f : a.view.ty.Contents (Elt F)) :
    (slotM a s h).view.read (Elt F) f = shapeCast S128x512 ((a.access (slotRect s h)).read (Elt F) f) shapeCasts_S1x1x128x512_S128x512 := rfl
theorem slot_write (a : Memref sig .tc .vmem S4x32x128x512 .f32) (s : Fin 4) (h : Fin 32) (f : a.view.ty.Contents (Elt F))
    (v : Vec F S128x512 .f32) :
    (slotM a s h).view.read (Elt F) ((a.access (slotRect s h)).write (Elt F) f (shapeCast S1x1x128x512 v shapeCasts_S128x512_S1x1x128x512) Finset.univ) = v := by
  rw [slot_read, View.read_write_univ]
  exact shapeCast_shapeCast _ _ _

/-- The first block of a stream is put in its slot. -/
theorem putFirst_wp (c : Dev nD) (s : Fin 4) (part : FVec F S128x512 .f32) (Q : PUnit → sProp 𝕄) :
    iprop(slotAny c s 0 ∗ (slotHas c s 0 part -∗ Q ⟨⟩)) ⊢ WP c (putFirst slots s part) Q := by
  unfold putFirst slotAny slotHas held
  iintro ⟨⟨%f, -, H⟩, HQ⟩
  rw [WP_bind]
  iapply (WP_load c (I := (slotM slots s 0).view.set) (le_of_eq (slot_set slots s 0).symm))
  isplitl [H]; · iexact H
  iintro H
  iapply (WP_store c (I := (slotM slots s 0).view.set) (le_of_eq (slot_set slots s 0).symm))
  isplitl [H]; · iexact H
  iintro H
  iapply HQ
  iexists _
  isplitr
  rotate_left
  · iexact H
  · ipureintro; exact slot_write slots s 0 f part

/-- The arrived block is added to the stream's slice. -/
theorem addSlot_wp (c : Dev nD) (s : Fin 4) (h : Fin 32) (part v : FVec F S128x512 .f32) (Q : PUnit → sProp 𝕄) :
    iprop(slotHas c s h v ∗ (slotHas c s h (addf v part) -∗ Q ⟨⟩)) ⊢ WP c (addSlot slots s h part) Q := by
  unfold addSlot slotHas held
  iintro ⟨⟨%f, %hf, H⟩, HQ⟩
  rw [WP_bind]
  iapply (WP_load c (I := (slotM slots s h).view.set) (le_of_eq (slot_set slots s h).symm))
  isplitl [H]; · iexact H
  iintro H
  rw [WP_bind]
  iapply (WP_load c (I := (slotM slots s h).view.set) (le_of_eq (slot_set slots s h).symm))
  isplitl [H]; · iexact H
  iintro H
  iapply (WP_store c (I := (slotM slots s h).view.set) (le_of_eq (slot_set slots s h).symm))
  isplitl [H]; · iexact H
  iintro H
  iapply HQ
  iexists _
  isplitr
  rotate_left
  · iexact H
  · ipureintro
    rw [← hf, ← slot_read]
    exact slot_write slots s h f _

/-- The result's block as the body holds it. -/
abbrev outM : Memref sig .tc .vmem S128x2048 .f32 := Memref.whole cc0_stg5_0

/-- Device `c`'s block of the result holds `f`. -/
def outHas (c : Dev nD) (f : Vec F S128x2048 .f32) : sProp 𝕄 :=
  shared (outM.view.loc (c : Thread nD τ)) Finset.univ fullShare f

/-- The block `f` with stream `s`'s columns replaced by `v`. -/
def setCols (s : Fin 4) (f : Vec F S128x2048 .f32) (v : Vec F S128x512 .f32) : Vec F S128x2048 .f32 :=
  (outM.access (outRect s)).write (Elt F) f v Finset.univ

/-- The last block of a stream is added to its slice and written to the result. -/
theorem addOut_wp (c : Dev nD) (s : Fin 4) (part v : FVec F S128x512 .f32) (o : Vec F S128x2048 .f32) (Q : PUnit → sProp 𝕄) :
    iprop(slotHas c s 31 v ∗ outHas c o ∗ ((slotAny c s 31 ∗ outHas c (setCols s o (addf v part))) -∗ Q ⟨⟩))
      ⊢ WP c (addOut outM slots s part) Q := by
  unfold addOut slotHas slotAny held outHas shared
  iintro ⟨⟨%f, %hf, H⟩, HO, HQ⟩
  rw [WP_bind]
  iapply (WP_load c (I := (slotM slots s 31).view.set) (le_of_eq (slot_set slots s 31).symm))
  isplitl [H]; · iexact H
  iintro H
  rw [WP_bind]
  iapply (WP_load c (I := Finset.univ) (Finset.subset_univ _))
  isplitl [HO]; · iexact HO
  iintro HO
  iapply (WP_store c (I := Finset.univ) (Finset.subset_univ _))
  isplitl [HO]; · iexact HO
  iintro HO
  iapply HQ
  isplitl [H]
  · iexists f; isplitr
    · ipureintro; trivial
    · iexact H
  · unfold setCols
    rw [← hf, slot_read]
    iexact HO

/-! ## Copies of blocks -/

section copies
variable (xv : Dev nD → Vec F S4096x128 .f32) (wv : Dev nD → Vec F S128x2048 .f32)

/-- The wait for the block arriving at hop `h`. -/
theorem waitSlot_wp {κ : GSem nD τ sig → ℕ} (c : Dev nD) (s : Fin 4) (h : Fin 32) (hh : h ≠ 0) (l : List (Option Sc × Bool))
    (hl : Above (2 + h.val) l) (Q : PUnit → sProp 𝕄) :
    iprop(records xv wv κ ∗ levAts L lv ∗ cred (tallyAt (cell c (some (.recv s h))) () nSlot) ∗ Owes c l
        ∗ atPos ER (cell c (some (.recv s h))) 0 ∅ 0
        ∗ ((Owes c l ∗ atPos ER (cell c (some (.recv s h))) 1 ∅ 0
            ∗ slotHas c s h (acc xv wv s (h.val - 1) (org s c)) ∗ extra s (rot (-(h + 1)) c) h.val) -∗ Q ⟨⟩))
      ⊢ WP c (waitSlot slots cc0_scratch2 s h) Q := by
  unfold WP waitSlot
  exact wp_waitOne xv wv c (.recv s h) (if_neg hh) l hl rfl (credit_slot s h) Q

/-- The wait for the end of the copy out of slot `(s, h)`. -/
theorem waitSent_wp {κ : GSem nD τ sig → ℕ} (c : Dev nD) (s : Fin 4) (h h' : Fin 32) (hh : h ≠ 31) (l : List (Option Sc × Bool))
    (hl : Above 0 l) (Q : PUnit → sProp 𝕄) :
    iprop(records xv wv κ ∗ levAts L lv ∗ cred (tallyAt (cell c (some (.send s h))) () nSlot) ∗ Owes c l
        ∗ atPos ER (cell c (some (.send s h))) 0 ∅ 0
        ∗ ((Owes c l ∗ atPos ER (cell c (some (.send s h))) 1 ∅ 0 ∗ slotAny c s h) -∗ Q ⟨⟩))
      ⊢ WP c (waitSent slots cc0_scratch1 s h h') Q := by
  unfold WP waitSent
  exact wp_waitOne xv wv c (.send s h) (if_neg hh) l hl rfl (credit_slot s h) Q

/-- The copy of slot `(s, h)` to the next device's next slot. -/
theorem sendSlot_wp {κ : GSem nD τ sig → ℕ} (c : Dev nD) (s : Fin 4) (h h' : Fin 32) (hh : h ≠ 31) (hh' : h' ≠ 0)
    (he : h'.val - 1 = h.val) (l : List (Option Sc × Bool)) (Q : PUnit → sProp 𝕄) :
    iprop(records xv wv κ ∗ Owes c ((some (.recv s h'), false) :: l) ∗ slotHas c s h (acc xv wv s h.val c)
        ∗ slotAny (tgt s c) s h' ∗ extra s (rot (-(h' + 1)) (tgt s c)) h'.val
        ∗ reached ER (cell c (some (.send s h))) 0 ∗ reached ER (cell (tgt s c) (some (.recv s h'))) 0
        ∗ dutyTok ER (cell c (some (.send s h))) 0 false ∗ dutyTok ER (cell (tgt s c) (some (.recv s h'))) 0 false
        ∗ ((Owes c l ∗ cred (tallyAt (cell c (some (.send s h))) () nSlot)) -∗ Q ⟨⟩))
      ⊢ WP c (sendSlot slots cc0_scratch1 cc0_scratch2 s h h' (tgt s c)) Q := by
  unfold WP sendSlot slotHas held Owes slotAny held
  iintro ⟨#HR, ⟨%W, HO⟩, ⟨%fs, %hfs, Hs⟩, ⟨%fd, -, Hd⟩, Hx, #HrS, #HrV, HtS, HtV, HQ⟩
  iapply (Rounds.wp_send_pointsTo_with 𝒱₀ ER (Rd xv wv) (c : Thread nD τ) none (c' := (tgt s c : Thread nD τ)) (src := slotM slots s h)
      (dst := slotM slots s h') (sS := semOf (some (.send s h))) (sem := semOf (some (.recv s h'))) (q := fullShare) (fs := fs) (fd := fd)
      (F := extra s (rot (-(h' + 1)) (tgt s c)) h'.val)
      (κ₁ := κ (cell c (some (.send s h)))) (κ₂ := κ (cell (tgt s c) (some (.recv s h')))) (r₁ := 0) (r₂ := 0) (d₁ := false) (d₂ := false)
      (by rw [duties_cell, show dutK (some (.send s h)) = {false} from if_neg hh]; exact Finset.mem_singleton_self _)
      (by rw [duties_cell, show dutK (some (.recv s h')) = {false} from if_neg hh']; exact Finset.mem_singleton_self _)
      () () nSlot (credit_slot s h') (amount_cell xv wv c _ _) (amount_cell xv wv _ _ _) (owe c l) rfl (W := W)
      (by rw [payload_cell]; unfold payK slotAny held; iintro H; iexists fs; isplitr
          · ipureintro; trivial
          · iexact H)
      (by rw [payload_cell]; unfold payK slotHas held; iintro ⟨H, Hx⟩
          isplitl [H]
          · iexists _; isplitr
            rotate_left
            · iexact H
            · ipureintro
              show _ = acc xv wv s (h'.val - 1) (rot (-(dir s)) (rot (dir s) c))
              rw [he, rot_neg_rot]
              exact (View.read_write_univ _ _).trans hfs
          · iexact Hx)) $$ [Hs Hd Hx HO HtS HtV]
  · isplitr; · iapply (inv_at xv wv κ c _); iexact HR
    isplitr; · iapply (inv_at xv wv κ (tgt s c) _); iexact HR
    isplitl [Hs]; · iexact Hs
    isplitl [Hd Hx]
    · isplitl [Hd]
      · iexact Hd
      · iexact Hx
    isplitl [HO]; · iexact HO
    isplitl [HtS]; · iexact HtS
    isplitr; · iexact HrS
    isplitl [HtV]; · iexact HtV
    iexact HrV
  iintro ⟨Hc, HO⟩
  rw [wp_ret]; imodintro
  iapply HQ
  isplitl [HO]; · iexists W; iexact HO
  iexact Hc

end copies

end Cert.KernelIdeal.Proto
-- ==== Proof.KernelIdeal.Hops.lean ====
module

public import proofs.«01_k».proof.Proof.KernelIdeal.Steps

@[expose] public section

noncomputable section

namespace Cert.KernelIdeal.Proto

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal
open Cert.KernelIdeal.Facts₀ Cert.KernelIdeal.Facts
open Cert.KernelIdeal.Loop Cert.KernelIdeal.Mesh

variable {F : FTy → Type} [FloatOps F]

local notation "𝕄" => MT nD τ sig Unit (Elt F) ℕ UU ℕ

/-! ## The operands -/

abbrev tabFM : Memref sig .tc .smem S32 .i32 := Memref.whole cc0_stg0_0
abbrev tabBM : Memref sig .tc .smem S32 .i32 := Memref.whole cc0_stg1_0
abbrev tabNM : Memref sig .tc .smem S7 .i32 := Memref.whole cc0_stg2_0
abbrev xM : Memref sig .tc .vmem S4096x128 .f32 := Memref.whole cc0_stg3_0
abbrev wM : Memref sig .tc .vmem S128x2048 .f32 := Memref.whole cc0_stg4_0

/-- The blocks the forward streams of device `c` work on, hop by hop. -/
def tabF (c : Dev nD) : Vec F S32 .i32 := fun i => BitVec.ofNat 32 (blkF (i 0) c).val
/-- The blocks the backward streams of device `c` work on, hop by hop. -/
def tabB (c : Dev nD) : Vec F S32 .i32 := fun i => BitVec.ofNat 32 (blkB (i 0) c).val

section operands
variable (xv : Dev nD → Vec F S4096x128 .f32) (wv : Dev nD → Vec F S128x2048 .f32)

/-- Device `c`'s operands of the products. -/
def ins (c : Dev nD) : sProp 𝕄 :=
  iprop(shared (tabFM.view.loc (c : Thread nD τ)) Finset.univ fullShare (tabF (F := F) c)
    ∗ shared (tabBM.view.loc (c : Thread nD τ)) Finset.univ fullShare (tabB (F := F) c)
    ∗ shared (xM.view.loc (c : Thread nD τ)) Finset.univ fullShare (xv c)
    ∗ shared (wM.view.loc (c : Thread nD τ)) Finset.univ fullShare (wv c))

/-- A word of a table. -/
theorem WP_word (c : Dev nD) {S : Shape} {m : Memref sig .tc .smem S .i32} {r : Rect S} {h1 : r.shape.numel = 1}
    {f : Buf (Elt F) ((m.access r).loc (c : Thread nD τ))} (Q : Elt F .i32 → sProp 𝕄) :
    iprop(((m.access r).loc (c : Thread nD τ) ↦[Finset.univ]{fullShare} f)
        ∗ (((m.access r).loc (c : Thread nD τ) ↦[Finset.univ]{fullShare} f)
          -∗ Q ((m.access r).read (Elt F) f (Shape.Idx.first (h1.symm ▸ Nat.one_pos)))))
      ⊢ WP c (smemLoad m r h1 rfl) Q := by
  unfold WP smemLoad
  iintro ⟨H, HQ⟩
  iapply (wp_smemLoadElt 𝒱₀ (c : Thread nD τ) none Set.univ (S := Finset.univ) (Finset.subset_univ _)) $$ [H]
  · iexact H
  iintro H
  rw [wp_ret]; imodintro
  iapply HQ; iexact H

/-- A checked proposition that holds. -/
theorem WP_assume (c : Dev nD) {P : Prop} {d : Decidable P} (h : P) (Q : PLift P → sProp 𝕄) :
    Q ⟨h⟩ ⊢ WP c (Prog.lift (TpuEff.assume P d)) Q := by
  unfold WP
  iintro HQ
  iapply (wp_assume 𝒱₀ (c : Thread nD τ) none Set.univ h)
  rw [wp_ret]; imodintro
  iexact HQ

theorem off1_eq : ∀ b : Fin 32, k0_off1 (BitVec.ofNat 32 b.val) = ![b.val * 128, 0] := by decide +kernel
theorem off2_eq : ∀ b : Fin 32, k0_off2 (BitVec.ofNat 32 b.val) = ![b.val * 128, 0] := by decide +kernel
theorem chk3_ok (b : Fin 32) : k0_chk3 (BitVec.ofNat 32 b.val) := by unfold k0_chk3; rw [off1_eq]; exact inbRows b
theorem chk4_ok (b : Fin 32) : k0_chk4 (BitVec.ofNat 32 b.val) := by unfold k0_chk4; rw [off2_eq]; exact inbRows b

theorem rows_read (f : xM.view.ty.Contents (Elt F)) (b : Fin 32) {o : Fin 2 → ℕ} (ho : o = ![b.val * 128, 0])
    (hi : ∀ a, o a + S128x128.size a ≤ S4096x128.size a) :
    (xM.access (Rect.unit (s := S4096x128) o S128x128.size hi)).read (Elt F) f = rowsOf f b := by
  subst ho; rfl

theorem cols_left (f : wM.view.ty.Contents (Elt F)) :
    (wM.access (Rect.unit (s := S128x2048) ![0, 0] S128x1024.size inb_S128x2048_S128x1024_0_0)).read (Elt F) f = colsL f := rfl
theorem cols_right (f : wM.view.ty.Contents (Elt F)) :
    (wM.access (Rect.unit (s := S128x2048) ![0, 1024] S128x1024.size inb_S128x2048_S128x1024_0_1024)).read (Elt F) f = colsR f := rfl

theorem tabF_read (c : Dev nD) (h : Fin 32) (x : S1.Idx) :
    (tabFM.access (Rect.unit (s := S32) ![h.val] S1.size (inbTab h))).read (Elt F) (tabF (F := F) c) x
      = BitVec.ofNat 32 (blkF h c).val := by
  show BitVec.ofNat 32 (blkF _ c).val = _
  congr 3
  apply Fin.ext
  have hx : (x 0).val = 0 := by have h2 : (x 0).val < 1 := (x 0).isLt; omega
  show h.val + 1 * (x 0).val = h.val
  omega
theorem tabB_read (c : Dev nD) (h : Fin 32) (x : S1.Idx) :
    (tabBM.access (Rect.unit (s := S32) ![h.val] S1.size (inbTab h))).read (Elt F) (tabB (F := F) c) x
      = BitVec.ofNat 32 (blkB h c).val := by
  show BitVec.ofNat 32 (blkB _ c).val = _
  congr 3
  apply Fin.ext
  have hx : (x 0).val = 0 := by have h2 : (x 0).val < 1 := (x 0).isLt; omega
  show h.val + 1 * (x 0).val = h.val
  omega

/-- The products of hop `h`. -/
theorem gemms_wp (c : Dev nD) (h : Fin 32) (Q : FVec F S128x1024 .f32 × FVec F S128x1024 .f32 → sProp 𝕄) :
    iprop(ins xv wv c ∗ (ins xv wv c -∗ Q (prods xv wv h c))) ⊢ WP c (gemms tabFM tabBM xM wM h) Q := by
  unfold gemms ins shared
  iintro ⟨⟨HF, HB, HX, HW⟩, HQ⟩
  rw [WP_bind]
  iapply (WP_word c (m := tabFM))
  isplitl [HF]; · iexact HF
  iintro HF
  rw [tabF_read, WP_bind]
  iapply (WP_assume c (chk3_ok (blkF h c)))
  rw [WP_bind]
  iapply (WP_word c (m := tabBM))
  isplitl [HB]; · iexact HB
  iintro HB
  rw [tabB_read, WP_bind]
  iapply (WP_assume c (chk4_ok (blkB h c)))
  rw [WP_bind]
  iapply (WP_load c (m := xM) (I := Finset.univ) (Finset.subset_univ _))
  isplitl [HX]; · iexact HX
  iintro HX
  rw [WP_bind]
  iapply (WP_load c (m := wM) (I := Finset.univ) (Finset.subset_univ _))
  isplitl [HW]; · iexact HW
  iintro HW
  rw [WP_bind]
  iapply (WP_load c (m := xM) (I := Finset.univ) (Finset.subset_univ _))
  isplitl [HX]; · iexact HX
  iintro HX
  rw [WP_bind]
  iapply (WP_load c (m := wM) (I := Finset.univ) (Finset.subset_univ _))
  isplitl [HW]; · iexact HW
  iintro HW
  iapply (WP_pure c)
  rw [rows_read (xv c) (blkF h c) (off1_eq _), rows_read (xv c) (blkB h c) (off2_eq _), cols_left, cols_right]
  rw [← prods]
  iapply HQ
  isplitl [HF]; · iexact HF
  isplitl [HB]; · iexact HB
  isplitl [HX]; · iexact HX
  iexact HW

end operands

end Cert.KernelIdeal.Proto
-- ==== Proof.KernelIdeal.Streams.lean ====
module

public import proofs.«01_k».proof.Proof.KernelIdeal.Hops
public import Idealize.SL.BI.BigOpNat

@[expose] public section

noncomputable section

namespace Cert.KernelIdeal.Proto

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal
open Cert.KernelIdeal.Facts₀ Cert.KernelIdeal.Facts
open Cert.KernelIdeal.Loop Cert.KernelIdeal.Mesh

variable {F : FTy → Type} [FloatOps F]

local notation "𝕄" => MT nD τ sig Unit (Elt F) ℕ UU ℕ

/-! ## What a device holds for the hops -/

abbrev no (i : ℕ) : Fin 32 := Fin.ofNat 32 i

theorem no_eq {h : ℕ} (hh : h < 32) : (⟨h, hh⟩ : Fin 32) = no h := Fin.ext (Nat.mod_eq_of_lt hh).symm
theorem no_val {h : ℕ} (hh : h < 32) : (no h).val = h := Nat.mod_eq_of_lt hh
theorem no_succ (h : ℕ) : no (h + 1) = no h + 1 := by
  apply Fin.ext; simp only [no, Fin.ofNat, Fin.val_add]; omega

/-- The right to receive block `i` of stream `s`. -/
def hopIn (c : Dev nD) (s : Fin 4) (i : ℕ) : sProp 𝕄 :=
  iprop(cred (tallyAt (cell c (some (.recv s (no i)))) () nSlot) ∗ atPos ER (cell c (some (.recv s (no i)))) 0 ∅ 0)

/-- What device `c` itself adds to what rides with a block of stream `s` from hop `i` on. -/
def give (c : Dev nD) (s : Fin 4) (i : ℕ) : sProp 𝕄 := if s = 0 then bfFor (rot (-(no i + 1)) c) c else iprop(emp)

/-- The means to send block `i` of stream `s`. -/
def hopOut (c : Dev nD) (s : Fin 4) (i : ℕ) : sProp 𝕄 :=
  iprop(slotAny (tgt s c) s (no (i + 1)) ∗ dutyTok ER (cell c (some (.send s (no i)))) 0 false
    ∗ dutyTok ER (cell (tgt s c) (some (.recv s (no (i + 1))))) 0 false ∗ give c s i)

/-- Block `i` of stream `s` has been received. -/
def inDone (c : Dev nD) (s : Fin 4) (i : ℕ) : sProp 𝕄 := atPos ER (cell c (some (.recv s (no i)))) 1 ∅ 0
/-- Block `i` of stream `s` has been sent. -/
def outDone (c : Dev nD) (s : Fin 4) (i : ℕ) : sProp 𝕄 := cred (tallyAt (cell c (some (.send s (no i)))) () nSlot)

/-- The same for all four streams. -/
def all4 (P : Fin 4 → sProp 𝕄) : sProp 𝕄 := iprop(P 0 ∗ P 1 ∗ P 2 ∗ P 3)

/-- The opened cells of a device and of its neighbours, and the records. -/
def known (xv : Dev nD → Vec F S4096x128 .f32) (wv : Dev nD → Vec F S128x2048 .f32) (κ : GSem nD τ sig → ℕ) (c : Dev nD) : sProp 𝕄 :=
  iprop(records xv wv κ ∗ levAts L lv ∗ allReached c ∗ allReached (rot 1 c) ∗ allReached (rot (-1) c))

instance known_persistent (xv : Dev nD → Vec F S4096x128 .f32) (wv) (κ) (c) : BI.Persistent (known (F := F) xv wv κ c) := by
  unfold known; infer_instance

theorem take_first (P : ℕ → sProp 𝕄) (h n : ℕ) :
    bigSep (Finset.Ico h (h + (n + 1))) P = iprop(P h ∗ bigSep (Finset.Ico (h + 1) (h + 1 + n)) P) := by
  rw [show h + (n + 1) = h + 1 + n by omega]
  exact bigSep_Ico_succ_bot (by omega) P

theorem take_last (P : ℕ → sProp 𝕄) (h : ℕ) (hh : 1 ≤ h) :
    bigSep (Finset.Ico 1 (h + 1)) P = iprop(P h ∗ bigSep (Finset.Ico 1 h) P) :=
  bigSep_Ico_succ_top hh P

theorem fneg_succ : ∀ a : Fin 32, 1 + -(a + 1 + 1) = -(a + 1) := by decide

section hops
variable (xv : Dev nD → Vec F S4096x128 .f32) (wv : Dev nD → Vec F S128x2048 .f32)

theorem known_tgt (κ : GSem nD τ sig → ℕ) (c : Dev nD) (s : Fin 4) : known xv wv κ c ⊢ allReached (tgt s c) := by
  unfold known
  fin_cases s
  · iintro ⟨-, -, -, #H, -⟩; iexact H
  · iintro ⟨-, -, -, -, #H⟩; iexact H
  · iintro ⟨-, -, -, #H, -⟩; iexact H
  · iintro ⟨-, -, -, -, #H⟩; iexact H

theorem acc_step (s : Fin 4) (h : ℕ) (c : Dev nD) :
    acc xv wv s (h + 1) c = addf (acc xv wv s h (org s c)) (partOf s (prods xv wv (no (h + 1)) c)) := rfl

/-- What rides with a block grows by the device's own part. -/
theorem extra_step (c : Dev nD) (s : Fin 4) (i : ℕ) (hi : i < 31) :
    iprop(extra s (rot (-(no i + 1)) c) i ∗ give c s i) ⊢ (extra s (rot (-(no (i + 1) + 1)) (tgt s c)) (i + 1) : sProp 𝕄) := by
  unfold extra give
  by_cases hs : s = 0
  · subst hs
    rw [if_pos rfl, if_pos rfl, if_pos rfl]
    unfold pack
    have e : rot (-(no (i + 1) + 1)) (tgt 0 c) = rot (-(no i + 1)) c := by
      show rot (-(no (i + 1) + 1)) (rot 1 c) = _
      rw [rot_rot, no_succ, fneg_succ]
    have e2 : rot (no (i + 1)) (rot (-(no i + 1)) c) = c := by
      rw [no_succ]; exact rot_rot_neg _ _
    refine (sep_comm (PROP := sProp 𝕄)).1.trans (Entails.of_eq ?_)
    rw [e, take_last _ (i + 1) (by omega), show Fin.ofNat 32 (i + 1) = no (i + 1) from rfl, e2]
  · rw [if_neg hs, if_neg hs, if_neg hs]
    iintro ⟨H, -⟩; iexact H

theorem extra_zero (t : Dev nD) (h : ℕ) : (extra 0 t h : sProp 𝕄) = pack t h := if_pos rfl

/-- One stream at a hop in the middle. -/
theorem streamMid_wp (κ : GSem nD τ sig → ℕ) (c : Dev nD) (s : Fin 4) (h : ℕ) (hh : h + 1 < 31) (l : List (Option Sc × Bool))
    (hl : Above (2 + (h + 1)) ((some (.recv s (no (h + 2))), false) :: l)) (dst : Dev nD) (hd : dst = tgt s c) (Q : PUnit → sProp 𝕄) :
    iprop(known xv wv κ c ∗ Owes c ((some (.recv s (no (h + 2))), false) :: l) ∗ hopIn c s (h + 1) ∗ hopOut c s (h + 1)
        ∗ ((Owes c l ∗ inDone c s (h + 1) ∗ outDone c s (h + 1)) -∗ Q ⟨⟩))
      ⊢ WP c (streamMid slots cc0_scratch1 cc0_scratch2 (prods xv wv (no (h + 1)) c) s (no (h + 1)) (no (h + 2)) dst) Q := by
  subst hd
  unfold streamMid hopIn hopOut inDone outDone
  have v1 : (no (h + 1)).val = h + 1 := no_val (by omega)
  have v2 : (no (h + 2)).val = h + 2 := no_val (by omega)
  have n1 : no (h + 1) ≠ 0 := fun e => by have := congrArg Fin.val e; rw [v1] at this; exact absurd this (by simp)
  have n2 : no (h + 2) ≠ 0 := fun e => by have := congrArg Fin.val e; rw [v2] at this; exact absurd this (by simp)
  have n3 : no (h + 1) ≠ 31 := fun e => by have := congrArg Fin.val e; rw [v1] at this; simp at this; omega
  iintro ⟨#HK, HO, ⟨Hc, Hat⟩, ⟨Hd, HtS, HtV, Hg⟩, HQ⟩
  ihave #HT := (known_tgt xv wv κ c s) $$ HK
  unfold known
  icases HK with ⟨#HR, #Hlev, #HA, -, -⟩
  rw [WP_bind]
  iapply (waitSlot_wp xv wv (κ := κ) c s (no (h + 1)) n1 _ (by rw [v1]; exact hl))
  isplitr; · iexact HR
  isplitr; · iexact Hlev
  isplitl [Hc]; · iexact Hc
  isplitl [HO]; · iexact HO
  isplitl [Hat]; · iexact Hat
  iintro ⟨HO, Hat, Hs, Hx⟩
  rw [v1, WP_bind]
  iapply (addSlot_wp c s (no (h + 1)))
  isplitl [Hs]; · iexact Hs
  iintro Hs
  rw [show h + 1 - 1 = h from rfl, ← acc_step]
  iapply (sendSlot_wp xv wv (κ := κ) c s (no (h + 1)) (no (h + 2)) n3 n2 (by rw [v1, v2]; rfl) l)
  rw [v1, v2]
  isplitr; · iexact HR
  isplitl [HO]; · iexact HO
  isplitl [Hs]; · iexact Hs
  isplitl [Hd]; · iexact Hd
  isplitl [Hx Hg]
  · iapply (extra_step c s (h + 1) (by omega))
    isplitl [Hx]
    · iexact Hx
    · iexact Hg
  isplitr; · iapply (allReached_at c (.send s (no (h + 1)))); iexact HA
  isplitr; · iapply (allReached_at (tgt s c) (.recv s (no (h + 2)))); iexact HT
  isplitl [HtS]; · iexact HtS
  isplitl [HtV]; · iexact HtV
  iintro ⟨HO, Hc⟩
  iapply HQ
  isplitl [HO]; · iexact HO
  isplitl [Hat]; · iexact Hat
  iexact Hc

theorem no0 : no 0 = 0 := rfl

/-- One stream at the first hop. -/
theorem stream0_wp (κ : GSem nD τ sig → ℕ) (c : Dev nD) (s : Fin 4) (l : List (Option Sc × Bool))
    (dst : Dev nD) (hd : dst = tgt s c) (Q : PUnit → sProp 𝕄) :
    iprop(known xv wv κ c ∗ Owes c ((some (.recv s (no 1)), false) :: l) ∗ slotAny c s 0 ∗ hopOut c s 0
        ∗ ((Owes c l ∗ outDone c s 0) -∗ Q ⟨⟩))
      ⊢ WP c (stream0 slots cc0_scratch1 cc0_scratch2 (prods xv wv 0 c) s dst) Q := by
  subst hd
  unfold stream0 hopOut outDone
  iintro ⟨#HK, HO, Hs, ⟨Hd, HtS, HtV, Hg⟩, HQ⟩
  ihave #HT := (known_tgt xv wv κ c s) $$ HK
  unfold known
  icases HK with ⟨#HR, #Hlev, #HA, -, -⟩
  rw [WP_bind]
  iapply (putFirst_wp c s)
  isplitl [Hs]; · iexact Hs
  iintro Hs
  iapply (sendSlot_wp xv wv (κ := κ) c s 0 1 (by decide) (by decide) rfl l)
  isplitr; · iexact HR
  isplitl [HO]; · iexact HO
  isplitl [Hs]; · iexact Hs
  isplitl [Hd]; · iexact Hd
  isplitl [Hg]
  · iapply (extra_step c s 0 (by omega))
    isplitr
    · unfold extra pack
      by_cases hs : s = 0
      · rw [if_pos hs, show Finset.Ico 1 (0 + 1) = ∅ from rfl, bigSep_empty]; iempintro
      · rw [if_neg hs]; iempintro
    · iexact Hg
  isplitr; · iapply (allReached_at c (.send s 0)); iexact HA
  isplitr; · iapply (allReached_at (tgt s c) (.recv s 1)); iexact HT
  isplitl [HtS]; · iexact HtS
  isplitl [HtV]; · iexact HtV
  iintro ⟨HO, Hc⟩
  iapply HQ
  isplitl [HO]; · iexact HO
  iexact Hc

/-- One stream at the last hop. -/
theorem streamLast_wp (κ : GSem nD τ sig → ℕ) (c : Dev nD) (s : Fin 4) (l : List (Option Sc × Bool)) (hl : Above 33 l)
    (o : Vec F S128x2048 .f32) (Q : PUnit → sProp 𝕄) :
    iprop(known xv wv κ c ∗ Owes c l ∗ hopIn c s 31 ∗ outHas c o
        ∗ ((Owes c l ∗ inDone c s 31 ∗ slotAny c s 31 ∗ extra s c 31 ∗ outHas c (setCols s o (acc xv wv s 31 c))) -∗ Q ⟨⟩))
      ⊢ WP c (streamLast outM slots cc0_scratch2 (prods xv wv (no 31) c) s) Q := by
  unfold streamLast hopIn inDone
  iintro ⟨#HK, HO, ⟨Hc, Hat⟩, Hout, HQ⟩
  unfold known
  icases HK with ⟨#HR, #Hlev, -, -, -⟩
  rw [WP_bind]
  iapply (waitSlot_wp xv wv (κ := κ) c s 31 (by decide) l hl)
  isplitr; · iexact HR
  isplitr; · iexact Hlev
  isplitl [Hc]; · iexact Hc
  isplitl [HO]; · iexact HO
  isplitl [Hat]; · iexact Hat
  iintro ⟨HO, Hat, Hs, Hx⟩
  iapply (addOut_wp c s)
  isplitl [Hs]; · iexact Hs
  isplitl [Hout]; · iexact Hout
  iintro ⟨Hs, Hout⟩
  iapply HQ
  isplitl [HO]; · iexact HO
  isplitl [Hat]; · iexact Hat
  isplitl [Hs]; · iexact Hs
  isplitl [Hx]
  · rw [show rot (-(31 + 1)) c = c from rot_zero c]; iexact Hx
  · iexact Hout

/-- All four streams at a hop in the middle, and the next products. -/
theorem hopMid_wp (κ : GSem nD τ sig → ℕ) (c : Dev nD) (h n : ℕ) (hh : h + 1 < 31) (hn : h + 3 + n ≤ 32)
    (Q : FVec F S128x1024 .f32 × FVec F S128x1024 .f32 → sProp 𝕄) :
    iprop(known xv wv κ c ∗ Owes c (hopDues (n + 1) (h + 2) (exDues 31 1 endDues)) ∗ ins xv wv c
        ∗ all4 (fun s => iprop(hopIn c s (h + 1) ∗ hopOut c s (h + 1)))
        ∗ ((Owes c (hopDues n (h + 3) (exDues 31 1 endDues)) ∗ ins xv wv c
            ∗ all4 (fun s => iprop(inDone c s (h + 1) ∗ outDone c s (h + 1)))) -∗ Q (prods xv wv (no (h + 2)) c)))
      ⊢ WP c (hopMid tabFM tabBM xM wM slots cc0_scratch1 cc0_scratch2 (prods xv wv (no (h + 1)) c) (no (h + 1)) (no (h + 2)) (rot 1 c) (rot (-1) c)) Q := by
  unfold hopMid all4
  have a0 : Above (2 + (h + 1)) (hopDues (n + 1) (h + 2) (exDues 31 1 endDues)) :=
    above_hops (by omega) (n + 1) (h + 2) (by omega) (by omega)
  iintro ⟨#HK, HO, Hins, ⟨⟨Hi0, Ho0⟩, ⟨Hi1, Ho1⟩, ⟨Hi2, Ho2⟩, ⟨Hi3, Ho3⟩⟩, HQ⟩
  rw [WP_bind]
  iapply (streamMid_wp xv wv κ c 0 h hh _ a0 (rot 1 c) rfl)
  isplitr; · iexact HK
  isplitl [HO]; · iexact HO
  isplitl [Hi0]; · iexact Hi0
  isplitl [Ho0]; · iexact Ho0
  iintro ⟨HO, Hi0, Ho0⟩
  rw [WP_bind]
  iapply (streamMid_wp xv wv κ c 1 h hh _ a0.tail (rot (-1) c) rfl)
  isplitr; · iexact HK
  isplitl [HO]; · iexact HO
  isplitl [Hi1]; · iexact Hi1
  isplitl [Ho1]; · iexact Ho1
  iintro ⟨HO, Hi1, Ho1⟩
  rw [WP_bind]
  iapply (streamMid_wp xv wv κ c 2 h hh _ a0.tail.tail (rot 1 c) rfl)
  isplitr; · iexact HK
  isplitl [HO]; · iexact HO
  isplitl [Hi2]; · iexact Hi2
  isplitl [Ho2]; · iexact Ho2
  iintro ⟨HO, Hi2, Ho2⟩
  rw [WP_bind]
  iapply (streamMid_wp xv wv κ c 3 h hh _ a0.tail.tail.tail (rot (-1) c) rfl)
  isplitr; · iexact HK
  isplitl [HO]; · iexact HO
  isplitl [Hi3]; · iexact Hi3
  isplitl [Ho3]; · iexact Ho3
  iintro ⟨HO, Hi3, Ho3⟩
  iapply (gemms_wp xv wv c (no (h + 2)))
  isplitl [Hins]; · iexact Hins
  iintro Hins
  iapply HQ
  isplitl [HO]; · iexact HO
  isplitl [Hins]; · iexact Hins
  isplitl [Hi0 Ho0]
  · isplitl [Hi0]
    · iexact Hi0
    · iexact Ho0
  isplitl [Hi1 Ho1]
  · isplitl [Hi1]
    · iexact Hi1
    · iexact Ho1
  isplitl [Hi2 Ho2]
  · isplitl [Hi2]
    · iexact Hi2
    · iexact Ho2
  isplitl [Hi3]
  · iexact Hi3
  · iexact Ho3

/-- The first hop, and the second hop's products. -/
theorem hop0_wp (κ : GSem nD τ sig → ℕ) (c : Dev nD) (Q : FVec F S128x1024 .f32 × FVec F S128x1024 .f32 → sProp 𝕄) :
    iprop(known xv wv κ c ∗ Owes c (hopDues 31 1 (exDues 31 1 endDues)) ∗ ins xv wv c
        ∗ all4 (fun s => iprop(slotAny c s 0 ∗ hopOut c s 0))
        ∗ ((Owes c (hopDues 30 2 (exDues 31 1 endDues)) ∗ ins xv wv c
            ∗ all4 (fun s => outDone c s 0)) -∗ Q (prods xv wv (no 1) c)))
      ⊢ WP c (hop0 tabFM tabBM xM wM slots cc0_scratch1 cc0_scratch2 (prods xv wv 0 c) (rot 1 c) (rot (-1) c)) Q := by
  unfold hop0 all4
  iintro ⟨#HK, HO, Hins, ⟨⟨Hi0, Ho0⟩, ⟨Hi1, Ho1⟩, ⟨Hi2, Ho2⟩, ⟨Hi3, Ho3⟩⟩, HQ⟩
  rw [WP_bind]
  iapply (stream0_wp xv wv κ c 0 _ (rot 1 c) rfl)
  isplitr; · iexact HK
  isplitl [HO]; · iexact HO
  isplitl [Hi0]; · iexact Hi0
  isplitl [Ho0]; · iexact Ho0
  iintro ⟨HO, Ho0⟩
  rw [WP_bind]
  iapply (stream0_wp xv wv κ c 1 _ (rot (-1) c) rfl)
  isplitr; · iexact HK
  isplitl [HO]; · iexact HO
  isplitl [Hi1]; · iexact Hi1
  isplitl [Ho1]; · iexact Ho1
  iintro ⟨HO, Ho1⟩
  rw [WP_bind]
  iapply (stream0_wp xv wv κ c 2 _ (rot 1 c) rfl)
  isplitr; · iexact HK
  isplitl [HO]; · iexact HO
  isplitl [Hi2]; · iexact Hi2
  isplitl [Ho2]; · iexact Ho2
  iintro ⟨HO, Ho2⟩
  rw [WP_bind]
  iapply (stream0_wp xv wv κ c 3 _ (rot (-1) c) rfl)
  isplitr; · iexact HK
  isplitl [HO]; · iexact HO
  isplitl [Hi3]; · iexact Hi3
  isplitl [Ho3]; · iexact Ho3
  iintro ⟨HO, Ho3⟩
  iapply (gemms_wp xv wv c 1)
  isplitl [Hins]; · iexact Hins
  iintro Hins
  iapply HQ
  isplitl [HO]; · iexact HO
  isplitl [Hins]; · iexact Hins
  isplitl [Ho0]; · iexact Ho0
  isplitl [Ho1]; · iexact Ho1
  isplitl [Ho2]; · iexact Ho2
  iexact Ho3

/-- The hops between the first and the last. -/
theorem hops_wp (κ : GSem nD τ sig → ℕ) (c : Dev nD) : ∀ (n h : ℕ) (hn : h + 1 + n < 32)
    (Q : FVec F S128x1024 .f32 × FVec F S128x1024 .f32 → sProp 𝕄),
    iprop(known xv wv κ c ∗ Owes c (hopDues n (h + 2) (exDues 31 1 endDues)) ∗ ins xv wv c
        ∗ bigSep (Finset.Ico (h + 1) (h + 1 + n)) (fun i => all4 (fun s => iprop(hopIn c s i ∗ hopOut c s i)))
        ∗ ((Owes c (exDues 31 1 endDues) ∗ ins xv wv c
            ∗ bigSep (Finset.Ico (h + 1) (h + 1 + n)) (fun i => all4 (fun s => iprop(inDone c s i ∗ outDone c s i))))
          -∗ Q (prods xv wv (no (h + 1 + n)) c)))
      ⊢ WP c (hops tabFM tabBM xM wM slots cc0_scratch1 cc0_scratch2 n (h + 1) hn (prods xv wv (no (h + 1)) c) (rot 1 c) (rot (-1) c)) Q
  | 0, h, hn, Q => by
    unfold hops
    rw [show h + 1 + 0 = h + 1 from rfl, Finset.Ico_self, bigSep_empty, bigSep_empty]
    iintro ⟨-, HO, Hins, H, HQ⟩
    iapply (WP_pure c)
    iapply HQ
    isplitl [HO]; · iexact HO
    isplitl [Hins]; · iexact Hins
    iexact H
  | n + 1, h, hn, Q => by
    unfold hops
    rw [no_eq (h := h + 1) (by omega), no_eq (h := h + 1 + 1) (by omega), take_first, take_first, WP_bind]
    iintro ⟨#HK, HO, Hins, ⟨H0, H⟩, HQ⟩
    iapply (hopMid_wp xv wv κ c h n (by omega) (by omega))
    isplitr; · iexact HK
    isplitl [HO]; · iexact HO
    isplitl [Hins]; · iexact Hins
    isplitl [H0]; · iexact H0
    iintro ⟨HO, Hins, H0⟩
    iapply (hops_wp κ c n (h + 1) _ Q)
    isplitr; · iexact HK
    isplitl [HO]; · iexact HO
    isplitl [Hins]; · iexact Hins
    isplitl [H]; · iexact H
    iintro ⟨HO, Hins, H⟩
    rw [show h + 1 + 1 + n = h + 1 + (n + 1) by omega]
    iapply HQ
    isplitl [HO]; · iexact HO
    isplitl [Hins]; · iexact Hins
    isplitl [H0]; · iexact H0
    iexact H

/-- The last hop: the four streams' columns of the result. -/
theorem hopLast_wp (κ : GSem nD τ sig → ℕ) (c : Dev nD) (l : List (Option Sc × Bool)) (hl : Above 33 l)
    (o : Vec F S128x2048 .f32) (Q : PUnit → sProp 𝕄) :
    iprop(known xv wv κ c ∗ Owes c l ∗ outHas c o ∗ all4 (fun s => hopIn c s 31)
        ∗ ((Owes c l ∗ all4 (fun s => iprop(inDone c s 31 ∗ slotAny c s 31)) ∗ pack c 31
            ∗ outHas c (setCols 3 (setCols 2 (setCols 1 (setCols 0 o (acc xv wv 0 31 c)) (acc xv wv 1 31 c)) (acc xv wv 2 31 c)) (acc xv wv 3 31 c)))
          -∗ Q ⟨⟩))
      ⊢ WP c (hopLast outM slots cc0_scratch2 (prods xv wv (no 31) c)) Q := by
  unfold hopLast all4
  iintro ⟨#HK, HO, Hout, ⟨H0, H1, H2, H3⟩, HQ⟩
  rw [WP_bind]
  iapply (streamLast_wp xv wv κ c 0 l hl)
  isplitr; · iexact HK
  isplitl [HO]; · iexact HO
  isplitl [H0]; · iexact H0
  isplitl [Hout]; · iexact Hout
  iintro ⟨HO, H0, S0, HP, Hout⟩
  rw [WP_bind]
  iapply (streamLast_wp xv wv κ c 1 l hl)
  isplitr; · iexact HK
  isplitl [HO]; · iexact HO
  isplitl [H1]; · iexact H1
  isplitl [Hout]; · iexact Hout
  iintro ⟨HO, H1, S1, -, Hout⟩
  rw [WP_bind]
  iapply (streamLast_wp xv wv κ c 2 l hl)
  isplitr; · iexact HK
  isplitl [HO]; · iexact HO
  isplitl [H2]; · iexact H2
  isplitl [Hout]; · iexact Hout
  iintro ⟨HO, H2, S2, -, Hout⟩
  iapply (streamLast_wp xv wv κ c 3 l hl)
  isplitr; · iexact HK
  isplitl [HO]; · iexact HO
  isplitl [H3]; · iexact H3
  isplitl [Hout]; · iexact Hout
  iintro ⟨HO, H3, S3, -, Hout⟩
  iapply HQ
  isplitl [HO]; · iexact HO
  isplitl [H0 H1 H2 H3 S0 S1 S2 S3]
  · isplitl [H0 S0]
    · isplitl [H0]
      · iexact H0
      · iexact S0
    isplitl [H1 S1]
    · isplitl [H1]
      · iexact H1
      · iexact S1
    isplitl [H2 S2]
    · isplitl [H2]
      · iexact H2
      · iexact S2
    isplitl [H3]
    · iexact H3
    · iexact S3
  isplitl [HP]
  · iapply (Entails.of_eq (extra_zero c 31)); iexact HP
  · iexact Hout

end hops

end Cert.KernelIdeal.Proto
-- ==== Proof.KernelIdeal.Exch.lean ====
module

public import proofs.«01_k».proof.Proof.KernelIdeal.Streams

@[expose] public section

noncomputable section

namespace Cert.KernelIdeal.Proto

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal
open Cert.KernelIdeal.Facts₀ Cert.KernelIdeal.Facts
open Cert.KernelIdeal.Loop Cert.KernelIdeal.Mesh

variable {F : FTy → Type} [FloatOps F]

local notation "𝕄" => MT nD τ sig Unit (Elt F) ℕ UU ℕ

/-! ## The exchange of the maxima -/

/-- The whole of a buffer at contents not chosen. -/
def wholeAny (ℓ : Loc nD τ sig) : sProp 𝕄 := held ℓ Finset.univ fun _ => True

abbrev maxM : Memref sig .tc .vmem S8x128 .f32 := Memref.whole cc0_stg6_0

/-- The maximum's staging buffer, holding `f`. -/
def maxHas (c : Dev nD) (f : Vec F S8x128 .f32) : sProp 𝕄 := shared (maxM.view.loc (c : Thread nD τ)) Finset.univ fullShare f

/-- What device `c` needs to send its maximum `j` places on, but for the maximum itself. -/
def exOut (c : Dev nD) (j : ℕ) : sProp 𝕄 :=
  iprop((bfAny (c + no j) (no j) ∗ allReached (c + no j)) ∗ dutyTok ER (cell c (some (.bfs (no j)))) 0 false
    ∗ dutyTok ER (cell (c + no j) (some (.bfr (no j)))) 0 false)
/-- The right to receive the maximum from `j` places back. -/
def exIn (c : Dev nD) (j : ℕ) : sProp 𝕄 :=
  iprop(cred (tallyAt (cell c (some (.bfr (no j)))) () nBf) ∗ atPos ER (cell c (some (.bfr (no j)))) 0 ∅ 0)
/-- The maximum from `j` places back has been received. -/
def exGot (c : Dev nD) (j : ℕ) : sProp 𝕄 := iprop(atPos ER (cell c (some (.bfr (no j)))) 1 ∅ 0 ∗ bfAny c (no j))
/-- The maximum has been sent `j` places on. -/
def exSent (c : Dev nD) (j : ℕ) : sProp 𝕄 := cred (tallyAt (cell c (some (.bfs (no j)))) () nBf)

section exch
variable (xv : Dev nD → Vec F S4096x128 .f32) (wv : Dev nD → Vec F S128x2048 .f32)

theorem bf_set (a : Memref sig .tc .vmem S32x8x128 .f32) (j : Fin 32) :
    (bfM a j).view.set = (a.access (bfRect j)).set := View.set_reshape _ _
theorem bf_read (a : Memref sig .tc .vmem S32x8x128 .f32) (j : Fin 32) (f : a.view.ty.Contents (Elt F)) :
    (bfM a j).view.read (Elt F) f = shapeCast S8x128 ((a.access (bfRect j)).read (Elt F) f) shapeCasts_S1x8x128_S8x128 := rfl

theorem src_read (a : F .f32) : (bfSrcM bfSrc).view.read (Elt F) (fun _ => a) = fun _ => a := rfl

theorem add_sub_self' (c : Dev nD) (j : Fin 32) : c + j - j = c := by
  apply Fin.ext; simp only [Fin.val_add, Fin.val_sub]; have := c.isLt; have := j.isLt; simp only [nD] at *; omega

theorem pay_bfs (c : Dev nD) (j : ℕ) (v : (no j).val = j) :
    (payK xv wv (some (.bfs (no j))) false c : sProp 𝕄) ⊢ srcPt c (Transfers.shareTokN fullShare j) (am xv wv c) := by
  show srcPt c (Transfers.shareTokN fullShare (no j).val) (am xv wv c) ⊢ _
  rw [v]
theorem bfs_pay (c : Dev nD) (j : ℕ) (v : (no j).val = j) :
    (srcPt c (Transfers.shareTokN fullShare j) (am xv wv c) : sProp 𝕄) ⊢ payK xv wv (some (.bfs (no j))) false c := by
  show _ ⊢ srcPt c (Transfers.shareTokN fullShare (no j).val) (am xv wv c)
  rw [v]

/-- The copy of the maximum to the device `j` places on. -/
theorem exSendTo_wp (κ : GSem nD τ sig → ℕ) (c u : Dev nD) (j : ℕ) (hj : 1 ≤ j) (hj' : j < 32) (hu : u = c + no j)
    (l : List (Option Sc × Bool)) {hv hw hx} (Q : PUnit → sProp 𝕄) :
    iprop(known xv wv κ c ∗ Owes c ((some (.bfr (no j)), false) :: l) ∗ exOut c j ∗ srcPt c (Transfers.shareTokN fullShare j) (am xv wv c)
        ∗ ((Owes c l ∗ exSent c j) -∗ Q ⟨⟩))
      ⊢ WP c (Prog.lift (.enqueueDma (bfSrcM bfSrc) (.remote (Dev.tc u) (bfM bfBuf (no j)) (.dma (bfSemM cc0_scratch5 (no j)).sem))
          (.dma (bfSemM cc0_scratch6 (no j)).sem) hv hw hx)) Q := by
  subst hu
  have v : (no j).val = j := no_val hj'
  have n : no j ≠ 0 := fun e => by have := congrArg Fin.val e; rw [v] at this; simp at this; omega
  unfold WP exOut srcPt shared bfAny held Owes exSent known
  iintro ⟨⟨#HR, -, #HA, -, -⟩, ⟨%W, HO⟩, ⟨⟨⟨%fd, -, Hd⟩, #HT⟩, HtS, HtV⟩, Hs, HQ⟩
  iapply (Rounds.wp_send_pointsTo 𝒱₀ ER (Rd xv wv) (c : Thread nD τ) none (c' := ((c + no j : Dev nD) : Thread nD τ)) (src := bfSrcM bfSrc)
      (dst := bfM bfBuf (no j)) (sS := semOf (some (.bfs (no j)))) (sem := semOf (some (.bfr (no j)))) (q := Transfers.shareTokN fullShare j)
      (fs := fun _ => am xv wv c) (fd := fd)
      (κ₁ := κ (cell c (some (.bfs (no j))))) (κ₂ := κ (cell (c + no j) (some (.bfr (no j))))) (r₁ := 0) (r₂ := 0) (d₁ := false) (d₂ := false)
      (by rw [duties_cell, show dutK (some (.bfs (no j))) = {false} from if_neg n]; exact Finset.mem_singleton_self _)
      (by rw [duties_cell, show dutK (some (.bfr (no j))) = {false} from if_neg n]; exact Finset.mem_singleton_self _)
      () () nBf (credit_bf (no j)) (amount_cell xv wv c _ _) (amount_cell xv wv _ _ _) (owe c l) rfl (W := W)
      (by rw [payload_cell]; exact bfs_pay xv wv c j v)
      (by rw [payload_cell]; unfold payK bfHas held; iintro H
          iexists _; isplitr
          rotate_left
          · iexact H
          · ipureintro
            show _ = fun _ => am xv wv (c + no j - no j)
            rw [add_sub_self']
            exact (View.read_write_univ _ _).trans (src_read _))) $$ [Hs Hd HO HtS HtV]
  · isplitr; · iapply (inv_at xv wv κ c _); iexact HR
    isplitr; · iapply (inv_at xv wv κ (c + no j) _); iexact HR
    isplitl [Hs]; · iexact Hs
    isplitl [Hd]; · iexact Hd
    isplitl [HO]; · iexact HO
    isplitl [HtS]; · iexact HtS
    isplitr; · iapply (allReached_at c (.bfs (no j))); iexact HA
    isplitl [HtV]; · iexact HtV
    iapply (allReached_at (c + no j) (.bfr (no j))); iexact HT
  iintro ⟨Hc, HO⟩
  rw [wp_ret]; imodintro
  iapply HQ
  isplitl [HO]; · iexists W; iexact HO
  iexact Hc

theorem exSend_wp (κ : GSem nD τ sig → ℕ) (c : Dev nD) (j : ℕ) (hj : 1 ≤ j) (hj' : j < 32) (l : List (Option Sc × Bool)) (Q : PUnit → sProp 𝕄) :
    iprop(known xv wv κ c ∗ Owes c ((some (.bfr (no j)), false) :: l) ∗ exOut c j ∗ srcPt c (Transfers.shareTokN fullShare j) (am xv wv c)
        ∗ ((Owes c l ∗ exSent c j) -∗ Q ⟨⟩))
      ⊢ WP c (exSend bfSrc bfBuf cc0_scratch5 cc0_scratch6 c (no j)) Q :=
  exSendTo_wp xv wv κ c _ j hj hj' (Fin.ext (exTgt_eq c (no j))) l Q

/-- The copies of the maximum. -/
theorem exSends_wp (κ : GSem nD τ sig → ℕ) (c : Dev nD) : ∀ (n j : ℕ) (hn : j + n ≤ 32) (_ : 1 ≤ j) (Q : PUnit → sProp 𝕄),
    iprop(known xv wv κ c ∗ Owes c (exDues n j endDues) ∗ bigSep (Finset.Ico j (j + n)) (fun i => exOut c i)
        ∗ bigSep (Finset.Ico j (j + n)) (fun i => srcPt c (Transfers.shareTokN fullShare i) (am xv wv c))
        ∗ ((Owes c endDues ∗ bigSep (Finset.Ico j (j + n)) (fun i => exSent c i)) -∗ Q ⟨⟩))
      ⊢ WP c (exSends bfSrc bfBuf cc0_scratch5 cc0_scratch6 c n j hn) Q
  | 0, j, hn, hj, Q => by
    unfold exSends
    rw [show j + 0 = j from rfl, Finset.Ico_self, bigSep_empty, bigSep_empty, bigSep_empty]
    iintro ⟨-, HO, H, -, HQ⟩
    iapply (WP_pure c)
    iapply HQ
    isplitl [HO]; · iexact HO
    iexact H
  | n + 1, j, hn, hj, Q => by
    unfold exSends
    simp only [no_eq (h := j) (show j < 32 by omega)]
    rw [take_first, take_first, take_first, WP_bind]
    iintro ⟨#HK, HO, ⟨H0, H⟩, ⟨S0, S⟩, HQ⟩
    iapply (exSend_wp xv wv κ c j hj (by omega))
    isplitr; · iexact HK
    isplitl [HO]; · iexact HO
    isplitl [H0]; · iexact H0
    isplitl [S0]; · iexact S0
    iintro ⟨HO, H0⟩
    iapply (exSends_wp κ c n (j + 1) _ (by omega) Q)
    isplitr; · iexact HK
    isplitl [HO]; · iexact HO
    isplitl [H]; · iexact H
    isplitl [S]; · iexact S
    iintro ⟨HO, H⟩
    iapply HQ
    isplitl [HO]; · iexact HO
    isplitl [H0]; · iexact H0
    iexact H

/-- A received maximum folded in. -/
theorem maxWith_eq (a b : F .f32) (f : bfBuf.view.ty.Contents (Elt F)) (j : Fin 32)
    (hf : (bfM bfBuf j).view.read (Elt F) f = fun _ => b) :
    maxWith a ((bfBuf.access (bfRect j)).read (Elt F) f) = Scalar.maximumf a b := by
  unfold maxWith
  rw [← bf_read, hf]
  rfl

theorem recvOne_wp (κ : GSem nD τ sig → ℕ) (c : Dev nD) (j : Fin 32) (hj : j ≠ 0) {hv hw} (Q : PUnit → sProp 𝕄) :
    iprop(known xv wv κ c ∗ Owes c endDues ∗ cred (tallyAt (cell c (some (.bfr j))) () nBf) ∗ atPos ER (cell c (some (.bfr j))) 0 ∅ 0
        ∗ ((Owes c endDues ∗ atPos ER (cell c (some (.bfr j))) 1 ∅ 0 ∗ bfHas c j (am xv wv (c - j))) -∗ Q ⟨⟩))
      ⊢ WP c (Prog.lift (.waitDma2 (bfSemM cc0_scratch6 j).sem (bfSrcM bfSrc) (bfM bfBuf j) hv hw)) Q := by
  unfold known WP
  iintro ⟨⟨#HR, #Hlev, -, -, -⟩, HO, Hc, Hat, HQ⟩
  iapply (wp_waitOne xv wv (κ := κ) c (.bfr j) (if_neg hj) endDues (above_end (show (40:ℕ) < 41 by decide)) rfl (credit_bf j))
  isplitr; · iexact HR
  isplitr; · iexact Hlev
  isplitl [Hc]; · iexact Hc
  isplitl [HO]; · iexact HO
  isplitl [Hat]; · iexact Hat
  iexact HQ

theorem readOne_wp (c : Dev nD) (j : Fin 32) (a b : F .f32) {hl : bfBuf.view.LoadsAt (bfRect j)} (P : F .f32 → TcProg F (F .f32)) (Q : F .f32 → sProp 𝕄) :
    iprop(bfHas c j b ∗ (bfAny c j -∗ WP c (P (Scalar.maximumf a b)) Q))
      ⊢ WP c (do
          let v : Vec F S1x8x128 .f32 ← Prog.lift (.load bfBuf (bfRect j).toLoadRect hl)
          P (maxWith a v)) Q := by
  rw [WP_bind]
  unfold bfHas bfAny held
  iintro ⟨⟨%f, %hf, H⟩, HQ⟩
  iapply (WP_load c (m := bfBuf) (r := bfRect j) (I := (bfM bfBuf j).view.set) (le_of_eq (bf_set bfBuf j).symm))
  isplitl [H]; · iexact H
  iintro H
  rw [maxWith_eq a b f j hf]
  iapply HQ
  iexists f; isplitr
  · ipureintro; trivial
  · iexact H

/-- One received maximum folded in. -/
theorem recvStep_wp (κ : GSem nD τ sig → ℕ) (c : Dev nD) (j : Fin 32) (hj : j ≠ 0) (a : F .f32) {hv hw} {hl : bfBuf.view.LoadsAt (bfRect j)}
    (P : F .f32 → TcProg F (F .f32)) (Q : F .f32 → sProp 𝕄) :
    iprop(known xv wv κ c ∗ Owes c endDues ∗ (cred (tallyAt (cell c (some (.bfr j))) () nBf) ∗ atPos ER (cell c (some (.bfr j))) 0 ∅ 0)
        ∗ ((Owes c endDues ∗ atPos ER (cell c (some (.bfr j))) 1 ∅ 0 ∗ bfAny c j) -∗ WP c (P (Scalar.maximumf a (am xv wv (c - j)))) Q))
      ⊢ WP c (do
          Prog.lift (.waitDma2 (bfSemM cc0_scratch6 j).sem (bfSrcM bfSrc) (bfM bfBuf j) hv hw)
          let v : Vec F S1x8x128 .f32 ← Prog.lift (.load bfBuf (bfRect j).toLoadRect hl)
          P (maxWith a v)) Q := by
  rw [WP_bind]
  iintro ⟨#HK, HO, ⟨Hc, Hat⟩, HQ⟩
  iapply (recvOne_wp xv wv κ c j hj)
  isplitr; · iexact HK
  isplitl [HO]; · iexact HO
  isplitl [Hc]; · iexact Hc
  isplitl [Hat]; · iexact Hat
  iintro ⟨HO, Hat, Hp⟩
  iapply (readOne_wp c j a (am xv wv (c - j)) P Q)
  isplitl [Hp]; · iexact Hp
  iintro Hp
  iapply HQ
  isplitl [HO]; · iexact HO
  isplitl [Hat]; · iexact Hat
  iexact Hp

/-- The received maxima. -/
theorem exRecvs_wp (κ : GSem nD τ sig → ℕ) (c : Dev nD) (n : ℕ) : ∀ (j : ℕ) (hn : j + n ≤ 32) (_ : 1 ≤ j) (a : F .f32) (Q : F .f32 → sProp 𝕄),
    iprop(known xv wv κ c ∗ Owes c endDues ∗ bigSep (Finset.Ico j (j + n)) (fun i => exIn c i)
        ∗ ((Owes c endDues ∗ bigSep (Finset.Ico j (j + n)) (fun i => exGot c i)) -∗ Q (amFold xv wv c n j a)))
      ⊢ WP c (exRecvs bfSrc bfBuf cc0_scratch6 n j hn a) Q := by
  induction n with
  | zero =>
    intro j hn hj a Q
    unfold exRecvs amFold
    rw [show j + 0 = j from rfl, Finset.Ico_self, bigSep_empty, bigSep_empty]
    iintro ⟨-, HO, H, HQ⟩
    iapply (WP_pure c)
    iapply HQ
    isplitl [HO]; · iexact HO
    iexact H
  | succ n ih =>
    intro j hn hj a Q
    have v : (no j).val = j := no_val (by omega)
    have n0 : no j ≠ 0 := fun e => by have := congrArg Fin.val e; rw [v] at this; simp at this; omega
    have e : (⟨j, by omega⟩ : Fin 32) = no j := no_eq (h := j) (by omega)
    have ea : amFold xv wv c (n + 1) j a = amFold xv wv c n (j + 1) (Scalar.maximumf a (am xv wv (c - (⟨j, by omega⟩ : Fin 32)))) := by
      rw [e]; rfl
    have n1 : (⟨j, by omega⟩ : Fin 32) ≠ 0 := e ▸ n0
    unfold exRecvs
    rw [ea, take_first, take_first]
    unfold exIn exGot
    rw [← e]
    iintro ⟨#HK, HO, ⟨H0, H⟩, HQ⟩
    iapply (recvStep_wp xv wv κ c ⟨j, _⟩ n1 a (exRecvs bfSrc bfBuf cc0_scratch6 n (j + 1) (_)) Q)
    isplitr; · iexact HK
    isplitl [HO]; · iexact HO
    isplitl [H0]; · iexact H0
    iintro ⟨HO, Hp⟩
    unfold exIn exGot at ih
    iapply (ih (j + 1) _ (by omega) (Scalar.maximumf a (am xv wv (c - (⟨j, _⟩ : Fin 32)))) Q)
    isplitr; · iexact HK
    isplitl [HO]; · iexact HO
    isplitl [H]; · iexact H
    iintro ⟨HO, H⟩
    iapply HQ
    isplitl [HO]; · iexact HO
    isplitl [Hp]; · iexact Hp
    iexact H

/-- The waits for the ends of the copies of the maximum. -/
theorem waitExs_wp (κ : GSem nD τ sig → ℕ) (c : Dev nD) : ∀ (n j : ℕ) (hn : j + n ≤ 32) (_ : 1 ≤ j) (Q : PUnit → sProp 𝕄),
    iprop(known xv wv κ c ∗ Owes c endDues
        ∗ bigSep (Finset.Ico j (j + n)) (fun i => iprop(exSent c i ∗ atPos ER (cell c (some (.bfs (no i)))) 0 ∅ 0))
        ∗ ((Owes c endDues ∗ bigSep (Finset.Ico j (j + n)) (fun i => iprop(atPos ER (cell c (some (.bfs (no i)))) 1 ∅ 0
            ∗ srcPt c (Transfers.shareTokN fullShare i) (am xv wv c)))) -∗ Q ⟨⟩))
      ⊢ WP c (waitExs bfSrc bfBuf cc0_scratch5 n j hn) Q
  | 0, j, hn, hj, Q => by
    unfold waitExs
    rw [show j + 0 = j from rfl, Finset.Ico_self, bigSep_empty, bigSep_empty]
    iintro ⟨-, HO, H, HQ⟩
    iapply (WP_pure c)
    iapply HQ
    isplitl [HO]; · iexact HO
    iexact H
  | n + 1, j, hn, hj, Q => by
    have v : (no j).val = j := no_val (by omega)
    have n0 : no j ≠ 0 := fun e => by have := congrArg Fin.val e; rw [v] at this; simp at this; omega
    unfold waitExs
    simp only [no_eq (h := j) (show j < 32 by omega)]
    rw [take_first, take_first, WP_bind]
    iintro ⟨#HK, HO, ⟨⟨Hc, Hat⟩, H⟩, HQ⟩
    ihave #HK2 := HK
    unfold known exSent
    icases HK2 with ⟨#HR, #Hlev, -, -, -⟩
    unfold WP
    iapply (wp_waitOne xv wv (κ := κ) c (.bfs (no j)) (if_neg n0) endDues (above_end (show (0:ℕ) < 41 by decide)) rfl credit_src)
    isplitr; · iexact HR
    isplitr; · iexact Hlev
    isplitl [Hc]; · iexact Hc
    isplitl [HO]; · iexact HO
    isplitl [Hat]; · iexact Hat
    iintro ⟨HO, Hat, Hp⟩
    ihave Hp := (pay_bfs xv wv c j v) $$ [Hp]
    · iexact Hp
    rw [← WP]
    iapply (waitExs_wp κ c n (j + 1) _ (by omega) Q)
    unfold known exSent
    isplitr; · iexact HK
    isplitl [HO]; · iexact HO
    isplitl [H]; · iexact H
    iintro ⟨HO, H⟩
    iapply HQ
    isplitl [HO]; · iexact HO
    isplitl [Hat Hp]
    · isplitl [Hat]
      · iexact Hat
      · iexact Hp
    iexact H

/-- The waits for the ends of the copies of the blocks. -/
theorem waitHops_wp (κ : GSem nD τ sig → ℕ) (c : Dev nD) : ∀ (n h : ℕ) (hn : h + n < 32) (Q : PUnit → sProp 𝕄),
    iprop(known xv wv κ c ∗ Owes c endDues
        ∗ bigSep (Finset.Ico h (h + n)) (fun i => all4 fun s => iprop(outDone c s i ∗ atPos ER (cell c (some (.send s (no i)))) 0 ∅ 0))
        ∗ ((Owes c endDues ∗ bigSep (Finset.Ico h (h + n)) (fun i => all4 fun s => iprop(atPos ER (cell c (some (.send s (no i)))) 1 ∅ 0
            ∗ slotAny c s (no i)))) -∗ Q ⟨⟩))
      ⊢ WP c (waitHops slots cc0_scratch1 n h hn) Q
  | 0, h, hn, Q => by
    unfold waitHops
    rw [show h + 0 = h from rfl, Finset.Ico_self, bigSep_empty, bigSep_empty]
    iintro ⟨-, HO, H, HQ⟩
    iapply (WP_pure c)
    iapply HQ
    isplitl [HO]; · iexact HO
    iexact H
  | n + 1, h, hn, Q => by
    have v : (no h).val = h := no_val (by omega)
    have n0 : no h ≠ 31 := fun e => by have := congrArg Fin.val e; rw [v] at this; simp at this; omega
    unfold waitHops
    rw [no_eq (h := h) (by omega), take_first, take_first, WP_bind]
    unfold all4 outDone
    iintro ⟨#HK, HO, ⟨⟨⟨C0, A0⟩, ⟨C1, A1⟩, ⟨C2, A2⟩, ⟨C3, A3⟩⟩, H⟩, HQ⟩
    ihave #HK2 := HK
    unfold known
    icases HK2 with ⟨#HR, #Hlev, -, -, -⟩
    iapply (waitSent_wp xv wv (κ := κ) c 0 (no h) _ n0 endDues (above_end (show (0:ℕ) < 41 by decide)))
    isplitr; · iexact HR
    isplitr; · iexact Hlev
    isplitl [C0]; · iexact C0
    isplitl [HO]; · iexact HO
    isplitl [A0]; · iexact A0
    iintro ⟨HO, A0, S0⟩
    rw [WP_bind]
    iapply (waitSent_wp xv wv (κ := κ) c 1 (no h) _ n0 endDues (above_end (show (0:ℕ) < 41 by decide)))
    isplitr; · iexact HR
    isplitr; · iexact Hlev
    isplitl [C1]; · iexact C1
    isplitl [HO]; · iexact HO
    isplitl [A1]; · iexact A1
    iintro ⟨HO, A1, S1⟩
    rw [WP_bind]
    iapply (waitSent_wp xv wv (κ := κ) c 2 (no h) _ n0 endDues (above_end (show (0:ℕ) < 41 by decide)))
    isplitr; · iexact HR
    isplitr; · iexact Hlev
    isplitl [C2]; · iexact C2
    isplitl [HO]; · iexact HO
    isplitl [A2]; · iexact A2
    iintro ⟨HO, A2, S2⟩
    rw [WP_bind]
    iapply (waitSent_wp xv wv (κ := κ) c 3 (no h) _ n0 endDues (above_end (show (0:ℕ) < 41 by decide)))
    isplitr; · iexact HR
    isplitr; · iexact Hlev
    isplitl [C3]; · iexact C3
    isplitl [HO]; · iexact HO
    isplitl [A3]; · iexact A3
    iintro ⟨HO, A3, S3⟩
    have ih := waitHops_wp κ c n (h + 1) (by omega) Q
    unfold all4 outDone known at ih
    iapply ih
    isplitr; · iexact HK
    isplitl [HO]; · iexact HO
    isplitl [H]; · iexact H
    iintro ⟨HO, H⟩
    iapply HQ
    isplitl [HO]; · iexact HO
    isplitr [H]
    · isplitl [A0 S0]
      · isplitl [A0]
        · iexact A0
        · iexact S0
      isplitl [A1 S1]
      · isplitl [A1]
        · iexact A1
        · iexact S1
      isplitl [A2 S2]
      · isplitl [A2]
        · iexact A2
        · iexact S2
      isplitl [A3]
      · iexact A3
      · iexact S3
    iexact H

end exch

end Cert.KernelIdeal.Proto
-- ==== Proof.KernelIdeal.Ends.lean ====
module

public import proofs.«01_k».proof.Proof.KernelIdeal.Exch

@[expose] public section

noncomputable section

namespace Cert.KernelIdeal.Proto

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal
open Cert.KernelIdeal.Facts₀ Cert.KernelIdeal.Facts
open Cert.KernelIdeal.Loop Cert.KernelIdeal.Mesh

variable {F : FTy → Type} [FloatOps F]

local notation "𝕄" => MT nD τ sig Unit (Elt F) ℕ UU ℕ

section ends
variable (xv : Dev nD → Vec F S4096x128 .f32) (wv : Dev nD → Vec F S128x2048 .f32)

/-! ## The exchange as a whole -/

/-- What is left of the buffer of the maximum while its copies are under way. -/
def srcRest (c : Dev nD) (a : F .f32) : sProp 𝕄 :=
  iprop(srcPt c (Transfers.shareDrop fullShare 32) a ∗ srcPt c (Transfers.shareTokN fullShare 0) a)

theorem zeros2 : (![0, 0] : Fin 2 → ℕ) = fun _ => 0 := by funext a; fin_cases a <;> rfl
theorem zeros3 : (![0, 0, 0] : Fin 3 → ℕ) = fun _ => 0 := by funext a; fin_cases a <;> rfl

theorem out_read (f : Vec F S128x2048 .f32) :
    (outM.access (Rect.unit (s := S128x2048) ![0, 0] S128x2048.size inb_S128x2048_S128x2048_0_0)).read (Elt F) f = f :=
  Memref.read_access_unit_zero (Elt F) cc0_stg5_0 zeros2 _ f
theorem out_write (f w : Vec F S128x2048 .f32) :
    (outM.access (Rect.unit (s := S128x2048) ![0, 0] S128x2048.size inb_S128x2048_S128x2048_0_0)).write (Elt F) f w Finset.univ = w :=
  Memref.write_access_unit_zero_univ (Elt F) cc0_stg5_0 zeros2 _ f w
theorem max_write (f w : Vec F S8x128 .f32) :
    (maxM.access (Rect.unit (s := S8x128) ![0, 0] S8x128.size inb_S8x128_S8x128_0_0)).write (Elt F) f w Finset.univ = w :=
  Memref.write_access_unit_zero_univ (Elt F) cc0_stg6_0 zeros2 _ f w
theorem src_write (f w : Vec F S1x8x128 .f32) :
    (bfSrc.access (Rect.unit (s := S1x8x128) ![0, 0, 0] S1x8x128.size inb_S1x8x128_S1x8x128_0_0_0)).write (Elt F) f w Finset.univ = w :=
  Memref.write_access_unit_zero_univ (Elt F) cc0_scratch3 zeros3 _ f w

theorem unit_set {o : Fin 3 → ℕ} (h : o = fun _ => 0) (hi : ∀ a, o a + S1x8x128.size a ≤ S1x8x128.size a) :
    (Rect.unit (s := S1x8x128) o S1x8x128.size hi).set = Finset.univ := by subst h; exact Rect.set_whole _

theorem src_set : (bfSrcM bfSrc).view.set = Finset.univ := (View.set_reshape _ _).trans ((View.set_slice_whole _ _).trans (unit_set zeros3 _))

theorem src_start (c : Dev nD) (a : F .f32) :
    ((bfSrc.view.loc (c : Thread nD τ) ↦[Finset.univ]{fullShare} (shapeCast S1x8x128 (broadcast S8x128 a) shapeCasts_S8x128_S1x8x128 : Vec F S1x8x128 .f32)) : sProp 𝕄)
      ⊢ shared ((bfSrcM bfSrc).view.loc (c : Thread nD τ)) (bfSrcM bfSrc).view.set fullShare (fun _ => a) := by
  unfold shared; rw [src_set]; exact .rfl

theorem src_split (c : Dev nD) (a : F .f32) :
    (shared ((bfSrcM bfSrc).view.loc (c : Thread nD τ)) (bfSrcM bfSrc).view.set fullShare (fun _ => a) : sProp 𝕄)
      ⊣⊢ iprop(srcRest c a ∗ bigSep (Finset.Ico 1 32) fun j => srcPt c (Transfers.shareTokN fullShare j) a) := by
  have h := Transfers.pointsTo_toks_range (Val := Elt F) (Ix := Unit) (Lvl := ℕ) (U := UU) (Name := ℕ) (ℓ := (bfSrcM bfSrc).view.loc (c : Thread nD τ)) (S := (bfSrcM bfSrc).view.set)
    (f := fun _ => a) fullShare 32
  have e : Finset.range 32 = Finset.Ico 0 32 := (Nat.Ico_zero_eq_range 32).symm
  unfold srcRest srcPt shared
  rw [e, bigSep_Ico_succ_bot (by decide)] at h
  constructor
  · refine h.1.trans ?_
    iintro ⟨H, H0, HS⟩
    isplitl [H H0]
    · isplitl [H]
      · iexact H
      · iexact H0
    iexact HS
  · refine BIBase.Entails.trans ?_ h.2
    iintro ⟨⟨H, H0⟩, HS⟩
    isplitl [H]; · iexact H
    isplitl [H0]; · iexact H0
    iexact HS

theorem exchange_wp (κ : GSem nD τ sig → ℕ) (c : Dev nD) (Q : PUnit → sProp 𝕄) :
    iprop(known xv wv κ c ∗ Owes c (exDues 31 1 endDues) ∗ outHas c (outV xv wv c)
        ∗ wholeAny (bfSrc.view.loc (c : Thread nD τ)) ∗ wholeAny (maxM.view.loc (c : Thread nD τ))
        ∗ bigSep (Finset.Ico 1 32) (fun j => exOut c j) ∗ bigSep (Finset.Ico 1 32) (fun j => exIn c j)
        ∗ ((Owes c endDues ∗ outHas c (resV xv wv c) ∗ srcRest c (am xv wv c) ∗ maxHas c (broadcast S8x128 (amAll xv wv c))
            ∗ bigSep (Finset.Ico 1 32) (fun j => exSent c j) ∗ bigSep (Finset.Ico 1 32) (fun j => exGot c j)) -∗ Q ⟨⟩))
      ⊢ WP c (exchange outM maxM bfSrc bfBuf cc0_scratch5 cc0_scratch6) Q := by
  unfold exchange wholeAny held
  rw [WP_bind]
  iintro ⟨#HK, HO, Hout, ⟨%f, -, Hs⟩, ⟨%g, -, Hm⟩, HX, HI, HQ⟩
  unfold WP
  rw [show (Prog.lift TpuEff.deviceId : TcProg F (Dev nD)) = Prog.op TpuEff.deviceId Prog.ret from rfl, wp_deviceId, wp_ret]
  imodintro
  rw [← WP, WP_bind]
  unfold outHas shared
  iapply (WP_load c (m := outM) (I := Finset.univ) (Finset.subset_univ _))
  isplitl [Hout]; · iexact Hout
  iintro Hout
  rw [out_read, WP_bind]
  iapply (WP_load c (m := bfSrc) (I := Finset.univ) (Finset.subset_univ _))
  isplitl [Hs]; · iexact Hs
  iintro Hs
  rw [WP_bind]
  iapply (WP_store c (m := bfSrc) (I := Finset.univ) (Finset.subset_univ _))
  isplitl [Hs]; · iexact Hs
  iintro Hs
  rw [src_write, WP_bind]
  ihave Hs := (src_split c (am xv wv c)).1 $$ [Hs]
  · iapply (src_start c (am xv wv c)); iexact Hs
  icases Hs with ⟨Hr, Hs⟩
  iapply (exSends_wp xv wv κ c 31 1 _ (by omega))
  isplitr; · iexact HK
  isplitl [HO]; · iexact HO
  isplitl [HX]; · iexact HX
  isplitl [Hs]; · iexact Hs
  iintro ⟨HO, HX⟩
  rw [WP_bind]
  iapply (exRecvs_wp xv wv κ c 31 1 _ (by omega))
  isplitr; · iexact HK
  isplitl [HO]; · iexact HO
  isplitl [HI]; · iexact HI
  iintro ⟨HO, HI⟩
  rw [WP_bind]
  iapply (WP_load c (m := maxM) (I := Finset.univ) (Finset.subset_univ _))
  isplitl [Hm]; · iexact Hm
  iintro Hm
  rw [WP_bind]
  iapply (WP_store c (m := maxM) (I := Finset.univ) (Finset.subset_univ _))
  isplitl [Hm]; · iexact Hm
  iintro Hm
  rw [max_write, WP_bind]
  iapply (WP_load c (m := outM) (I := Finset.univ) (Finset.subset_univ _))
  isplitl [Hout]; · iexact Hout
  iintro Hout
  rw [out_read, WP_bind]
  iapply (WP_load c (m := outM) (I := Finset.univ) (Finset.subset_univ _))
  isplitl [Hout]; · iexact Hout
  iintro Hout
  iapply (WP_store c (m := outM) (I := Finset.univ) (Finset.subset_univ _))
  isplitl [Hout]; · iexact Hout
  iintro Hout
  rw [out_write]
  iapply HQ
  isplitl [HO]; · iexact HO
  isplitl [Hout]; · iexact Hout
  isplitl [Hr]; · iexact Hr
  isplitl [Hm]
  · iapply (show (maxM.view.loc (c : Thread nD τ) ↦[Finset.univ]{fullShare} broadcast S8x128 (amAll xv wv c) : sProp 𝕄)
      ⊢ maxHas c (broadcast S8x128 (amAll xv wv c)) from .rfl)
    iexact Hm
  isplitl [HX]; · iexact HX
  iexact HI

/-! ## The barriers -/

/-- A signal that pays one duty. -/
theorem signal_wp (κ : GSem nD τ sig → ℕ) (c u : Dev nD) (k : Option Sc) (b : Bool) {sm : Sem sig} (hs : SemLoc.reg sm = semOf k)
    (hd : b ∈ dutK k) (ha : amtK k = 1) (hu : payee k b c = u) (l : List (Option Sc × Bool)) (Q : PUnit → sProp 𝕄) :
    iprop(records xv wv κ ∗ Owes c ((k, b) :: l) ∗ dutyTok ER (cell u k) 0 b ∗ payK xv wv k b u ∗ reached ER (cell u k) 0
        ∗ (Owes c l -∗ Q ⟨⟩))
      ⊢ WP c (semSignalWord u sm 1#32) Q := by
  subst hu
  unfold WP Owes semSignalWord
  iintro ⟨#HR, ⟨%W, HO⟩, Ht, Hp, #Hr, HQ⟩
  rw [show (1#32).toInt = ((1 : ℕ) : ℤ) from rfl]
  have e : (((payee k b c : Dev nD) : Thread nD τ), SemLoc.reg sm) = cell (payee k b c) k := by rw [hs]
  iapply (Rounds.wp_signal 𝒱₀ ER (Rd xv wv) (c : Thread nD τ) none (dst := ((payee k b c : Dev nD) : Thread nD τ)) (sem := sm) (r := 0) (d := b)
    (k' := 1) (κ := κ (cell (payee k b c) k)) (W := W) (by rw [e, duties_cell]; exact hd) (by rw [e, amount_cell]; exact ha) () (owe c l)
    (O₀ := owe c ((k, b) :: l)) (by rw [e]; show owe c l + tal c (k, b) = _; unfold tal; rw [ha])) $$ [HO Ht Hp]
  · rw [e]
    isplitr; · iapply (inv_at xv wv κ _ k); iexact HR
    isplitl [HO]; · iexact HO
    isplitl [Ht]; · iexact Ht
    isplitl [Hp]; · rw [payload_cell]; iexact Hp
    iexact Hr
  iintro HO
  rw [wp_ret]; imodintro
  iapply HQ
  iexists W; iexact HO

/-- The wait at a barrier. -/
theorem wait2_wp (κ : GSem nD τ sig → ℕ) (c : Dev nD) (k : Option Sc) {sm : Sem sig} (hs : SemLoc.reg sm = semOf k)
    (hd : dutK k = Finset.univ) (ha : amtK k = 1) (l : List (Option Sc × Bool)) (hl : Above (lvK k) l) (Q : PUnit → sProp 𝕄) :
    iprop(records xv wv κ ∗ levAts L lv ∗ cred (tallyAt (cell c k) () 2) ∗ Owes c l ∗ atPos ER (cell c k) 0 ∅ 0
        ∗ ((Owes c l ∗ atPos ER (cell c k) 1 ∅ 0 ∗ payK xv wv k true c ∗ payK xv wv k false c) -∗ Q ⟨⟩))
      ⊢ WP c (semWaitWord sm 2#32) Q := by
  unfold WP Owes semWaitWord
  iintro ⟨#HR, #Hlev, Hc, ⟨%W, HO⟩, Hat, Hk⟩
  have hw := wpE_semWait_eq (defs := defs₀ (F := F)) (sem := sm) (k := 2) 𝒱₀ (c : Thread nD τ) none (Set.univ : Set ℕ) (Ix := Unit) (U := UU) (Lvl := ℕ)
  rw [hs] at hw
  iapply (Rounds.wp_wait_rest_token 𝒱₀ ER (Rd xv wv) (c : Thread nD τ) none (κ := κ (cell c k))
      hw (Set.mem_univ _) () (O := owe c l) (W := W) (R := 0) (m := 0) (T := ∅)
      ((Nat.zero_add _).trans ((expect_two xv wv c k hd).trans (by rw [ha])).symm)) $$ [Hc HO Hat]
  · isplitr; · iapply (inv_at xv wv κ c k); iexact HR
    isplitl [Hc]; · iexact Hc
    isplitl [HO]; · iexact HO
    isplitr; · iapply (mayWait c k l hl); iexact Hlev
    iexact Hat
  iintro ⟨HO, Hat, -, Hpay⟩
  rw [wp_ret]
  imodintro
  iapply Hk
  isplitl [HO]; · iexists _; iexact HO
  isplitl [Hat]; · iexact Hat
  iapply (Entails.of_eq (rest_two xv wv c k hd)); iexact Hpay

theorem pay_bar2 (b : Bool) (c : Dev nD) : (payK xv wv (some .bar2) b c : sProp 𝕄) = iprop(emp) := by cases b <;> rfl
theorem pay_barT (c : Dev nD) : (payK xv wv none true c : sProp 𝕄)
    = iprop(landing (rot (-1) c) 1 ∗ landing (rot (-1) c) 3 ∗ allReached (rot (-1) c)) := rfl
theorem pay_barF (c : Dev nD) : (payK xv wv none false c : sProp 𝕄)
    = iprop(landing (rot 1 c) 0 ∗ landing (rot 1 c) 2 ∗ allReached (rot 1 c)) := rfl

theorem closing_wp (κ : GSem nD τ sig → ℕ) (c : Dev nD) (Q : PUnit → sProp 𝕄) :
    iprop(known xv wv κ c ∗ Owes c endDues ∗ dutyTok ER (cell (rot 1 c) (some .bar2)) 0 true
        ∗ dutyTok ER (cell (rot (-1) c) (some .bar2)) 0 false ∗ cred (tallyAt (cell c (some .bar2)) () 2)
        ∗ atPos ER (cell c (some .bar2)) 0 ∅ 0
        ∗ ((Owes c [] ∗ atPos ER (cell c (some .bar2)) 1 ∅ 0) -∗ Q ⟨⟩))
      ⊢ WP c (closing cc0_scoped0 (rot 1 c) (rot (-1) c)) Q := by
  unfold closing known endDues
  rw [WP_bind]
  iintro ⟨⟨#HR, #Hlev, #HA, #HF, #HB⟩, HO, HtF, HtB, Hc, Hat, HQ⟩
  iapply (signal_wp xv wv κ c (rot 1 c) (some .bar2) true rfl (Finset.mem_univ _) rfl rfl)
  isplitr; · iexact HR
  isplitl [HO]; · iexact HO
  isplitl [HtF]; · iexact HtF
  isplitr; · rw [pay_bar2]; iempintro
  isplitr; · iapply (allReached_at (rot 1 c) .bar2); iexact HF
  iintro HO
  rw [WP_bind]
  iapply (signal_wp xv wv κ c (rot (-1) c) (some .bar2) false rfl (Finset.mem_univ _) rfl rfl)
  isplitr; · iexact HR
  isplitl [HO]; · iexact HO
  isplitl [HtB]; · iexact HtB
  isplitr; · rw [pay_bar2]; iempintro
  isplitr; · iapply (allReached_at (rot (-1) c) .bar2); iexact HB
  iintro HO
  rw [WP_bind]
  iapply (wait2_wp xv wv κ c (some .bar2) rfl rfl rfl [] (fun p hp => absurd hp List.not_mem_nil))
  isplitr; · iexact HR
  isplitr; · iexact Hlev
  isplitl [Hc]; · iexact Hc
  isplitl [HO]; · iexact HO
  isplitl [Hat]; · iexact Hat
  iintro ⟨HO, Hat, -, -⟩
  iapply (WP_pure c)
  iapply HQ
  isplitl [HO]; · iexact HO
  iexact Hat

theorem dev1_eq : ∀ u : Fin 32, k0_dev1 (BitVec.ofNat 32 u.val) = u.val := by decide +kernel
theorem dev2_eq : ∀ u : Fin 32, k0_dev2 (BitVec.ofNat 32 u.val) = u.val := by decide +kernel
theorem chk1_ok : ∀ u : Fin 32, k0_chk1 (BitVec.ofNat 32 u.val) := by decide +kernel
theorem chk2_ok : ∀ u : Fin 32, k0_chk2 (BitVec.ofNat 32 u.val) := by decide +kernel

theorem tabN_read0 (f : tabNM.view.ty.Contents (Elt F)) (v : Elt F .i32) (hf : ∀ i : S7.Idx, (i 0).val = 0 → f i = v) (x : S1.Idx) :
    (tabNM.access (Rect.unit (s := S7) ![0] S1.size inb_S7_S1_0)).read (Elt F) f x = v := by
  refine hf _ ?_
  have hx : (x 0).val = 0 := by have h2 : (x 0).val < 1 := (x 0).isLt; omega
  show 0 + 1 * (x 0).val = 0
  omega
theorem tabN_read1 (f : tabNM.view.ty.Contents (Elt F)) (v : Elt F .i32) (hf : ∀ i : S7.Idx, (i 0).val = 1 → f i = v) (x : S1.Idx) :
    (tabNM.access (Rect.unit (s := S7) ![1] S1.size inb_S7_S1_1)).read (Elt F) f x = v := by
  refine hf _ ?_
  have hx : (x 0).val = 0 := by have h2 : (x 0).val < 1 := (x 0).isLt; omega
  show 1 + 1 * (x 0).val = 1
  omega

theorem opening_wp (κ : GSem nD τ sig → ℕ) (c : Dev nD) (f : Vec F S7 .i32)
    (h0 : ∀ i : S7.Idx, (i 0).val = 0 → f i = BitVec.ofNat 32 (rot 1 c).val)
    (h1 : ∀ i : S7.Idx, (i 0).val = 1 → f i = BitVec.ofNat 32 (rot (-1) c).val)
    (Q : (Dev nD × Dev nD) × (FVec F S128x1024 .f32 × FVec F S128x1024 .f32) → sProp 𝕄) :
    iprop(records xv wv κ ∗ levAts L lv ∗ Owes c dues ∗ ins xv wv c ∗ shared (tabNM.view.loc (c : Thread nD τ)) Finset.univ fullShare f
        ∗ dutyTok ER (cell (rot 1 c) none) 0 true ∗ dutyTok ER (cell (rot (-1) c) none) 0 false
        ∗ landing c 0 ∗ landing c 1 ∗ landing c 2 ∗ landing c 3 ∗ allReached c
        ∗ cred (tallyAt (cell c none) () 2) ∗ atPos ER (cell c none) 0 ∅ 0
        ∗ ((Owes c (hopDues 31 1 (exDues 31 1 endDues)) ∗ ins xv wv c ∗ shared (tabNM.view.loc (c : Thread nD τ)) Finset.univ fullShare f
            ∗ atPos ER (cell c none) 1 ∅ 0 ∗ landing (rot 1 c) 0 ∗ landing (rot (-1) c) 1 ∗ landing (rot 1 c) 2 ∗ landing (rot (-1) c) 3
            ∗ allReached (rot 1 c) ∗ allReached (rot (-1) c)) -∗ Q ((rot 1 c, rot (-1) c), prods xv wv 0 c)))
      ⊢ WP c (opening tabFM tabBM tabNM xM wM) Q := by
  unfold opening dues
  rw [WP_bind]
  iintro ⟨#HR, #Hlev, HO, Hins, HN, HtF, HtB, L0, L1, L2, L3, #HA, Hc, Hat, HQ⟩
  unfold shared
  iapply (WP_word c (m := tabNM))
  isplitl [HN]; · iexact HN
  iintro HN
  rw [tabN_read0 f _ h0, WP_bind]
  iapply (WP_assume c (chk1_ok (rot 1 c)))
  rw [WP_bind]
  iapply (WP_word c (m := tabNM))
  isplitl [HN]; · iexact HN
  iintro HN
  rw [tabN_read1 f _ h1, WP_bind]
  iapply (WP_assume c (chk2_ok (rot (-1) c)))
  rw [WP_bind]
  simp only [dev1_eq, dev2_eq, Fin.eta]
  iapply (signal_wp xv wv κ c (rot 1 c) none true rfl (Finset.mem_univ _) rfl rfl)
  isplitr; · iexact HR
  isplitl [HO]; · iexact HO
  isplitl [HtF]; · iexact HtF
  isplitl [L1 L3]
  · rw [pay_barT, rot_neg_rot]
    isplitl [L1]; · iexact L1
    isplitl [L3]; · iexact L3
    iexact HA
  isplitr; · iapply (bar_at xv wv κ (rot 1 c)); iexact HR
  iintro HO
  rw [WP_bind]
  iapply (signal_wp xv wv κ c (rot (-1) c) none false rfl (Finset.mem_univ _) rfl rfl)
  isplitr; · iexact HR
  isplitl [HO]; · iexact HO
  isplitl [HtB]; · iexact HtB
  isplitl [L0 L2]
  · rw [pay_barF, rot_rot_neg]
    isplitl [L0]; · iexact L0
    isplitl [L2]; · iexact L2
    iexact HA
  isplitr; · iapply (bar_at xv wv κ (rot (-1) c)); iexact HR
  iintro HO
  rw [WP_bind]
  iapply (gemms_wp xv wv c 0)
  isplitl [Hins]; · iexact Hins
  iintro Hins
  rw [WP_bind]
  iapply (wait2_wp xv wv κ c none rfl rfl rfl _ (above_hops (show (1:ℕ) < 40 by decide) 31 1 (show (1:ℕ) < 3 by decide) (by decide)))
  isplitr; · iexact HR
  isplitr; · iexact Hlev
  isplitl [Hc]; · iexact Hc
  isplitl [HO]; · iexact HO
  isplitl [Hat]; · iexact Hat
  rw [pay_barT, pay_barF]
  iintro ⟨HO, Hat, ⟨L1, L3, HB⟩, ⟨L0, L2, HF⟩⟩
  iapply (WP_pure c)
  iapply HQ
  isplitl [HO]; · iexact HO
  isplitl [Hins]; · iexact Hins
  isplitl [HN]; · iexact HN
  isplitl [Hat]; · iexact Hat
  isplitl [L0]; · iexact L0
  isplitl [L1]; · iexact L1
  isplitl [L2]; · iexact L2
  isplitl [L3]; · iexact L3
  isplitl [HF]; · iexact HF
  iexact HB

end ends

end Cert.KernelIdeal.Proto
-- ==== Proof.KernelIdeal.Split.lean ====
module

public import proofs.«01_k».proof.Proof.KernelIdeal.Ends

@[expose] public section

noncomputable section

namespace Cert.KernelIdeal.Proto

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal
open Cert.KernelIdeal.Facts₀ Cert.KernelIdeal.Facts
open Cert.KernelIdeal.Loop Cert.KernelIdeal.Mesh

variable {F : FTy → Type} [FloatOps F]

local notation "𝕄" => MT nD τ sig Unit (Elt F) ℕ UU ℕ

/-! ## Families over the places, the streams and the semaphores -/

theorem fin32 (P : Fin 32 → sProp 𝕄) : bigSep Finset.univ P = bigSep (Finset.Ico 0 32) fun i => P (no i) := by
  rw [Nat.Ico_zero_eq_range]
  exact Ring.bigSep_fin_eq_range 32 P (fun i => P (no i)) fun t h => by rw [no_eq h]

theorem from_zero (P : ℕ → sProp 𝕄) : bigSep (Finset.Ico 0 32) P = iprop(P 0 ∗ bigSep (Finset.Ico 1 32) P) :=
  bigSep_Ico_succ_bot (by decide) P
theorem to_last (P : ℕ → sProp 𝕄) : bigSep (Finset.Ico 0 32) P = iprop(P 31 ∗ bigSep (Finset.Ico 0 31) P) :=
  bigSep_Ico_succ_top (by decide) P
theorem to_last1 (P : ℕ → sProp 𝕄) : bigSep (Finset.Ico 1 32) P = iprop(P 31 ∗ bigSep (Finset.Ico 1 31) P) :=
  bigSep_Ico_succ_top (by decide) P
theorem from_zero31 (P : ℕ → sProp 𝕄) : bigSep (Finset.Ico 0 31) P = iprop(P 0 ∗ bigSep (Finset.Ico 1 31) P) :=
  bigSep_Ico_succ_bot (by decide) P

def succEmb : ℕ ↪ ℕ := ⟨Nat.succ, Nat.succ_injective⟩
theorem shift_succ : (Finset.Ico 0 31).map succEmb = Finset.Ico 1 32 := by decide
theorem shift (P : ℕ → sProp 𝕄) : bigSep (Finset.Ico 1 32) P = bigSep (Finset.Ico 0 31) fun i => P (i + 1) := by
  rw [← shift_succ, bigSep_map]; rfl

theorem fin4 (P : Fin 4 → sProp 𝕄) : bigSep Finset.univ P = all4 P := by
  rw [show (Finset.univ : Finset (Fin 4)) = {0, 1, 2, 3} from rfl, bigSep_insert (by decide), bigSep_insert (by decide),
    bigSep_insert (by decide), bigSep_singleton]
  rfl

theorem all4_bigSep (I : Finset ℕ) (P : Fin 4 → ℕ → sProp 𝕄) :
    all4 (fun s => bigSep I (P s)) = bigSep I fun i => all4 fun s => P s i := by
  unfold all4; rw [bigSep_sep', bigSep_sep', bigSep_sep']

theorem all4_mono {P Q : Fin 4 → sProp 𝕄} (h : ∀ s, P s ⊢ Q s) : all4 P ⊢ all4 Q := by
  rw [← fin4, ← fin4]; exact bigSep_mono fun s _ => h s

theorem all4_sep (P Q : Fin 4 → sProp 𝕄) : all4 (fun s => iprop(P s ∗ Q s)) = iprop(all4 P ∗ all4 Q) := by
  rw [← fin4, ← fin4, ← fin4, bigSep_sep']

theorem grid (P : Fin 4 → Fin 32 → sProp 𝕄) :
    (bigSep Finset.univ fun p : Fin 4 × Fin 32 => P p.1 p.2) = bigSep (Finset.Ico 0 32) fun i => all4 fun s => P s (no i) := by
  rw [bigSep_univ_prod fun p : Fin 4 × Fin 32 => P p.1 p.2, bigSep_univ_comm, fin32]
  exact bigSep_congr fun i _ => fin4 _

/-- A family over the kinds, by its parts. -/
theorem sc_split (P : Sc → sProp 𝕄) : bigSep Finset.univ P
    = iprop(((bigSep (Finset.Ico 0 32) fun i => all4 fun s => P (.send s (no i))) ∗ (bigSep (Finset.Ico 0 32) fun i => all4 fun s => P (.recv s (no i))))
      ∗ ((bigSep (Finset.Ico 0 32) fun i => P (.bfs (no i))) ∗ (bigSep (Finset.Ico 0 32) fun i => P (.bfr (no i)))) ∗ P .bar2) := by
  rw [bigSep_univ_equiv scE, bigSep_univ_sum, bigSep_univ_sum, bigSep_univ_sum, bigSep_univ_sum]
  rw [← grid fun s h => P (.send s h), ← grid fun s h => P (.recv s h), ← fin32 fun j => P (.bfs j), ← fin32 fun j => P (.bfr j),
    show (Finset.univ : Finset Unit) = {()} from rfl, bigSep_singleton]
  rfl

/-- A family over all the kinds, the opening barrier's apart. -/
theorem opt_split (P : Option Sc → sProp 𝕄) : bigSep Finset.univ P = iprop(P none ∗ bigSep Finset.univ fun k => P (some k)) := by
  rw [bigSep_univ_equiv (Equiv.optionEquivSumPUnit.{0} Sc).symm, bigSep_univ_sum, show (Finset.univ : Finset PUnit.{1}) = {⟨⟩} from rfl, bigSep_singleton]
  exact equiv_iff.mp ⟨BI.sep_comm, BI.sep_comm⟩

/-! ## The buffers in pieces -/

theorem held_of (ℓ : Loc nD τ sig) (S : Finset (Idx ℓ)) (f : Buf (Elt F) ℓ) : (ℓ ↦[S]{fullShare} f : sProp 𝕄) ⊢ held ℓ S fun _ => True := by
  unfold held; iintro H; iexists f; isplitr
  · ipureintro; trivial
  · iexact H
theorem held_pt (ℓ : Loc nD τ sig) (S : Finset (Idx ℓ)) : (held ℓ S (fun _ => True) : sProp 𝕄) ⊢ iprop(∃ f, ℓ ↦[S]{fullShare} f) := by
  unfold held; iintro ⟨%f, -, H⟩; iexists f; iexact H

theorem mem_slot (s : Fin 4) (h : Fin 32) (i : S4x32x128x512.Idx) :
    i ∈ (slotM slots s h).view.set ↔ (i 0).val = s.val ∧ (i 1).val = h.val := by
  rw [slot_set, show (slots.access (slotRect s h)).set = (slotRect s h).set from View.set_slice_whole _ _, Rect.mem_set_unit]
  have h2 : (i 2).val < 128 := (i 2).isLt
  have h3 : (i 3).val < 512 := (i 3).isLt
  constructor
  · intro H
    have a := H 0; have b := H 1
    change s.val ≤ (i 0).val ∧ (i 0).val < s.val + 1 at a
    change h.val ≤ (i 1).val ∧ (i 1).val < h.val + 1 at b
    omega
  · rintro ⟨a, b⟩ x
    fin_cases x
    · show s.val ≤ (i 0).val ∧ (i 0).val < s.val + 1; omega
    · show h.val ≤ (i 1).val ∧ (i 1).val < h.val + 1; omega
    · show 0 ≤ (i 2).val ∧ (i 2).val < 0 + 128; omega
    · show 0 ≤ (i 3).val ∧ (i 3).val < 0 + 512; omega

theorem mem_bf (j : Fin 32) (i : S32x8x128.Idx) : i ∈ (bfM bfBuf j).view.set ↔ (i 0).val = j.val := by
  rw [bf_set, show (bfBuf.access (bfRect j)).set = (bfRect j).set from View.set_slice_whole _ _, Rect.mem_set_unit]
  have h1 : (i 1).val < 8 := (i 1).isLt
  have h2 : (i 2).val < 128 := (i 2).isLt
  constructor
  · intro H
    have a := H 0
    change j.val ≤ (i 0).val ∧ (i 0).val < j.val + 1 at a
    omega
  · intro a x
    fin_cases x
    · show j.val ≤ (i 0).val ∧ (i 0).val < j.val + 1; omega
    · show 0 ≤ (i 1).val ∧ (i 1).val < 0 + 8; omega
    · show 0 ≤ (i 2).val ∧ (i 2).val < 0 + 128; omega

def slotSet (p : Fin 4 × Fin 32) : Finset S4x32x128x512.Idx := (slotM slots p.1 p.2).view.set
def bfSet (j : Fin 32) : Finset S32x8x128.Idx := (bfM bfBuf j).view.set

theorem slotSet_disjoint : ∀ p p', p ≠ p' → Disjoint (slotSet p) (slotSet p') := fun p p' hne => by
  rw [Finset.disjoint_left]; intro i hi hi'
  have a := (mem_slot _ _ i).mp hi
  have b := (mem_slot _ _ i).mp hi'
  exact hne (Prod.ext (Fin.ext (a.1.symm.trans b.1)) (Fin.ext (a.2.symm.trans b.2)))
theorem slotSet_cover : Finset.univ.biUnion slotSet = Finset.univ := by
  ext i; simp only [Finset.mem_biUnion, Finset.mem_univ, true_and, iff_true]; exact ⟨(i 0, i 1), (mem_slot _ _ i).mpr ⟨rfl, rfl⟩⟩
theorem bfSet_disjoint : ∀ j j', j ≠ j' → Disjoint (bfSet j) (bfSet j') := fun j j' hne => by
  rw [Finset.disjoint_left]; intro i hi hi'
  exact hne (Fin.ext (((mem_bf _ i).mp hi).symm.trans ((mem_bf _ i).mp hi')))
theorem bfSet_cover : Finset.univ.biUnion bfSet = Finset.univ := by
  ext i; simp only [Finset.mem_biUnion, Finset.mem_univ, true_and, iff_true]; exact ⟨i 0, (mem_bf _ i).mpr rfl⟩

theorem slots_split (c : Dev nD) :
    (wholeAny (slots.view.loc (c : Thread nD τ)) : sProp 𝕄) ⊢ bigSep (Finset.Ico 0 32) fun i => all4 fun s => slotAny c s (no i) := by
  rw [← grid]; unfold wholeAny held
  iintro ⟨%f, -, H⟩
  iapply ((Entails.of_eq (Ring.pointsTo_blocks (ℓ := slots.view.loc (c : Thread nD τ)) (q := fullShare) slotSet slotSet_disjoint slotSet_cover f)).trans
    (BI.bigSep_mono fun p _ => held_of (slots.view.loc (c : Thread nD τ)) (slotSet p) f)) $$ H

theorem slots_join [∀ e, Nonempty (Elt F e)] (c : Dev nD) :
    (bigSep (Finset.Ico 0 32) fun i => all4 fun s => slotAny c s (no i)) ⊢ (wholeAny (slots.view.loc (c : Thread nD τ)) : sProp 𝕄) := by
  rw [← grid]
  have h := Ring.pointsTo_blocks_join_exists (Val := Elt F) (Ix := Unit) (Lvl := ℕ) (U := UU) (Name := ℕ) (ℓ := slots.view.loc (c : Thread nD τ)) (q := fullShare) slotSet slotSet_disjoint slotSet_cover slots.view.junk
  refine BIBase.Entails.trans ((BI.bigSep_mono fun p _ => held_pt (slots.view.loc (c : Thread nD τ)) (slotSet p)).trans h) ?_
  · unfold wholeAny held
    iintro ⟨%f, H⟩; iexists f; isplitr
    · ipureintro; trivial
    · iexact H

theorem bf_split (c : Dev nD) : (wholeAny (bfBuf.view.loc (c : Thread nD τ)) : sProp 𝕄) ⊢ bigSep Finset.univ fun j => bfAny c j := by
  unfold wholeAny held
  iintro ⟨%f, -, H⟩
  iapply ((Entails.of_eq (Ring.pointsTo_blocks (ℓ := bfBuf.view.loc (c : Thread nD τ)) (q := fullShare) bfSet bfSet_disjoint bfSet_cover f)).trans
    (BI.bigSep_mono fun p _ => held_of (bfBuf.view.loc (c : Thread nD τ)) (bfSet p) f)) $$ H

theorem bf_join [∀ e, Nonempty (Elt F e)] (c : Dev nD) : (bigSep Finset.univ fun j => bfAny c j) ⊢ (wholeAny (bfBuf.view.loc (c : Thread nD τ)) : sProp 𝕄) := by
  have h := Ring.pointsTo_blocks_join_exists (Val := Elt F) (Ix := Unit) (Lvl := ℕ) (U := UU) (Name := ℕ) (ℓ := bfBuf.view.loc (c : Thread nD τ)) (q := fullShare) bfSet bfSet_disjoint bfSet_cover bfBuf.view.junk
  refine BIBase.Entails.trans ((BI.bigSep_mono fun p _ => held_pt (bfBuf.view.loc (c : Thread nD τ)) (bfSet p)).trans h) ?_
  · unfold wholeAny held
    iintro ⟨%f, H⟩; iexists f; isplitr
    · ipureintro; trivial
    · iexact H

theorem src_join [∀ e, Nonempty (Elt F e)] (c : Dev nD) (a : F .f32) :
    iprop(srcRest c a ∗ bigSep (Finset.Ico 1 32) fun j => srcPt c (Transfers.shareTokN fullShare j) a)
      ⊢ (wholeAny (bfSrc.view.loc (c : Thread nD τ)) : sProp 𝕄) := by
  refine (src_split c a).2.trans ?_
  unfold shared wholeAny held
  rw [src_set]
  iintro H; iexists _; isplitr
  rotate_left
  · iexact H
  · ipureintro; trivial

/-! ## The slots of the maxima, handed round -/

theorem fsub_inj (c : Fin 32) {a b : Fin 32} (h : c - a = c - b) : a = b := by
  have := congrArg Fin.val h; simp only [Fin.val_sub] at this; apply Fin.ext; omega
theorem fneg_inj : ∀ {a b : Fin 32}, -a = -b → a = b := by decide
theorem fsub_self : ∀ c : Fin 32, c - c = 0 := by decide

/-- The place of the device `k` places back in the ring, as the exchange counts them. -/
def backE (c : Dev nD) : Fin 32 ≃ Fin 32 := Equiv.ofBijective (fun k => (c - rot (-k) c : Fin 32))
  (Finite.injective_iff_bijective.mp fun _ _ h => fneg_inj (rot_inj (fsub_inj _ h)))

/-- The places as the exchange counts them. -/
def aheadE (c : Dev nD) : Fin 32 ≃ Dev nD := Equiv.ofBijective (fun j => c + j)
  (Finite.injective_iff_bijective.mp fun _ _ h => fadd_cancel _ _ _ h)

theorem give_of (c : Dev nD) (i : ℕ) : iprop(allReached c ∗ bfAny c (backE c (no (i + 1)))) ⊢ (give c 0 i : sProp 𝕄) := by
  unfold give bfFor
  rw [if_pos rfl]
  split
  · iintro -; iempintro
  · iintro ⟨HA, H⟩
    isplitl [H]
    · iapply (Entails.of_eq (congrArg (bfAny c) (show backE c (no (i + 1)) = c - rot (-(no i + 1)) c by rw [no_succ]; rfl))); iexact H
    · iexact HA

theorem bfFor_ahead (c : Dev nD) (j : ℕ) (hj : j ∈ Finset.Ico 1 32) :
    (bfFor c (c + no j) : sProp 𝕄) ⊢ iprop(bfAny (c + no j) (no j) ∗ allReached (c + no j)) := by
  have hj := Finset.mem_Ico.mp hj
  have v : (no j).val = j := no_val hj.2
  unfold bfFor
  rw [if_neg, fadd_sub']
  intro e
  have h0 : no j = 0 := fadd_cancel c _ _ (e.trans (fadd_zero c).symm)
  have := congrArg Fin.val h0; rw [v] at this; simp at this; omega

theorem gives_split (c : Dev nD) :
    iprop(wholeAny (bfBuf.view.loc (c : Thread nD τ)) ∗ allReached c)
      ⊢ (iprop(bfAny c 0 ∗ bigSep (Finset.Ico 0 31) fun i => give c 0 i) : sProp 𝕄) := by
  refine BIBase.Entails.trans (Q := iprop(allReached c ∗ (bfAny c 0 ∗ bigSep (Finset.Ico 0 31) fun i => bfAny c (backE c (no (i + 1)))))) ?_ ?_
  · iintro ⟨H, HA⟩
    isplitl [HA]; · iexact HA
    ihave H := (bf_split c) $$ H
    ihave H := (Entails.of_eq ((bigSep_univ_equiv (backE c) _).trans ((fin32 _).trans ((from_zero _).trans (congrArg _ (shift _)))))) $$ H
    icases H with ⟨H0, H⟩
    isplitl [H0]
    · have e : backE c (no 0) = 0 := by show c - rot (-0) c = 0; rw [show (-0 : Fin 32) = 0 from rfl, rot_zero]; exact fsub_self c
      iapply (Entails.of_eq (congrArg (bfAny c) e)); iexact H0
    · iexact H
  · iintro ⟨#HA, H0, H⟩
    isplitl [H0]; · iexact H0
    iapply (bigSep_with_persistent (R := allReached c) fun i _ => give_of c i)
    isplitr; · iexact HA
    iexact H

theorem pack_split (c : Dev nD) :
    (pack c 31 : sProp 𝕄) ⊢ bigSep (Finset.Ico 1 32) fun j => iprop(bfAny (c + no j) (no j) ∗ allReached (c + no j)) := by
  have e1 : (bigSep (Finset.Ico 0 32) fun i => bfFor c (placeE c (no i)) : sProp 𝕄) = bigSep (Finset.Ico 0 32) fun j => bfFor c (c + no j) := by
    rw [← fin32 fun k => bfFor c (placeE c k), ← fin32 fun j => bfFor c (c + j)]
    exact (bigSep_univ_equiv (placeE c) (bfFor c)).symm.trans (bigSep_univ_equiv (aheadE c) (bfFor c))
  rw [from_zero, from_zero] at e1
  have e0 : (bfFor c (placeE c (no 0)) : sProp 𝕄) = iprop(emp) := if_pos (rot_zero c)
  rw [e0] at e1
  refine BIBase.Entails.trans (Q := iprop(bfFor c (c + no 0) ∗ bigSep (Finset.Ico 1 32) fun j => bfFor c (c + no j))) ?_ ?_
  · rw [← e1]; unfold pack
    iintro H; isplitr
    · iempintro
    · iexact H
  · iintro ⟨-, H⟩
    iapply ((Entails.of_eq rfl).trans (BI.bigSep_mono fun j hj => bfFor_ahead c j hj)) $$ H

end Cert.KernelIdeal.Proto
-- ==== Proof.KernelIdeal.Parts.lean ====
module

public import proofs.«01_k».proof.Proof.KernelIdeal.Split

@[expose] public section

noncomputable section

namespace Cert.KernelIdeal.Proto

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal
open Cert.KernelIdeal.Facts₀ Cert.KernelIdeal.Facts
open Cert.KernelIdeal.Loop Cert.KernelIdeal.Mesh

variable {F : FTy → Type} [FloatOps F]

local notation "𝕄" => MT nD τ sig Unit (Elt F) ℕ UU ℕ

/-! ## What a device starts with, by its parts -/

/-- The duties of device `c`. -/
def toks (c : Dev nD) : sProp 𝕄 := bigSep Finset.univ fun k : Option Sc =>
  iprop(dutyTok ER (cell (payee k true c) k) 0 true ∗ dutyTok ER (cell (payee k false c) k) 0 false)

/-- The units the other devices owe to a cell of kind `k`. -/
def dueTo (k : Option Sc) : ℕ := (dues.countP fun p => p.1 = k) * amtK k
/-- The claims of device `c` on the other devices. -/
def claims (c : Dev nD) : sProp 𝕄 := bigSep Finset.univ fun k : Option Sc => cred (tallyAt (cell c k) () (dueTo k))

/-- Device `c` at the start of its own cells. -/
def poss (c : Dev nD) : sProp 𝕄 := bigSep Finset.univ fun k : Sc => atPos ER (cell c (some k)) 0 ∅ 0

theorem count_none : (dues.countP fun p => p.1 = none) = 2 := by decide +kernel
theorem count_bar2 : (dues.countP fun p => p.1 = some .bar2) = 2 := by decide +kernel
theorem count_recv : ∀ (s : Fin 4) (h : Fin 32), h ≠ 0 → (dues.countP fun p => p.1 = some (.recv s h)) = 1 := by decide +kernel
theorem count_bfr : ∀ (j : Fin 32), j ≠ 0 → (dues.countP fun p => p.1 = some (.bfr j)) = 1 := by decide +kernel

theorem no_ne_zero {i : ℕ} (hi : i ∈ Finset.Ico 1 32) : no i ≠ 0 := fun e => by
  have hi := Finset.mem_Ico.mp hi
  have := congrArg Fin.val e; rw [no_val hi.2] at this; simp at this; omega

theorem due_recv (c : Dev nD) (i : ℕ) (hi : i ∈ Finset.Ico 1 32) :
    (all4 fun s => cred (tallyAt (cell c (some (.recv s (no i)))) () (dueTo (some (.recv s (no i))))) : sProp 𝕄)
      ⊢ all4 fun s => cred (tallyAt (cell c (some (.recv s (no i)))) () nSlot) :=
  all4_mono fun s => Entails.of_eq (by rw [show dueTo (some (.recv s (no i))) = nSlot by unfold dueTo; rw [count_recv s _ (no_ne_zero hi), one_mul]; rfl])

theorem due_bfr (c : Dev nD) (i : ℕ) (hi : i ∈ Finset.Ico 1 32) :
    (cred (tallyAt (cell c (some (.bfr (no i)))) () (dueTo (some (.bfr (no i))))) : sProp 𝕄)
      ⊢ cred (tallyAt (cell c (some (.bfr (no i)))) () nBf) :=
  Entails.of_eq (by rw [show dueTo (some (.bfr (no i))) = nBf by unfold dueTo; rw [count_bfr _ (no_ne_zero hi), one_mul]; rfl])

theorem due_none : dueTo none = 2 := by unfold dueTo; rw [count_none]; rfl
theorem due_bar2 : dueTo (some .bar2) = 2 := by unfold dueTo; rw [count_bar2]; rfl

theorem claims_split (c : Dev nD) :
    (claims c : sProp 𝕄) ⊢ iprop(cred (tallyAt (cell c none) () 2)
      ∗ (bigSep (Finset.Ico 1 32) fun i => all4 fun s => cred (tallyAt (cell c (some (.recv s (no i)))) () nSlot))
      ∗ (bigSep (Finset.Ico 1 32) fun i => cred (tallyAt (cell c (some (.bfr (no i)))) () nBf))
      ∗ cred (tallyAt (cell c (some .bar2)) () 2)) := by
  unfold claims
  have hr := BI.bigSep_mono (s := Finset.Ico 1 32) fun i hi => due_recv (F := F) c i hi
  have hb := BI.bigSep_mono (s := Finset.Ico 1 32) fun i hi => due_bfr (F := F) c i hi
  rw [opt_split, sc_split, due_none, due_bar2, from_zero, from_zero, from_zero, from_zero]
  iintro ⟨H0, ⟨-, -, Hr⟩, ⟨-, -, Hb⟩, H2⟩
  isplitl [H0]; · iexact H0
  isplitl [Hr]; · iapply ((Entails.of_eq rfl).trans hr); iexact Hr
  isplitl [Hb]; · iapply ((Entails.of_eq rfl).trans hb); iexact Hb
  iexact H2

theorem toks_split (c : Dev nD) :
    (toks c : sProp 𝕄) ⊢ iprop((dutyTok ER (cell (rot 1 c) none) 0 true ∗ dutyTok ER (cell (rot (-1) c) none) 0 false)
      ∗ (bigSep (Finset.Ico 0 31) fun i => all4 fun s => iprop(dutyTok ER (cell c (some (.send s (no i)))) 0 false
          ∗ dutyTok ER (cell (tgt s c) (some (.recv s (no (i + 1))))) 0 false))
      ∗ (bigSep (Finset.Ico 1 32) fun j => iprop(dutyTok ER (cell c (some (.bfs (no j)))) 0 false
          ∗ dutyTok ER (cell (c + no j) (some (.bfr (no j)))) 0 false))
      ∗ dutyTok ER (cell (rot 1 c) (some .bar2)) 0 true ∗ dutyTok ER (cell (rot (-1) c) (some .bar2)) 0 false) := by
  unfold toks
  rw [opt_split, sc_split]
  simp only [all4_sep, bigSep_sep']
  rw [to_last fun i => all4 fun s => dutyTok ER (cell (payee (some (.send s (no i))) false c) (some (.send s (no i)))) 0 false,
    from_zero fun i => all4 fun s => dutyTok ER (cell (payee (some (.recv s (no i))) false c) (some (.recv s (no i)))) 0 false,
    shift fun i => all4 fun s => dutyTok ER (cell (payee (some (.recv s (no i))) false c) (some (.recv s (no i)))) 0 false,
    from_zero fun i => dutyTok ER (cell (payee (some (.bfs (no i))) false c) (some (.bfs (no i)))) 0 false,
    from_zero fun i => dutyTok ER (cell (payee (some (.bfr (no i))) false c) (some (.bfr (no i)))) 0 false]
  iintro ⟨⟨H0, H1⟩, ⟨⟨-, -, Hs⟩, -, -, Hr⟩, ⟨⟨-, -, Ha⟩, -, -, Hb⟩, H2, H3⟩
  isplitl [H0 H1]
  · isplitl [H0]
    · iexact H0
    · iexact H1
  isplitl [Hs Hr]
  · isplitl [Hs]
    · iexact Hs
    · iexact Hr
  isplitl [Ha Hb]
  · isplitl [Ha]
    · iexact Ha
    · iexact Hb
  isplitl [H2]
  · iexact H2
  · iexact H3

/-- A cell of device `c` at which nothing more will happen. -/
def doneAt (xv : Dev nD → Vec F S4096x128 .f32) (wv : Dev nD → Vec F S128x2048 .f32) (c : Dev nD) (k : Option Sc) : sProp 𝕄 :=
  iprop(∃ R : ℕ, ⌜∀ r, R ≤ r → (Rd xv wv).duties (cell c k) r = ∅⌝ ∗ atPos ER (cell c k) R ∅ 0)

section parts
variable (xv : Dev nD → Vec F S4096x128 .f32) (wv : Dev nD → Vec F S128x2048 .f32)

theorem done_one (c : Dev nD) (k : Option Sc) : (atPos ER (cell c k) 1 ∅ 0 : sProp 𝕄) ⊢ doneAt xv wv c k := by
  unfold doneAt; iintro H; iexists 1; isplitr
  · ipureintro; exact duties_later xv wv _
  · iexact H
theorem done_zero (c : Dev nD) (k : Option Sc) (hk : dutK k = ∅) : (atPos ER (cell c k) 0 ∅ 0 : sProp 𝕄) ⊢ doneAt xv wv c k := by
  unfold doneAt; iintro H; iexists 0; isplitr
  · ipureintro; exact duties_unused xv wv c k hk
  · iexact H

/-- The cells of device `c` that its turn leaves alone. -/
def idle (c : Dev nD) : sProp 𝕄 :=
  iprop((all4 fun s => atPos ER (cell c (some (.send s (no 31)))) 0 ∅ 0) ∗ (all4 fun s => atPos ER (cell c (some (.recv s (no 0)))) 0 ∅ 0)
    ∗ atPos ER (cell c (some (.bfs (no 0)))) 0 ∅ 0 ∗ atPos ER (cell c (some (.bfr (no 0)))) 0 ∅ 0)

theorem poss_split (c : Dev nD) :
    (poss c : sProp 𝕄) ⊢ iprop(idle c
      ∗ (bigSep (Finset.Ico 0 31) fun i => all4 fun s => atPos ER (cell c (some (.send s (no i)))) 0 ∅ 0)
      ∗ (bigSep (Finset.Ico 1 32) fun i => all4 fun s => atPos ER (cell c (some (.recv s (no i)))) 0 ∅ 0)
      ∗ (bigSep (Finset.Ico 1 32) fun i => atPos ER (cell c (some (.bfs (no i)))) 0 ∅ 0)
      ∗ (bigSep (Finset.Ico 1 32) fun i => atPos ER (cell c (some (.bfr (no i)))) 0 ∅ 0)
      ∗ atPos ER (cell c (some .bar2)) 0 ∅ 0) := by
  unfold poss idle
  rw [sc_split, to_last, from_zero fun i => all4 fun s => atPos ER (cell c (some (.recv s (no i)))) 0 ∅ 0, from_zero, from_zero]
  iintro ⟨⟨⟨Hs, HS⟩, Hr, HR⟩, ⟨⟨Ha, HA⟩, Hb, HB⟩, H2⟩
  isplitl [Hs Hr Ha Hb]
  · isplitl [Hs]; · iexact Hs
    isplitl [Hr]; · iexact Hr
    isplitl [Ha]; · iexact Ha
    iexact Hb
  isplitl [HS]; · iexact HS
  isplitl [HR]; · iexact HR
  isplitl [HA]; · iexact HA
  isplitl [HB]; · iexact HB
  iexact H2

theorem poss_join (c : Dev nD) :
    iprop(idle c
      ∗ (bigSep (Finset.Ico 0 31) fun i => all4 fun s => atPos ER (cell c (some (.send s (no i)))) 1 ∅ 0)
      ∗ (bigSep (Finset.Ico 1 32) fun i => all4 fun s => atPos ER (cell c (some (.recv s (no i)))) 1 ∅ 0)
      ∗ (bigSep (Finset.Ico 1 32) fun i => atPos ER (cell c (some (.bfs (no i)))) 1 ∅ 0)
      ∗ (bigSep (Finset.Ico 1 32) fun i => atPos ER (cell c (some (.bfr (no i)))) 1 ∅ 0)
      ∗ atPos ER (cell c (some .bar2)) 1 ∅ 0)
      ⊢ (bigSep Finset.univ fun k : Sc => doneAt xv wv c (some k) : sProp 𝕄) := by
  have hs := BI.bigSep_mono (s := Finset.Ico 0 31) fun i _ => all4_mono fun s => done_one xv wv c (some (.send s (no i)))
  have hr := BI.bigSep_mono (s := Finset.Ico 1 32) fun i _ => all4_mono fun s => done_one xv wv c (some (.recv s (no i)))
  have ha := BI.bigSep_mono (s := Finset.Ico 1 32) fun i _ => done_one xv wv c (some (.bfs (no i)))
  have hb := BI.bigSep_mono (s := Finset.Ico 1 32) fun i _ => done_one xv wv c (some (.bfr (no i)))
  unfold idle
  rw [sc_split, to_last, from_zero fun i => all4 fun s => doneAt xv wv c (some (.recv s (no i))), from_zero, from_zero]
  iintro ⟨⟨Hs, Hr, Ha, Hb⟩, HS, HR, HA, HB, H2⟩
  isplitl [Hs HS Hr HR]
  · isplitl [Hs HS]
    · isplitl [Hs]
      · iapply (all4_mono fun s => done_zero xv wv c (some (.send s (no 31))) rfl); iexact Hs
      · iapply ((Entails.of_eq rfl).trans hs); iexact HS
    · isplitl [Hr]
      · iapply (all4_mono fun s => done_zero xv wv c (some (.recv s (no 0))) rfl); iexact Hr
      · iapply ((Entails.of_eq rfl).trans hr); iexact HR
  isplitl [Ha HA Hb HB]
  · isplitl [Ha HA]
    · isplitl [Ha]
      · iapply (done_zero xv wv c (some (.bfs (no 0))) rfl); iexact Ha
      · iapply ((Entails.of_eq rfl).trans ha); iexact HA
    · isplitl [Hb]
      · iapply (done_zero xv wv c (some (.bfr (no 0))) rfl); iexact Hb
      · iapply ((Entails.of_eq rfl).trans hb); iexact HB
  iapply (done_one xv wv c (some .bar2)); iexact H2

end parts

end Cert.KernelIdeal.Proto
-- ==== Proof.KernelIdeal.Turn.lean ====
module

public import proofs.«01_k».proof.Proof.KernelIdeal.Parts

@[expose] public section

noncomputable section

namespace Cert.KernelIdeal.Proto

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal
open Cert.KernelIdeal.Facts₀ Cert.KernelIdeal.Facts
open Cert.KernelIdeal.Loop Cert.KernelIdeal.Mesh

variable {F : FTy → Type} [FloatOps F]

local notation "𝕄" => MT nD τ sig Unit (Elt F) ℕ UU ℕ

/-! ## The columns of the result -/

theorem mem_cols (s : Fin 4) (i : S128x2048.Idx) :
    i ∈ (outM.access (outRect s)).setOn Finset.univ ↔ colOf s ≤ (i 1).val ∧ (i 1).val < colOf s + 512 := by
  rw [show (outM.access (outRect s)).setOn Finset.univ = (outRect s).set from View.set_slice_whole _ _, Rect.mem_set_unit]
  have h0 : (i 0).val < 128 := (i 0).isLt
  constructor
  · intro H
    exact H 1
  · intro H x
    fin_cases x
    · show 0 ≤ (i 0).val ∧ (i 0).val < 0 + 128; omega
    · exact H

theorem setCols_out (s : Fin 4) (f : Vec F S128x2048 .f32) (v : Vec F S128x512 .f32) (i : S128x2048.Idx)
    (h : ¬ (colOf s ≤ (i 1).val ∧ (i 1).val < colOf s + 512)) : setCols s f v i = f i :=
  View.write_of_not_mem _ _ _ fun hm => h ((mem_cols s i).mp hm)

theorem setCols_in (s : Fin 4) (f : Vec F S128x2048 .f32) (v : Vec F S128x512 .f32) (i : S128x2048.Idx)
    (h : (i 1).val = colOf s + (i 1).val % 512) : setCols s f v i = v (inStr i) := by
  have e : (outM.access (outRect s)).emb (inStr i) = i := by
    funext x
    apply Fin.ext
    fin_cases x
    · show 0 + 1 * (i 0).val = (i 0).val; omega
    · show colOf s + 1 * ((i 1).val % 512) = (i 1).val; omega
  have hw := View.write_emb_of_mem (v := outM.access (outRect s)) (Val := Elt F) f v (M := Finset.univ) (x := inStr i) (Finset.mem_univ _)
  rw [e] at hw
  exact hw

theorem cols_cases (i : S128x2048.Idx) : (i 1).val < 2048 := (i 1).isLt

theorem cols_all (o : Vec F S128x2048 .f32) (a : Fin 4 → Vec F S128x512 .f32) :
    setCols 3 (setCols 2 (setCols 1 (setCols 0 o (a 0)) (a 1)) (a 2)) (a 3) = fun i => a (strOf i) (inStr i) := by
  funext i
  have hi := cols_cases i
  have hk : ∀ (k : Fin 4), (i 1).val / 512 = k.val → strOf i = (![0, 2, 1, 3] : Fin 4 → Fin 4) k := fun k h => by
    unfold strOf; congr 1; exact Fin.ext h
  rcases (show (i 1).val / 512 = 0 ∨ (i 1).val / 512 = 1 ∨ (i 1).val / 512 = 2 ∨ (i 1).val / 512 = 3 by omega) with h | h | h | h
  · rw [setCols_out 3 _ _ _ (by simp only [colOf]; omega), setCols_out 2 _ _ _ (by simp only [colOf]; omega),
      setCols_out 1 _ _ _ (by simp only [colOf]; omega), setCols_in 0 _ _ _ (by simp only [colOf]; omega), hk 0 h]
    rfl
  · rw [setCols_out 3 _ _ _ (by simp only [colOf]; omega), setCols_in 2 _ _ _ (by simp only [colOf]; omega), hk 1 h]
    rfl
  · rw [setCols_out 3 _ _ _ (by simp only [colOf]; omega), setCols_out 2 _ _ _ (by simp only [colOf]; omega),
      setCols_in 1 _ _ _ (by simp only [colOf]; omega), hk 2 h]
    rfl
  · rw [setCols_in 3 _ _ _ (by simp only [colOf]; omega), hk 3 h]
    rfl

/-! ## A device's whole turn -/

section turn
variable (xv : Dev nD → Vec F S4096x128 .f32) (wv : Dev nD → Vec F S128x2048 .f32)

theorem pair4 (I : Finset ℕ) (P Q : Fin 4 → ℕ → sProp 𝕄) : (bigSep I fun i => all4 fun s => iprop(P s i ∗ Q s i))
    = iprop((bigSep I fun i => all4 fun s => P s i) ∗ bigSep I fun i => all4 fun s => Q s i) := by
  simp only [all4_sep, bigSep_sep']

theorem slots_first (c : Dev nD) : (wholeAny (slots.view.loc (c : Thread nD τ)) : sProp 𝕄)
    ⊢ iprop((all4 fun s => slotAny c s 0) ∗ landing c 0 ∗ landing c 1 ∗ landing c 2 ∗ landing c 3) := by
  refine (slots_split c).trans (Entails.of_eq ?_)
  rw [from_zero, ← all4_bigSep]
  rfl

theorem landing_shift (u : Dev nD) (s : Fin 4) :
    (landing u s : sProp 𝕄) = bigSep (Finset.Ico 0 31) fun i => slotAny u s (no (i + 1)) := shift fun i => slotAny u s (no i)

theorem landings (c : Dev nD) :
    iprop(landing (rot 1 c) 0 ∗ landing (rot (-1) c) 1 ∗ landing (rot 1 c) 2 ∗ landing (rot (-1) c) 3)
      ⊢ (bigSep (Finset.Ico 0 31) fun i => all4 fun s => slotAny (tgt s c) s (no (i + 1)) : sProp 𝕄) := by
  refine Entails.of_eq ?_
  rw [← all4_bigSep, landing_shift, landing_shift, landing_shift, landing_shift]
  rfl

theorem gives4 (c : Dev nD) (i : ℕ) : (give c 0 i : sProp 𝕄) ⊢ all4 fun s => give c s i := by
  unfold all4
  dsimp only
  rw [show (give c 1 i : sProp 𝕄) = iprop(emp) from if_neg (by decide), show (give c 2 i : sProp 𝕄) = iprop(emp) from if_neg (by decide),
    show (give c 3 i : sProp 𝕄) = iprop(emp) from if_neg (by decide)]
  iintro H
  isplitl [H]; · iexact H
  isplitr; · iempintro
  isplitr <;> iempintro

theorem outs (c : Dev nD) :
    iprop((bigSep (Finset.Ico 0 31) fun i => all4 fun s => slotAny (tgt s c) s (no (i + 1)))
      ∗ (bigSep (Finset.Ico 0 31) fun i => all4 fun s => iprop(dutyTok ER (cell c (some (.send s (no i)))) 0 false
          ∗ dutyTok ER (cell (tgt s c) (some (.recv s (no (i + 1))))) 0 false))
      ∗ bigSep (Finset.Ico 0 31) fun i => give c 0 i)
      ⊢ (iprop((all4 fun s => hopOut c s 0) ∗ bigSep (Finset.Ico 1 31) fun i => all4 fun s => hopOut c s i) : sProp 𝕄) := by
  have hg := BI.bigSep_mono (s := Finset.Ico 0 31) fun i _ => gives4 (F := F) c i
  rw [← from_zero31 fun i => all4 fun s => hopOut c s i]
  unfold hopOut
  simp only [all4_sep, bigSep_sep']
  iintro ⟨HS, ⟨HA, HB⟩, HG⟩
  isplitl [HS]; · iexact HS
  isplitl [HA]; · iexact HA
  isplitl [HB]; · iexact HB
  iapply ((Entails.of_eq rfl).trans hg); iexact HG

theorem hopIns (c : Dev nD) :
    iprop((bigSep (Finset.Ico 1 32) fun i => all4 fun s => cred (tallyAt (cell c (some (.recv s (no i)))) () nSlot))
      ∗ bigSep (Finset.Ico 1 32) fun i => all4 fun s => atPos ER (cell c (some (.recv s (no i)))) 0 ∅ 0)
      ⊢ (iprop((all4 fun s => hopIn c s 31) ∗ bigSep (Finset.Ico 1 31) fun i => all4 fun s => hopIn c s i) : sProp 𝕄) := by
  rw [← to_last1 fun i => all4 fun s => hopIn c s i]
  unfold hopIn
  simp only [all4_sep, bigSep_sep']
  exact .rfl

theorem exOuts (c : Dev nD) :
    iprop(pack c 31 ∗ bigSep (Finset.Ico 1 32) fun j => iprop(dutyTok ER (cell c (some (.bfs (no j)))) 0 false
          ∗ dutyTok ER (cell (c + no j) (some (.bfr (no j)))) 0 false))
      ⊢ (bigSep (Finset.Ico 1 32) fun j => exOut c j : sProp 𝕄) := by
  unfold exOut
  rw [bigSep_sep' _ (fun j => iprop(bfAny (c + no j) (no j) ∗ allReached (c + no j)))]
  iintro ⟨HP, HT⟩
  isplitl [HP]; · iapply (pack_split c); iexact HP
  iexact HT

theorem sents (c : Dev nD) :
    iprop((all4 fun s => outDone c s 0) ∗ (bigSep (Finset.Ico 1 31) fun i => all4 fun s => outDone c s i)
        ∗ bigSep (Finset.Ico 0 31) fun i => all4 fun s => atPos ER (cell c (some (.send s (no i)))) 0 ∅ 0)
      ⊢ (bigSep (Finset.Ico 0 31) fun i => all4 fun s => iprop(outDone c s i ∗ atPos ER (cell c (some (.send s (no i)))) 0 ∅ 0) : sProp 𝕄) := by
  simp only [all4_sep, bigSep_sep']
  rw [from_zero31 fun i => all4 fun s => outDone c s i]
  iintro ⟨H0, H, HA⟩
  isplitl [H0 H]
  · isplitl [H0]
    · iexact H0
    · iexact H
  iexact HA

theorem gots (c : Dev nD) : (bigSep (Finset.Ico 1 32) fun j => exGot c j)
    ⊢ (iprop((bigSep (Finset.Ico 1 32) fun j => atPos ER (cell c (some (.bfr (no j)))) 1 ∅ 0) ∗ bigSep (Finset.Ico 1 32) fun j => bfAny c (no j)) : sProp 𝕄) := by
  unfold exGot
  exact Entails.of_eq (bigSep_sep' _ _ _)

/-- What device `c` holds before its turn. -/
def turnPre (κ : GSem nD τ sig → ℕ) (c : Dev nD) (f : Vec F S7 .i32) (o : Vec F S128x2048 .f32) : sProp 𝕄 :=
  iprop(records xv wv κ ∗ levAts L lv ∗ allReached c ∗ Owes c dues ∗ ins xv wv c ∗ shared (tabNM.view.loc (c : Thread nD τ)) Finset.univ fullShare f
    ∗ outHas c o ∗ wholeAny (maxM.view.loc (c : Thread nD τ)) ∗ wholeAny (slots.view.loc (c : Thread nD τ))
    ∗ wholeAny (bfSrc.view.loc (c : Thread nD τ)) ∗ wholeAny (bfBuf.view.loc (c : Thread nD τ))
    ∗ toks c ∗ claims c ∗ atPos ER (cell c none) 0 ∅ 0 ∗ poss c)

/-- What device `c` holds after its turn. -/
def turnPost (c : Dev nD) (f : Vec F S7 .i32) : sProp 𝕄 :=
  iprop(Owes c [] ∗ ins xv wv c ∗ shared (tabNM.view.loc (c : Thread nD τ)) Finset.univ fullShare f
    ∗ outHas c (resV xv wv c) ∗ maxHas c (broadcast S8x128 (amAll xv wv c)) ∗ wholeAny (slots.view.loc (c : Thread nD τ))
    ∗ wholeAny (bfSrc.view.loc (c : Thread nD τ)) ∗ wholeAny (bfBuf.view.loc (c : Thread nD τ))
    ∗ doneAt xv wv c none ∗ bigSep Finset.univ fun k : Sc => doneAt xv wv c (some k))

variable [∀ e, Nonempty (Elt F e)]

theorem slots_last (c : Dev nD) :
    iprop((all4 fun s => slotAny c s 31) ∗ bigSep (Finset.Ico 0 31) fun i => all4 fun s => slotAny c s (no i))
      ⊢ (wholeAny (slots.view.loc (c : Thread nD τ)) : sProp 𝕄) := by
  refine (Entails.of_eq ?_).trans (slots_join c)
  rw [to_last fun i => all4 fun s => slotAny c s (no i)]
  rfl

theorem bf_last (c : Dev nD) :
    iprop(bfAny c 0 ∗ bigSep (Finset.Ico 1 32) fun j => bfAny c (no j)) ⊢ (wholeAny (bfBuf.view.loc (c : Thread nD τ)) : sProp 𝕄) := by
  refine (Entails.of_eq ?_).trans (bf_join c)
  rw [fin32, from_zero]
  rfl

theorem turn_wp (κ : GSem nD τ sig → ℕ) (c : Dev nD) (f : Vec F S7 .i32)
    (h0 : ∀ i : S7.Idx, (i 0).val = 0 → f i = BitVec.ofNat 32 (rot 1 c).val)
    (h1 : ∀ i : S7.Idx, (i 0).val = 1 → f i = BitVec.ofNat 32 (rot (-1) c).val)
    (o : Vec F S128x2048 .f32) (Q : PUnit → sProp 𝕄) :
    iprop(turnPre xv wv κ c f o ∗ (turnPost xv wv c f -∗ Q ⟨⟩))
      ⊢ WP c (Loop.body tabFM tabBM tabNM xM wM outM maxM slots cc0_scratch1 cc0_scratch2 bfSrc bfBuf cc0_scratch5 cc0_scratch6 cc0_scoped0) Q := by
  unfold turnPre Loop.body
  rw [WP_bind]
  iintro ⟨⟨#HR, #Hlev, #HA, HO, Hins, HN, Hout, Hmax, Hslots, Hsrc, Hbf, Htok, Hcl, Hbar, Hpos⟩, HQ⟩
  ihave Hslots := (slots_first c) $$ Hslots
  icases Hslots with ⟨Hs0, HL0, HL1, HL2, HL3⟩
  ihave Hbf := (gives_split c) $$ [Hbf]
  · isplitl [Hbf]
    · iexact Hbf
    · iexact HA
  icases Hbf with ⟨Hbf0, Hgive⟩
  ihave Htok := (toks_split c) $$ Htok
  icases Htok with ⟨⟨Ht1, Ht2⟩, HtH, HtE, HtA, HtB⟩
  ihave Hcl := (claims_split c) $$ Hcl
  icases Hcl with ⟨Hc0, HcR, HcE, HcB⟩
  ihave Hpos := (poss_split c) $$ Hpos
  icases Hpos with ⟨Hidle, HpS, HpR, HpA, HpE, HpB⟩
  iapply (opening_wp xv wv κ c f h0 h1)
  isplitr; · iexact HR
  isplitr; · iexact Hlev
  isplitl [HO]; · iexact HO
  isplitl [Hins]; · iexact Hins
  isplitl [HN]; · iexact HN
  isplitl [Ht1]; · iexact Ht1
  isplitl [Ht2]; · iexact Ht2
  isplitl [HL0]; · iexact HL0
  isplitl [HL1]; · iexact HL1
  isplitl [HL2]; · iexact HL2
  isplitl [HL3]; · iexact HL3
  isplitr; · iexact HA
  isplitl [Hc0]; · iexact Hc0
  isplitl [Hbar]; · iexact Hbar
  iintro ⟨HO, Hins, HN, Hbar, HL0, HL1, HL2, HL3, #HF, #HB⟩
  have hk : iprop(records xv wv κ ∗ levAts L lv ∗ allReached c ∗ allReached (rot 1 c) ∗ allReached (rot (-1) c)) ⊢ known xv wv κ c := .rfl
  ihave #HK := hk $$ []
  · isplitr; · iexact HR
    isplitr; · iexact Hlev
    isplitr; · iexact HA
    isplitr; · iexact HF
    iexact HB
  ihave Hho := (outs c) $$ [HL0 HL1 HL2 HL3 HtH Hgive]
  · isplitl [HL0 HL1 HL2 HL3]
    · iapply (landings c)
      isplitl [HL0]; · iexact HL0
      isplitl [HL1]; · iexact HL1
      isplitl [HL2]; · iexact HL2
      iexact HL3
    isplitl [HtH]
    · iexact HtH
    · iexact Hgive
  icases Hho with ⟨Hho0, Hho⟩
  ihave Hhi := (hopIns c) $$ [HcR HpR]
  · isplitl [HcR]
    · iexact HcR
    · iexact HpR
  icases Hhi with ⟨Hhi31, Hhi⟩
  rw [WP_bind]
  iapply (hop0_wp xv wv κ c)
  isplitr; · iexact HK
  isplitl [HO]; · iexact HO
  isplitl [Hins]; · iexact Hins
  isplitl [Hs0 Hho0]
  · iapply (Entails.of_eq (all4_sep (fun s => slotAny c s 0) fun s => hopOut c s 0).symm)
    isplitl [Hs0]
    · iexact Hs0
    · iexact Hho0
  iintro ⟨HO, Hins, Hod0⟩
  rw [WP_bind]
  iapply (hops_wp xv wv κ c 30 0 _)
  isplitr; · iexact HK
  isplitl [HO]; · iexact HO
  isplitl [Hins]; · iexact Hins
  isplitl [Hhi Hho]
  · iapply (Entails.of_eq (pair4 _ (fun s i => hopIn c s i) fun s i => hopOut c s i).symm)
    isplitl [Hhi]
    · iexact Hhi
    · iexact Hho
  iintro ⟨HO, Hins, Hd⟩
  ihave Hd := (Entails.of_eq (pair4 _ (fun s i => inDone c s i) fun s i => outDone c s i)) $$ Hd
  icases Hd with ⟨Hid, Hod⟩
  rw [WP_bind]
  iapply (hopLast_wp xv wv κ c _ (above_ex (by decide) 31 1) o)
  isplitr; · iexact HK
  isplitl [HO]; · iexact HO
  isplitl [Hout]; · iexact Hout
  isplitl [Hhi31]; · iexact Hhi31
  rw [cols_all o fun s => acc xv wv s 31 c]
  iintro ⟨HO, Hd, Hpack, Hout⟩
  ihave Hd := (Entails.of_eq (all4_sep (fun s => inDone c s 31) fun s => slotAny c s 31)) $$ Hd
  icases Hd with ⟨Hid31, Hs31⟩
  rw [WP_bind]
  iapply (exchange_wp xv wv κ c)
  isplitr; · iexact HK
  isplitl [HO]; · iexact HO
  isplitl [Hout]; · iexact Hout
  isplitl [Hsrc]; · iexact Hsrc
  isplitl [Hmax]; · iexact Hmax
  isplitl [Hpack HtE]
  · iapply (exOuts c)
    isplitl [Hpack]
    · iexact Hpack
    · iexact HtE
  isplitl [HcE HpE]
  · iapply (Entails.of_eq (bigSep_sep' _ (fun j => cred (tallyAt (cell c (some (.bfr (no j)))) () nBf))
      fun j => atPos ER (cell c (some (.bfr (no j)))) 0 ∅ 0).symm)
    isplitl [HcE]
    · iexact HcE
    · iexact HpE
  iintro ⟨HO, Hout, Hrest, Hmax, Hsent, Hgot⟩
  ihave Hgot := (gots c) $$ Hgot
  icases Hgot with ⟨HpE, Hbf⟩
  rw [WP_bind]
  iapply (waitHops_wp xv wv κ c 31 0 _)
  isplitr; · iexact HK
  isplitl [HO]; · iexact HO
  isplitl [Hod0 Hod HpS]
  · iapply (sents c)
    isplitl [Hod0]; · iexact Hod0
    isplitl [Hod]
    · iexact Hod
    · iexact HpS
  iintro ⟨HO, Hd⟩
  ihave Hd := (Entails.of_eq (pair4 _ (fun s i => atPos ER (cell c (some (.send s (no i)))) 1 ∅ 0) fun s i => slotAny c s (no i))) $$ Hd
  icases Hd with ⟨HpS, Hslots⟩
  rw [WP_bind]
  iapply (waitExs_wp xv wv κ c 31 1 _ (by decide))
  isplitr; · iexact HK
  isplitl [HO]; · iexact HO
  isplitl [Hsent HpA]
  · iapply (Entails.of_eq (bigSep_sep' _ (fun j => exSent c j) fun j => atPos ER (cell c (some (.bfs (no j)))) 0 ∅ 0).symm)
    isplitl [Hsent]
    · iexact Hsent
    · iexact HpA
  iintro ⟨HO, Hd⟩
  ihave Hd := (Entails.of_eq (bigSep_sep' _ (fun j => atPos ER (cell c (some (.bfs (no j)))) 1 ∅ 0)
    fun j => srcPt c (Transfers.shareTokN fullShare j) (am xv wv c))) $$ Hd
  icases Hd with ⟨HpA, Hsrc⟩
  iapply (closing_wp xv wv κ c)
  isplitr; · iexact HK
  isplitl [HO]; · iexact HO
  isplitl [HtA]; · iexact HtA
  isplitl [HtB]; · iexact HtB
  isplitl [HcB]; · iexact HcB
  isplitl [HpB]; · iexact HpB
  iintro ⟨HO, HpB⟩
  iapply HQ
  unfold turnPost
  isplitl [HO]; · iexact HO
  isplitl [Hins]; · iexact Hins
  isplitl [HN]; · iexact HN
  isplitl [Hout]; · iexact Hout
  isplitl [Hmax]; · iexact Hmax
  isplitl [Hs31 Hslots]
  · iapply (slots_last c)
    isplitl [Hs31]
    · iexact Hs31
    · iexact Hslots
  isplitl [Hrest Hsrc]
  · iapply (src_join c (am xv wv c))
    isplitl [Hrest]
    · iexact Hrest
    · iexact Hsrc
  isplitl [Hbf0 Hbf]
  · iapply (bf_last c)
    isplitl [Hbf0]
    · iexact Hbf0
    · iexact Hbf
  isplitl [Hbar]; · iapply (done_one xv wv c none); iexact Hbar
  iapply (poss_join xv wv c)
  isplitl [Hidle]; · iexact Hidle
  isplitl [HpS]; · iexact HpS
  isplitl [Hid Hid31]
  · iapply (Entails.of_eq (to_last1 fun i => all4 fun s => inDone c s i).symm)
    isplitl [Hid31]
    · iexact Hid31
    · iexact Hid
  isplitl [HpA]; · iexact HpA
  isplitl [HpE]; · iexact HpE
  iexact HpB

end turn

end Cert.KernelIdeal.Proto
-- ==== Proof.KernelIdeal.Tables.lean ====
module

public import proofs.«01_k».proof.Proof.KernelIdeal.Turn
public import proofs.«01_k».proof.Proof.Gen.KernelIdeal.Regions
public import Idealize.ShloMosaic.Lib.StableHlo.ReadAt

@[expose] public section

noncomputable section

namespace Cert.KernelIdeal.Proto

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal
open Cert.KernelIdeal.Facts₀ Cert.KernelIdeal.Facts
open Cert.KernelIdeal.Loop Cert.KernelIdeal.Mesh

variable {F : FTy → Type} [FloatOps F]

local notation "𝕄" => MT nD τ sig Unit (Elt F) ℕ UU ℕ

set_option maxRecDepth 4096

section host
variable (m : (ℓ : Loc nD τ sig) → Buf (Elt F) ℓ)

/-- The word of a device number, read back. -/
theorem word_read : ∀ c : Dev nD, (BitVec.ofNat 32 c.val).toInt = c.val := by decide +kernel

theorem lit0_at : ∀ (c : Dev nD) (h : Fin 32), lit0 (S32x32.rowMajor (ix2 h c)) = BitVec.ofNat 32 (blkF h c).val := by decide +kernel
theorem lit1_at : ∀ (c : Dev nD) (h : Fin 32), lit1 (S32x32.rowMajor (ix2 h c)) = BitVec.ofNat 32 (blkB h c).val := by decide +kernel

/-- The number of a device as the host lines make it of the device's own word. -/
theorem word_line : ∀ c : Dev nD, Scalar.select
      (IntOp.cmpi CmpIPredicate.slt
        (id (Host.remui (Host.divui (constantI S_ 32 (Dev.word c)) (constantI S_ 32 1#32)) (constantI S_ 32 32#32)) (Shape.Idx.first Gen.h_S_)) 0#32)
      (IntOp.addi
        (id (Host.remui (Host.divui (constantI S_ 32 (Dev.word c)) (constantI S_ 32 1#32)) (constantI S_ 32 32#32)) (Shape.Idx.first Gen.h_S_)) 32#32)
      (id (Host.remui (Host.divui (constantI S_ 32 (Dev.word c)) (constantI S_ 32 1#32)) (constantI S_ 32 32#32)) (Shape.Idx.first Gen.h_S_))
    = BitVec.ofNat 32 c.val := by decide +kernel

theorem v7_host (c : Dev nD) : StableHlo.upto (Gen.hostOps0 (F := F) c) (Gen.V0 m c) 24 (Proc.tc.devRef main_v7) (Shape.Idx.first Gen.h_S_) = 0#32 := by
  after_reads_at; rfl
theorem v10_host (c : Dev nD) :
    StableHlo.upto (Gen.hostOps0 (F := F) c) (Gen.V0 m c) 24 (Proc.tc.devRef main_v10) (Shape.Idx.first Gen.h_S_) = BitVec.ofNat 32 c.val := by
  after_reads_at; exact word_line c
theorem v15_host (c : Dev nD) : StableHlo.upto (Gen.hostOps0 (F := F) c) (Gen.V0 m c) 39 (Proc.tc.devRef main_v15) (Shape.Idx.first Gen.h_S_) = 0#32 := by
  after_reads_at; rfl
theorem v18_host (c : Dev nD) :
    StableHlo.upto (Gen.hostOps0 (F := F) c) (Gen.V0 m c) 39 (Proc.tc.devRef main_v18) (Shape.Idx.first Gen.h_S_) = BitVec.ofNat 32 c.val := by
  after_reads_at; exact word_line c

/-- A start that the slice leaves as it is. -/
theorem start_word (c : Dev nD) : (min (max (BitVec.ofNat 32 c.val).toInt 0) ((32 - 1 : ℕ) : ℤ)).toNat = c.val := by
  rw [word_read]; have := c.isLt; simp only [nD] at this; omega

theorem tabF_host (c : Dev nD) (i : S32.Idx) : Gen.V1 (F := F) m c main_v12 i = tabF c i := by
  have e0 := v7_host m c
  have e1 := v10_host m c
  unfold Gen.V1
  after_reads_at
  generalize StableHlo.upto (Gen.hostOps0 (F := F) c) (Gen.V0 m c) 24 = G at e0 e1 ⊢
  refine Eq.trans (congrArg (fun j => lit0 (S32x32.rowMajor j)) (congrArg₂ ix2 (Fin.ext ?_) (Fin.ext ?_))) (lit0_at c (i 0))
  · show (min (max (BitVec.toInt (G (Proc.tc.devRef main_v7) (Shape.Idx.first Gen.h_S_))) 0) ((32 - 32 : ℕ) : ℤ)).toNat + (i 0).val = (i 0).val
    rw [e0]; exact Nat.zero_add _
  · show (min (max (BitVec.toInt (G (Proc.tc.devRef main_v10) (Shape.Idx.first Gen.h_S_))) 0) ((32 - 1 : ℕ) : ℤ)).toNat = c.val
    rw [e1, start_word]

theorem tabB_host (c : Dev nD) (i : S32.Idx) : Gen.V1 (F := F) m c main_v20 i = tabB c i := by
  have e0 := v15_host m c
  have e1 := v18_host m c
  unfold Gen.V1
  after_reads_at
  generalize StableHlo.upto (Gen.hostOps0 (F := F) c) (Gen.V0 m c) 39 = G at e0 e1 ⊢
  refine Eq.trans (congrArg (fun j => lit1 (S32x32.rowMajor j)) (congrArg₂ ix2 (Fin.ext ?_) (Fin.ext ?_))) (lit1_at c (i 0))
  · show (min (max (BitVec.toInt (G (Proc.tc.devRef main_v15) (Shape.Idx.first Gen.h_S_))) 0) ((32 - 32 : ℕ) : ℤ)).toNat + (i 0).val = (i 0).val
    rw [e0]; exact Nat.zero_add _
  · show (min (max (BitVec.toInt (G (Proc.tc.devRef main_v18) (Shape.Idx.first Gen.h_S_))) 0) ((32 - 1 : ℕ) : ℤ)).toNat = c.val
    rw [e1, start_word]

end host

end Cert.KernelIdeal.Proto
-- ==== Proof.KernelIdeal.Neigh.lean ====
module

public import proofs.«01_k».proof.Proof.KernelIdeal.Tables
public import proofs.«01_k».proof.Proof.Gen.KernelIdeal.Regions
public import Idealize.ShloMosaic.Lib.StableHlo.ReadAt

@[expose] public section

noncomputable section

namespace Cert.KernelIdeal.Proto

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal
open Cert.KernelIdeal.Facts₀ Cert.KernelIdeal.Facts
open Cert.KernelIdeal.Loop Cert.KernelIdeal.Mesh

variable {F : FTy → Type} [FloatOps F]

local notation "𝕄" => MT nD τ sig Unit (Elt F) ℕ UU ℕ

set_option maxRecDepth 4096

section host
variable (m : (ℓ : Loc nD τ sig) → Buf (Elt F) ℓ)

theorem lit2_at : ∀ c : Dev nD, lit2 (S32.rowMajor (ix1 c)) = BitVec.ofNat 32 (rot 1 c).val := by decide +kernel

theorem v23_host (c : Dev nD) :
    StableHlo.upto (Gen.hostOps0 (F := F) c) (Gen.V0 m c) 46 (Proc.tc.devRef main_v23) (Shape.Idx.first Gen.h_S_) = BitVec.ofNat 32 c.val := by
  after_reads_at; exact word_line c

theorem v25_host (c : Dev nD) (j : S_.Idx) :
    StableHlo.upto (Gen.hostOps0 (F := F) c) (Gen.V0 m c) 48 (Proc.tc.devRef main_v25) j = BitVec.ofNat 32 (rot 1 c).val := by
  have e := v23_host m c
  after_reads_simp
  generalize StableHlo.upto (Gen.hostOps0 (F := F) c) (Gen.V0 m c) 46 = G at e ⊢
  refine Eq.trans (congrArg (fun j => lit2 (S32.rowMajor j)) (?_ : _ = ix1 c)) (lit2_at c)
  funext k
  obtain rfl : k = 0 := Subsingleton.elim _ _
  refine Fin.ext ?_
  show (min (max (BitVec.toInt (G (Proc.tc.devRef main_v23) (Shape.Idx.first Gen.h_S_))) 0) ((32 - 1 : ℕ) : ℤ)).toNat + _ = c.val
  rw [e, start_word]
  exact congrArg (c.val + ·) (Nat.lt_one_iff.mp (Fin.isLt _))

theorem lit3_at : ∀ c : Dev nD, lit3 (S32.rowMajor (ix1 c)) = BitVec.ofNat 32 (rot (-1) c).val := by decide +kernel

theorem v29_host (c : Dev nD) :
    StableHlo.upto (Gen.hostOps0 (F := F) c) (Gen.V0 m c) 54 (Proc.tc.devRef main_v29) (Shape.Idx.first Gen.h_S_) = BitVec.ofNat 32 c.val := by
  after_reads_at; exact word_line c

theorem v31_host (c : Dev nD) (j : S_.Idx) :
    StableHlo.upto (Gen.hostOps0 (F := F) c) (Gen.V0 m c) 56 (Proc.tc.devRef main_v31) j = BitVec.ofNat 32 (rot (-1) c).val := by
  have e := v29_host m c
  after_reads_simp
  generalize StableHlo.upto (Gen.hostOps0 (F := F) c) (Gen.V0 m c) 54 = G at e ⊢
  refine Eq.trans (congrArg (fun j => lit3 (S32.rowMajor j)) (?_ : _ = ix1 c)) (lit3_at c)
  funext k
  obtain rfl : k = 0 := Subsingleton.elim _ _
  refine Fin.ext ?_
  show (min (max (BitVec.toInt (G (Proc.tc.devRef main_v29) (Shape.Idx.first Gen.h_S_))) 0) ((32 - 1 : ℕ) : ℤ)).toNat + _ = c.val
  rw [e, start_word]
  exact congrArg (c.val + ·) (Nat.lt_one_iff.mp (Fin.isLt _))

theorem tabN_at0 (c : Dev nD) : Gen.V1 (F := F) m c main_v41 (ix1 0) = BitVec.ofNat 32 (rot 1 c).val := by
  have e := v25_host m c
  unfold Gen.V1
  after_reads_at
  rw [StableHlo.unary_result]
  generalize StableHlo.upto (Gen.hostOps0 (F := F) c) (Gen.V0 m c) 48 = G at e ⊢
  exact e _

theorem tabN_host0 (c : Dev nD) (i : S7.Idx) (h : (i 0).val = 0) : Gen.V1 (F := F) m c main_v41 i = BitVec.ofNat 32 (rot 1 c).val := by
  obtain rfl : i = ix1 0 := by
    funext k
    obtain rfl : k = 0 := Subsingleton.elim _ _
    exact Fin.ext h
  exact tabN_at0 m c

theorem tabN_at1 (c : Dev nD) : Gen.V1 (F := F) m c main_v41 (ix1 1) = BitVec.ofNat 32 (rot (-1) c).val := by
  have e := v31_host m c
  unfold Gen.V1
  after_reads_at
  rw [StableHlo.unary_result]
  generalize StableHlo.upto (Gen.hostOps0 (F := F) c) (Gen.V0 m c) 56 = G at e ⊢
  exact e _

theorem tabN_host1 (c : Dev nD) (i : S7.Idx) (h : (i 0).val = 1) : Gen.V1 (F := F) m c main_v41 i = BitVec.ofNat 32 (rot (-1) c).val := by
  obtain rfl : i = ix1 1 := by
    funext k
    obtain rfl : k = 0 := Subsingleton.elim _ _
    exact Fin.ext h
  exact tabN_at1 m c

end host

end Cert.KernelIdeal.Proto
-- ==== Proof.KernelIdeal.Ghost.lean ====
module

public import proofs.«01_k».proof.Proof.KernelIdeal.Turn

@[expose] public section

noncomputable section

namespace Cert.KernelIdeal.Proto

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal
open Cert.KernelIdeal.Facts₀ Cert.KernelIdeal.Facts
open Cert.KernelIdeal.Loop Cert.KernelIdeal.Mesh

variable {F : FTy → Type} [FloatOps F]

local notation "𝕄" => MT nD τ sig Unit (Elt F) ℕ UU ℕ

/-! ## The claims given out at the start -/

/-- Paying `p`, of all devices exactly one pays a unit of the cell `k` of device `c`, if `p` is a duty of that kind. -/
theorem tal_sum (c : Dev nD) (k : Option Sc) (p : Option Sc × Bool) :
    (∑ d, tal d p (cell c k) ()) = if p.1 = k then amtK k else 0 := by
  obtain ⟨k', b⟩ := p
  by_cases h : k' = k
  · subst h
    rw [if_pos rfl, Finset.sum_congr rfl (g := fun d => if d = (payee k' b).symm c then amtK k' else 0) fun d _ => ?_,
      Finset.sum_ite_eq' Finset.univ ((payee k' b).symm c) fun _ => amtK k', if_pos (Finset.mem_univ _)]
    unfold tal
    rw [tallyAt_apply]
    by_cases e : d = (payee k' b).symm c
    · subst e; rw [Equiv.apply_symm_apply, if_pos ⟨rfl, rfl⟩, if_pos rfl]
    · rw [if_neg fun ⟨h1, _⟩ => e ((Equiv.eq_symm_apply _).mpr (congrArg (fun g : GSem nD τ sig => g.1.1) h1).symm), if_neg e]
  · rw [if_neg h]
    refine Finset.sum_eq_zero fun d _ => ?_
    unfold tal
    rw [tallyAt_apply, if_neg fun ⟨h1, _⟩ => h (semOf_inj (congrArg Prod.snd h1)).symm]

theorem owe_sum (c : Dev nD) (k : Option Sc) (l : List (Option Sc × Bool)) :
    (∑ d, owe d l (cell c k) ()) = (l.countP fun p => p.1 = k) * amtK k := by
  induction l with
  | nil => rw [List.countP_nil, Nat.zero_mul]; exact Finset.sum_eq_zero fun d _ => rfl
  | cons p l ih =>
    rw [Finset.sum_congr rfl (g := fun d => owe d l (cell c k) () + tal d p (cell c k) ()) fun d _ => by
        rw [owe, Pi.add_apply, Finsupp.add_apply],
      Finset.sum_add_distrib, ih, tal_sum, List.countP_cons, Nat.add_mul]
    by_cases h : p.1 = k
    · rw [if_pos h, if_pos (by simpa using h), Nat.one_mul]
    · rw [if_neg h, if_neg (by simpa using h), Nat.zero_mul]

/-- What device `d` owes from the start. -/
def O₀ (d : Dev nD) : CellTallies nD τ sig Unit := owe d dues

theorem launch_cell (c : Dev nD) (k : Option Sc) :
    tallyOn (cell c k) (launchCredit (Pipeline.owing O₀) 0 (cell c k)) = (tallyAt (cell c k) () (dueTo k) : CellTallies nD τ sig Unit) := by
  unfold tallyAt; refine congrArg _ (Finsupp.ext fun u => ?_); cases u
  rw [Pipeline.launchCredit_owing, Finsupp.single_eq_same]
  exact owe_sum c k dues

theorem creds (c : Dev nD) : (Pipeline.launchCred O₀ c : sProp 𝕄) ⊢ claims c := by
  have h : (claims c : sProp 𝕄) = bigSep (Finset.univ.map ⟨semOf, semOf_inj⟩) fun sm : SemLoc sig =>
      cred (tallyOn ((c : Thread nD τ), sm) (launchCredit (Pipeline.owing O₀) 0 ((c : Thread nD τ), sm))) := by
    rw [BI.bigSep_map]
    exact bigSep_congr fun k _ => by rw [show ((c : Thread nD τ), (⟨semOf, semOf_inj⟩ : Option Sc ↪ SemLoc sig) k) = cell c k from rfl, launch_cell]
  rw [h]
  unfold Pipeline.launchCred
  exact bigSep_subset (Finset.subset_univ _)

/-! ## The tokens given out at the start -/

def tokEmb : Dev nD × Option Sc × Bool ↪ GSem nD τ sig × ℕ × Bool :=
  ⟨fun p => (cell p.1 p.2.1, 0, p.2.2), fun _ _ h =>
    Prod.ext (congrArg (fun t : GSem nD τ sig × ℕ × Bool => t.1.1.1) h)
      (Prod.ext (semOf_inj (congrArg (fun t : GSem nD τ sig × ℕ × Bool => t.1.2) h)) (congrArg (fun t : GSem nD τ sig × ℕ × Bool => t.2.2) h))⟩
/-- A token for each way of paying each cell. -/
def allToks : Finset (GSem nD τ sig × ℕ × Bool) := Finset.univ.map tokEmb

theorem bool_sep (Φ : Bool → sProp 𝕄) : bigSep Finset.univ Φ = iprop(Φ true ∗ Φ false) := by
  rw [show (Finset.univ : Finset Bool) = {true, false} from rfl, bigSep_insert (by decide), bigSep_singleton]
  rfl

theorem toks_deal :
    bigSep allToks (fun x => (dutyTok ER x.1 x.2.1 x.2.2 : sProp 𝕄)) = bigSep Finset.univ fun c : Dev nD => toks c := by
  unfold allToks toks
  rw [bigSep_map, bigSep_univ_prod, bigSep_univ_comm (Φ := fun (c : Dev nD) (k : Option Sc) =>
    iprop(dutyTok ER (cell (payee k true c) k) 0 true ∗ dutyTok ER (cell (payee k false c) k) 0 false))]
  rw [bigSep_congr (s := Finset.univ) (Ψ := fun c : Dev nD => bigSep Finset.univ fun k : Option Sc =>
      iprop(dutyTok ER (cell c k) 0 true ∗ dutyTok ER (cell c k) 0 false)) fun c _ => by
    rw [bigSep_univ_prod]; exact bigSep_congr fun k _ => bool_sep _]
  rw [bigSep_univ_comm]
  refine bigSep_congr fun k _ => ?_
  rw [bigSep_sep', bigSep_sep', bigSep_univ_equiv (payee k true) fun c : Dev nD => (dutyTok ER (cell c k) 0 true : sProp 𝕄),
    bigSep_univ_equiv (payee k false) fun c : Dev nD => (dutyTok ER (cell c k) 0 false : sProp 𝕄)]

/-! ## Opening and closing a device's cells -/

/-- The semaphores that live for one call only. -/
def osem (k : Sc) : SemLoc sig := semOf (some k)

theorem scoped_send : ∀ s h, (semOf (some (.send s h))).isScoped .tc = true := by decide +kernel
theorem scoped_recv : ∀ s h, (semOf (some (.recv s h))).isScoped .tc = true := by decide +kernel
theorem scoped_bfs : ∀ j, (semOf (some (.bfs j))).isScoped .tc = true := by decide +kernel
theorem scoped_bfr : ∀ j, (semOf (some (.bfr j))).isScoped .tc = true := by decide +kernel
theorem scoped_sem (k : Sc) : (semOf (some k)).isScoped .tc = true := by
  rcases k with ⟨s, h⟩ | ⟨s, h⟩ | j | j | _
  · exact scoped_send s h
  · exact scoped_recv s h
  · exact scoped_bfs j
  · exact scoped_bfr j
  · decide

/-- No staging semaphore is one of the kernel's. -/
theorem kind_stage : ∀ (w : Fin 7) (s : Fin (spec0 w).nbuf), kindOf (.dma ((spec0 w).sem s)) = none := by decide +kernel

theorem osem_facts : Pipeline.OwnSemFacts spec0 osem where
  isScoped := scoped_sem
  inj _ _ h := Option.some.inj (semOf_inj h)
  disj k w s h := by
    have := congrArg kindOf h
    rw [osem, kind_sem, kind_stage] at this
    exact absurd this (by simp)

section cells
variable (xv : Dev nD → Vec F S4096x128 .f32) (wv : Dev nD → Vec F S128x2048 .f32)

/-- The rights to open device `c`'s cells. -/
def opens (c : Dev nD) : sProp 𝕄 := bigSep Finset.univ fun k : Sc => openTok ER (cell c (some k))

theorem open_one (κ : GSem nD τ sig → ℕ) (c : Dev nD) (k : Sc) :
    iprop(records xv wv κ ∗ (openTok ER (cell c (some k)) ∗ semVal (cell c (some k)) 0))
      ⊢ (|={Set.univ}=> iprop(atPos ER (cell c (some k)) 0 ∅ 0 ∗ reached ER (cell c (some k)) 0) : sProp 𝕄) := by
  unfold records
  iintro ⟨⟨#HI, -⟩, Ho, Hv⟩
  iapply (Rounds.cell_open ER (Rd xv wv) (g := cell c (some k)) (Set.mem_univ (κ (cell c (some k)))))
  isplitr; · iapply (inv_of xv wv κ (cell_mem c (some k))); iexact HI
  isplitl [Ho] <;> iassumption

theorem open_all (κ : GSem nD τ sig → ℕ) (c : Dev nD) :
    iprop(records xv wv κ ∗ opens c ∗ Pipeline.ownSems0 osem c) ⊢ (|={Set.univ}=> iprop(poss c ∗ allReached c) : sProp 𝕄) := by
  have h := bigSep_with_persistent (S := (Finset.univ : Finset Sc)) fun k _ => open_one xv wv κ c k
  unfold opens poss allReached Pipeline.ownSems0
  have h2 := h.trans (bigSep_fupd _ _)
  rw [bigSep_sep', bigSep_sep'] at h2
  exact h2

theorem close_one (κ : GSem nD τ sig → ℕ) (c : Dev nD) (k : Option Sc) :
    iprop(records xv wv κ ∗ doneAt xv wv c k) ⊢ (|={Set.univ}=> semVal (cell c k) 0 : sProp 𝕄) := by
  unfold records doneAt
  iintro ⟨⟨#HI, -⟩, %R, %hR, Ha⟩
  iapply (Rounds.cell_close ER (Rd xv wv) (g := cell c k) (Set.mem_univ (κ (cell c k))) id hR)
  isplitr; · iapply (inv_of xv wv κ (cell_mem c k)); iexact HI
  iexact Ha

theorem close_all (κ : GSem nD τ sig → ℕ) (c : Dev nD) :
    iprop(records xv wv κ ∗ bigSep Finset.univ fun k : Sc => doneAt xv wv c (some k))
      ⊢ (|={Set.univ}=> Pipeline.ownSems0 osem c : sProp 𝕄) := by
  have h := bigSep_with_persistent (S := (Finset.univ : Finset Sc)) fun k _ => close_one xv wv κ c (some k)
  unfold Pipeline.ownSems0
  exact h.trans (bigSep_fupd _ _)

end cells

end Cert.KernelIdeal.Proto
-- ==== Proof.KernelIdeal.LoopEq.lean ====
module

public import proofs.«01_k».proof.Proof.KernelIdeal.Loop

@[expose] public section

set_option maxRecDepth 1000000
set_option maxHeartbeats 40000000

noncomputable section

namespace Cert.KernelIdeal.Loop

open Idealize.ShloMosaic Idealize.SL.Sem
open Cert.KernelIdeal
open Cert.KernelIdeal.Facts₀ Cert.KernelIdeal.Facts

variable {F : FTy → Type} [FloatOps F]
variable (arg0 : Memref sig .tc .smem S32 .i32) (h0 : arg0.IsWhole) (arg1 : Memref sig .tc .smem S32 .i32) (h1 : arg1.IsWhole) (arg2 : Memref sig .tc .smem S7 .i32) (h2 : arg2.IsWhole) (arg3 : Memref sig .tc .vmem S4096x128 .f32) (h3 : arg3.IsWhole) (arg4 : Memref sig .tc .vmem S128x2048 .f32) (h4 : arg4.IsWhole) (arg5 : Memref sig .tc .vmem S128x2048 .f32) (h5 : arg5.IsWhole) (arg6 : Memref sig .tc .vmem S8x128 .f32) (h6 : arg6.IsWhole) (arg7 : Memref sig .tc .vmem S4x32x128x512 .f32) (h7 : arg7.IsWhole) (arg8 : DmaSems sig S4x32) (arg9 : DmaSems sig S4x32) (arg10 : Memref sig .tc .vmem S1x8x128 .f32) (h10 : arg10.IsWhole) (arg11 : Memref sig .tc .vmem S32x8x128 .f32) (h11 : arg11.IsWhole) (arg12 : DmaSems sig S32) (arg13 : DmaSems sig S32) (bar2 : Sems sig S_)

/-- Two programs that make the same request and go on alike are the same program. -/
theorem op_congr {α β : Type} {e : TpuEff nD τ sig (Elt F) Λ₀ .tc β}
    {k k' : β → TcProg F α} (h : ∀ x, k x = k' x) : Prog.op e k = Prog.op e k' :=
  congrArg _ (funext h)

/-- The printed body is the body over loops: the same operations in the same order. -/
theorem body_eq :
    cc0_body (F := F) arg0 h0 arg1 h1 arg2 h2 arg3 h3 arg4 h4 arg5 h5 arg6 h6 arg7 h7 arg8 arg9 arg10 h10 arg11 h11 arg12 arg13 bar2
    = body arg0 arg1 arg2 arg3 arg4 arg5 arg6 arg7 arg8 arg9 arg10 arg11 arg12 arg13 bar2 := by
  repeat refine op_congr fun _ => ?_
  rfl

end Cert.KernelIdeal.Loop
-- ==== Proof.KernelIdeal.Region.lean ====
module

public import proofs.«01_k».proof.Proof.KernelIdeal.Neigh
public import proofs.«01_k».proof.Proof.KernelIdeal.Ghost
public import proofs.«01_k».proof.Proof.KernelIdeal.LoopEq
public import proofs.«01_k».proof.Proof.Gen.KernelIdeal.Points
public import Idealize.ShloMosaic.Lib.Pipeline.FrameBody

@[expose] public section

noncomputable section

namespace Cert.KernelIdeal.Proto

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal
open Cert.KernelIdeal.Facts₀ Cert.KernelIdeal.Facts
open Cert.KernelIdeal.Loop Cert.KernelIdeal.Mesh

variable {F : FTy → Type} [FloatOps F]

local notation "𝕄" => MT nD τ sig Unit (Elt F) ℕ UU ℕ

/-! ## The windows: each is one array whole -/

theorem rect_whole {s : Shape} {e : EltTy} {cs : CoreSpace} (arr : Memref sig .tc .hbm s e) (o y : Bool)
    (stage : Memref sig .tc (.core cs) ⟨s.rank, s.size⟩ e) (sem : DmaSem sig) (ha : arr.IsWhole) (hs : stage.IsWhole)
    (t : Fin Pipeline.Grid.none.N) (j : s.Idx) (a : Fin s.rank) :
    (((Pipeline.Window.whole arr o y stage sem ha hs).rect t).emb j a).val = (j a).val := by
  rw [Rect.emb_apply]
  show _ + 1 * (j a).val = _
  rw [Nat.one_mul]
  refine (Nat.add_eq_right (a := _)).mpr ?_
  exact Nat.mul_eq_zero.mpr (.inl rfl)

theorem emb0 (t : Fin cfg0.N) (j : S32.Idx) : ((cfg0.win 0).rect t).emb j = j :=
  funext fun a => Fin.ext (rect_whole (Memref.whole main_v12) false false (stage0_0 0) (sem0_0 0) (Memref.isWhole_whole _) (hstage0_0 0) t j a)
theorem emb1 (t : Fin cfg0.N) (j : S32.Idx) : ((cfg0.win 1).rect t).emb j = j :=
  funext fun a => Fin.ext (rect_whole (Memref.whole main_v20) false false (stage0_1 0) (sem0_1 0) (Memref.isWhole_whole _) (hstage0_1 0) t j a)
theorem emb2 (t : Fin cfg0.N) (j : S7.Idx) : ((cfg0.win 2).rect t).emb j = j :=
  funext fun a => Fin.ext (rect_whole (Memref.whole main_v41) false false (stage0_2 0) (sem0_2 0) (Memref.isWhole_whole _) (hstage0_2 0) t j a)
theorem emb3 (t : Fin cfg0.N) (j : S4096x128.Idx) : ((cfg0.win 3).rect t).emb j = j :=
  funext fun a => Fin.ext (rect_whole (Memref.whole main_arg0) false false (stage0_3 0) (sem0_3 0) (Memref.isWhole_whole _) (hstage0_3 0) t j a)
theorem emb4 (t : Fin cfg0.N) (j : S128x2048.Idx) : ((cfg0.win 4).rect t).emb j = j :=
  funext fun a => Fin.ext (rect_whole (Memref.whole main_arg1) false false (stage0_4 0) (sem0_4 0) (Memref.isWhole_whole _) (hstage0_4 0) t j a)
theorem emb5 (t : Fin cfg0.N) (j : S128x2048.Idx) : ((cfg0.win 5).rect t).emb j = j :=
  funext fun a => Fin.ext (rect_whole (Memref.whole main_v42_0) true false (stage0_5 0) (sem0_5 0) (Memref.isWhole_whole _) (hstage0_5 0) t j a)
theorem emb6 (t : Fin cfg0.N) (j : S8x128.Idx) : ((cfg0.win 6).rect t).emb j = j :=
  funext fun a => Fin.ext (rect_whole (Memref.whole main_v42_1) true false (stage0_6 0) (sem0_6 0) (Memref.isWhole_whole _) (hstage0_6 0) t j a)

theorem read0 (t : Fin cfg0.N) (f : Vec F S32 .i32) : ((cfg0.win 0).blk t).view.read (Elt F) f = f := funext fun j => congrArg f (emb0 t j)
theorem read1 (t : Fin cfg0.N) (f : Vec F S32 .i32) : ((cfg0.win 1).blk t).view.read (Elt F) f = f := funext fun j => congrArg f (emb1 t j)
theorem read2 (t : Fin cfg0.N) (f : Vec F S7 .i32) : ((cfg0.win 2).blk t).view.read (Elt F) f = f := funext fun j => congrArg f (emb2 t j)
theorem read3 (t : Fin cfg0.N) (f : Vec F S4096x128 .f32) : ((cfg0.win 3).blk t).view.read (Elt F) f = f := funext fun j => congrArg f (emb3 t j)
theorem read4 (t : Fin cfg0.N) (f : Vec F S128x2048 .f32) : ((cfg0.win 4).blk t).view.read (Elt F) f = f := funext fun j => congrArg f (emb4 t j)
theorem read5 (t : Fin cfg0.N) (f : Vec F S128x2048 .f32) : ((cfg0.win 5).blk t).view.read (Elt F) f = f := funext fun j => congrArg f (emb5 t j)
theorem read6 (t : Fin cfg0.N) (f : Vec F S8x128 .f32) : ((cfg0.win 6).blk t).view.read (Elt F) f = f := funext fun j => congrArg f (emb6 t j)

theorem write5 (t : Fin cfg0.N) (f w : Vec F S128x2048 .f32) : ((cfg0.win 5).blk t).view.write (Elt F) f w Finset.univ = w := by
  have h := View.read_write_univ (v := ((cfg0.win 5).blk t).view) f w
  rwa [read5] at h
theorem write6 (t : Fin cfg0.N) (f w : Vec F S8x128 .f32) : ((cfg0.win 6).blk t).view.write (Elt F) f w Finset.univ = w := by
  have h := View.read_write_univ (v := ((cfg0.win 6).blk t).view) f w
  rwa [read6] at h

section region
variable (m : (ℓ : Loc nD τ sig) → Buf (Elt F) ℓ)

/-! ## The contents before and after the call -/

/-- The blocks each device was given. -/
def xOf (c : Dev nD) : Vec F S4096x128 .f32 := m ((c : Thread nD τ).loc main_arg0)
def wOf (c : Dev nD) : Vec F S128x2048 .f32 := m ((c : Thread nD τ).loc main_arg1)
/-- Device `c`'s buffers when the call begins. -/
def W1 (c : Dev nD) : Valuation τ sig (Elt F) := Gen.V1 m c
/-- What the call leaves in its two results. -/
def res0 (c : Dev nD) : Vec F S128x2048 .f32 := resV (xOf m) (wOf m) c
def res1 (c : Dev nD) : Vec F S8x128 .f32 := broadcast S8x128 (amAll (xOf m) (wOf m) c)
/-- Device `c`'s buffers when the call has returned. -/
def W2 (c : Dev nD) : Valuation τ sig (Elt F) :=
  Function.update (Function.update (W1 m c) main_v42_0 (res0 m c)) main_v42_1 (res1 m c)

theorem W1_tabF (c : Dev nD) : W1 m c main_v12 = tabF (F := F) c := funext fun i => tabF_host m c i
theorem W1_tabB (c : Dev nD) : W1 m c main_v20 = tabB (F := F) c := funext fun i => tabB_host m c i
theorem W1_x (c : Dev nD) : W1 m c main_arg0 = xOf m c := Gen.V1_of m c main_arg0 (by decide)
theorem W1_w (c : Dev nD) : W1 m c main_arg1 = wOf m c := Gen.V1_of m c main_arg1 (by decide)
/-- The table of neighbours. -/
def nOf (c : Dev nD) : Vec F S7 .i32 := W1 m c main_v41

theorem W2_of (c : Dev nD) (r : Ref sig .tc) (h0 : r ≠ main_v42_0) (h1 : r ≠ main_v42_1) : W2 m c r = W1 m c r := by
  unfold W2
  rw [Function.update_of_ne (StableHlo.devRef_ne_of_ne h1), Function.update_of_ne (StableHlo.devRef_ne_of_ne h0)]
theorem W2_res0 (c : Dev nD) : W2 m c main_v42_0 = res0 m c := by
  unfold W2
  rw [Function.update_of_ne (StableHlo.devRef_ne_of_ne (by decide)), Function.update_self]
theorem W2_res1 (c : Dev nD) : W2 m c main_v42_1 = res1 m c := by
  unfold W2
  rw [Function.update_self]

/-! ## The proof data of the call -/

/-- A device before its turn: everything it may use of its own and of the others. -/
def Xk (c : Dev nD) : sProp 𝕄 :=
  iprop((∃ κ, records (xOf m) (wOf m) κ) ∗ levAts L lv ∗ allReached c ∗ toks c ∗ claims c ∗ atPos ER (cell c none) 0 ∅ 0 ∗ poss c)
/-- The call's buffers of its own. -/
def scratch (c : Dev nD) : sProp 𝕄 :=
  iprop(wholeAny (slots.view.loc (c : Thread nD τ)) ∗ wholeAny (bfSrc.view.loc (c : Thread nD τ)) ∗ wholeAny (bfBuf.view.loc (c : Thread nD τ)))

/-- Window `w`'s block, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (W1 m c (Pipeline.arrRef spec0 w))

def dats (_ : Fin 1) (c : Dev nD) : Pipeline.Dat τ (Elt F) Unit ℕ UU ℕ cfg0 c where
  A w := W1 m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => res0 m c
    | ⟨6, _⟩ => res1 m c
  Φ t := if t.val = 0 then iprop(Xk m c ∗ scratch c ∗ ∃ r, prngReg c r)
    else iprop(semVal (cell c none) 0 ∗ Pipeline.ownSems0 osem c ∗ scratch c ∗ ∃ r, prngReg c r)
  q _ := fullShare
  owed t := if t.val = 0 then O₀ c else 0

theorem A_eq (c : Dev nD) (w : Fin cfg0.W) : (dats m 0 c).A w = W1 m c (Pipeline.arrRef spec0 w) := by dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = res0 m c := by dsimp only [dats]
theorem after6 (c : Dev nD) (t : Fin cfg0.N) : (dats m 0 c).after 6 t = res1 m c := by dsimp only [dats]

theorem iblk0 (c : Dev nD) (t : Fin cfg0.N) : iblk m c 0 t = tabF (F := F) c := (read0 t _).trans (W1_tabF m c)
theorem iblk1 (c : Dev nD) (t : Fin cfg0.N) : iblk m c 1 t = tabB (F := F) c := (read1 t _).trans (W1_tabB m c)
theorem iblk2 (c : Dev nD) (t : Fin cfg0.N) : iblk m c 2 t = nOf m c := read2 t _
theorem iblk3 (c : Dev nD) (t : Fin cfg0.N) : iblk m c 3 t = xOf m c := (read3 t _).trans (W1_x m c)
theorem iblk4 (c : Dev nD) (t : Fin cfg0.N) : iblk m c 4 t = wOf m c := (read4 t _).trans (W1_w m c)

theorem before0 (c : Dev nD) (t : Fin cfg0.N) (d) : (dats m 0 c).before 0 t d = tabF (F := F) c :=
  (((dats m 0 c).before_fetched 0 t (Gen.fetch0_0 t) d).trans (by unfold Pipeline.Dat.fetched Pipeline.Dat.blockOf; rw [A_eq]; rfl)).trans (iblk0 m c t)
theorem before1 (c : Dev nD) (t : Fin cfg0.N) (d) : (dats m 0 c).before 1 t d = tabB (F := F) c :=
  (((dats m 0 c).before_fetched 1 t (Gen.fetch0_1 t) d).trans (by unfold Pipeline.Dat.fetched Pipeline.Dat.blockOf; rw [A_eq]; rfl)).trans (iblk1 m c t)
theorem before2 (c : Dev nD) (t : Fin cfg0.N) (d) : (dats m 0 c).before 2 t d = nOf m c :=
  (((dats m 0 c).before_fetched 2 t (Gen.fetch0_2 t) d).trans (by unfold Pipeline.Dat.fetched Pipeline.Dat.blockOf; rw [A_eq]; rfl)).trans (iblk2 m c t)
theorem before3 (c : Dev nD) (t : Fin cfg0.N) (d) : (dats m 0 c).before 3 t d = xOf m c :=
  (((dats m 0 c).before_fetched 3 t (Gen.fetch0_3 t) d).trans (by unfold Pipeline.Dat.fetched Pipeline.Dat.blockOf; rw [A_eq]; rfl)).trans (iblk3 m c t)
theorem before4 (c : Dev nD) (t : Fin cfg0.N) (d) : (dats m 0 c).before 4 t d = wOf m c :=
  (((dats m 0 c).before_fetched 4 t (Gen.fetch0_4 t) d).trans (by unfold Pipeline.Dat.fetched Pipeline.Dat.blockOf; rw [A_eq]; rfl)).trans (iblk4 m c t)

/-! ## The body's obligation -/

theorem owed_eq (c : Dev nD) (t : Fin (cfg0.N + 1)) : (dats m 0 c).owed t = if t.val = 0 then O₀ c else 0 := by dsimp only [dats]
theorem inv_eq (c : Dev nD) (t : Fin (cfg0.N + 1)) : (dats m 0 c).Φ t = if t.val = 0 then iprop(Xk m c ∗ scratch c ∗ ∃ r, prngReg c r)
    else iprop(semVal (cell c none) 0 ∗ Pipeline.ownSems0 osem c ∗ scratch c ∗ ∃ r, prngReg c r) := by dsimp only [dats]
theorem last_ne : ¬ (Fin.last cfg0.N).val = 0 := by rw [Fin.val_last, show cfg0.N = 1 from Gen.N_0]; decide
theorem succ_ne : ¬ (Gen.t0_0.succ : Fin (cfg0.N + 1)).val = 0 := by rw [Fin.val_succ]; exact Nat.succ_ne_zero _
theorem owed_first (c : Dev nD) : (dats m 0 c).owed 0 = O₀ c := (owed_eq m c 0).trans (if_pos rfl)
theorem owed_start (c : Dev nD) : (dats m 0 c).owed Gen.t0_0.castSucc = O₀ c := (owed_eq m c _).trans (if_pos rfl)
theorem owed_last (c : Dev nD) : (dats m 0 c).owed (Fin.last _) = 0 := (owed_eq m c _).trans (if_neg last_ne)
theorem owed_succ (c : Dev nD) : (dats m 0 c).owed Gen.t0_0.succ = 0 := (owed_eq m c _).trans (if_neg succ_ne)
theorem inv_first (c : Dev nD) : (dats m 0 c).Φ 0 = iprop(Xk m c ∗ scratch c ∗ ∃ r, prngReg c r) := (inv_eq m c 0).trans (if_pos rfl)
theorem inv_start (c : Dev nD) : (dats m 0 c).Φ Gen.t0_0.castSucc = iprop(Xk m c ∗ scratch c ∗ ∃ r, prngReg c r) := (inv_eq m c _).trans (if_pos rfl)
theorem inv_last (c : Dev nD) : (dats m 0 c).Φ (Fin.last _) = iprop(semVal (cell c none) 0 ∗ Pipeline.ownSems0 osem c ∗ scratch c ∗ ∃ r, prngReg c r) :=
  (inv_eq m c _).trans (if_neg last_ne)
theorem inv_succ (c : Dev nD) : (dats m 0 c).Φ Gen.t0_0.succ = iprop(semVal (cell c none) 0 ∗ Pipeline.ownSems0 osem c ∗ scratch c ∗ ∃ r, prngReg c r) :=
  (inv_eq m c _).trans (if_neg succ_ne)

theorem owesAt_of (c : Dev nD) (t : Fin (cfg0.N + 1)) (O : CellTallies nD τ sig Unit) (h : (dats m 0 c).owed t = O) :
    iprop(∃ W, owes (c : Thread nD τ) O W) ⊢ ((dats m 0 c).owesAt () t : sProp 𝕄) := by
  unfold Pipeline.Dat.owesAt Pipeline.owesWithin Pipeline.Dat.bound
  rw [h]
  iintro ⟨%W, HO⟩
  iexists W
  isplitr
  · ipureintro; exact fun _ _ => Or.inl trivial
  · iexact HO
theorem owes_of (c : Dev nD) (t : Fin (cfg0.N + 1)) (O : CellTallies nD τ sig Unit) (h : (dats m 0 c).owed t = O) :
    ((dats m 0 c).owesAt () t : sProp 𝕄) ⊢ iprop(∃ W, owes (c : Thread nD τ) O W) := by
  unfold Pipeline.Dat.owesAt Pipeline.owesWithin
  rw [h]
  iintro ⟨%W, -, HO⟩
  iexists W
  iexact HO

/-- The buffers the windows are staged in. -/
theorem stage0 : Gen.st0_0 Gen.t0_0 = tabFM := rfl
theorem stage1 : Gen.st0_1 Gen.t0_0 = tabBM := rfl
theorem stage2 : Gen.st0_2 Gen.t0_0 = tabNM := rfl
theorem stage3 : Gen.st0_3 Gen.t0_0 = xM := rfl
theorem stage4 : Gen.st0_4 Gen.t0_0 = wM := rfl
theorem stage5 : Gen.st0_5 Gen.t0_0 = outM := rfl
theorem stage6 : Gen.st0_6 Gen.t0_0 = maxM := rfl

/-- What the body is called with, the windows one by one, and what it returns. -/
def bodyPre (c : Dev nD) : sProp 𝕄 :=
  iprop((dats m 0 c).Φ Gen.t0_0.castSucc ∗ (dats m 0 c).owesAt () Gen.t0_0.castSucc
    ∗ (∃ d, owns (c : Thread nD τ) (Gen.st0_0 Gen.t0_0) fullShare ((dats m 0 c).before 0 Gen.t0_0 d))
    ∗ (∃ d, owns (c : Thread nD τ) (Gen.st0_1 Gen.t0_0) fullShare ((dats m 0 c).before 1 Gen.t0_0 d))
    ∗ (∃ d, owns (c : Thread nD τ) (Gen.st0_2 Gen.t0_0) fullShare ((dats m 0 c).before 2 Gen.t0_0 d))
    ∗ (∃ d, owns (c : Thread nD τ) (Gen.st0_3 Gen.t0_0) fullShare ((dats m 0 c).before 3 Gen.t0_0 d))
    ∗ (∃ d, owns (c : Thread nD τ) (Gen.st0_4 Gen.t0_0) fullShare ((dats m 0 c).before 4 Gen.t0_0 d))
    ∗ (∃ d, owns (c : Thread nD τ) (Gen.st0_5 Gen.t0_0) fullShare ((dats m 0 c).before 5 Gen.t0_0 d))
    ∗ (∃ d, owns (c : Thread nD τ) (Gen.st0_6 Gen.t0_0) fullShare ((dats m 0 c).before 6 Gen.t0_0 d)))
def bodyPost (c : Dev nD) : sProp 𝕄 :=
  iprop((dats m 0 c).Φ Gen.t0_0.succ ∗ (dats m 0 c).owesAt () Gen.t0_0.succ
    ∗ owns (c : Thread nD τ) (Gen.st0_0 Gen.t0_0) fullShare ((dats m 0 c).after 0 Gen.t0_0)
    ∗ owns (c : Thread nD τ) (Gen.st0_1 Gen.t0_0) fullShare ((dats m 0 c).after 1 Gen.t0_0)
    ∗ owns (c : Thread nD τ) (Gen.st0_2 Gen.t0_0) fullShare ((dats m 0 c).after 2 Gen.t0_0)
    ∗ owns (c : Thread nD τ) (Gen.st0_3 Gen.t0_0) fullShare ((dats m 0 c).after 3 Gen.t0_0)
    ∗ owns (c : Thread nD τ) (Gen.st0_4 Gen.t0_0) fullShare ((dats m 0 c).after 4 Gen.t0_0)
    ∗ owns (c : Thread nD τ) (Gen.st0_5 Gen.t0_0) fullShare ((dats m 0 c).after 5 Gen.t0_0)
    ∗ owns (c : Thread nD τ) (Gen.st0_6 Gen.t0_0) fullShare ((dats m 0 c).after 6 Gen.t0_0))

theorem fill_any (c : Dev nD) (f : Vec F S8x128 .f32) :
    ((maxM.view.loc (c : Thread nD τ)) ↦[Finset.univ]{fullShare} f : sProp 𝕄) ⊢ wholeAny (maxM.view.loc (c : Thread nD τ)) := by
  unfold wholeAny held
  iintro H
  iexists f
  isplitr
  · ipureintro; trivial
  · iexact H

variable [∀ e, Nonempty (Elt F e)]

/-- After the turn a device closes its cells. -/
theorem turn_closed (κ : GSem nD τ sig → ℕ) (c : Dev nD) :
    iprop(records (xOf m) (wOf m) κ ∗ turnPost (xOf m) (wOf m) c (nOf m c))
      ⊢ (|={Set.univ}=> iprop(semVal (cell c none) 0 ∗ Pipeline.ownSems0 osem c ∗ scratch c ∗ Owes c [] ∗ ins (xOf m) (wOf m) c
        ∗ shared (tabNM.view.loc (c : Thread nD τ)) Finset.univ fullShare (nOf m c) ∗ outHas c (res0 m c) ∗ maxHas c (res1 m c)) : sProp 𝕄) := by
  unfold turnPost scratch
  iintro ⟨#HR, HO, Hins, HN, Hout, Hmax, Hsl, Hsrc, Hbf, Hbar, Hdone⟩
  imod (close_one (xOf m) (wOf m) κ c none) $$ [Hbar] with Hb
  · isplitr; · iexact HR
    iexact Hbar
  imod (close_all (xOf m) (wOf m) κ c) $$ [Hdone] with Hs
  · isplitr; · iexact HR
    iexact Hdone
  imodintro
  isplitl [Hb]; · iexact Hb
  isplitl [Hs]; · iexact Hs
  isplitl [Hsl Hsrc Hbf]
  · isplitl [Hsl]; · iexact Hsl
    isplitl [Hsrc] <;> iassumption
  isplitl [HO]; · iexact HO
  isplitl [Hins]; · iexact Hins
  isplitl [HN]; · iexact HN
  isplitl [Hout]; · iexact Hout
  iexact Hmax

theorem post_intro (c : Dev nD) :
    iprop(semVal (cell c none) 0 ∗ Pipeline.ownSems0 osem c ∗ scratch c ∗ (∃ r, prngReg c r) ∗ Owes c [] ∗ ins (xOf m) (wOf m) c
        ∗ shared (tabNM.view.loc (c : Thread nD τ)) Finset.univ fullShare (nOf m c) ∗ outHas c (res0 m c) ∗ maxHas c (res1 m c))
      ⊢ bodyPost m c := by
  unfold bodyPost
  rw [stage0, stage1, stage2, stage3, stage4, stage5, stage6, inv_succ, after0, after1, after2, after3, after4, after5, after6, iblk0, iblk1, iblk2, iblk3, iblk4]
  simp only [owns_whole]
  iintro ⟨Hb, Hs, Hscr, Hreg, HO, Hins, HN, Hout, Hmax⟩
  isplitl [Hb Hs Hscr Hreg]
  · isplitl [Hb]; · iexact Hb
    isplitl [Hs]; · iexact Hs
    isplitl [Hscr]; · iexact Hscr
    iexact Hreg
  isplitl [HO]
  · iapply (owesAt_of m c Gen.t0_0.succ 0 (owed_succ m c))
    iapply (show (Owes c [] : sProp 𝕄) ⊢ iprop(∃ W, owes (c : Thread nD τ) (0 : CellTallies nD τ sig Unit) W) from .rfl); iexact HO
  unfold ins outHas maxHas shared
  icases Hins with ⟨H0, H1, H3, H4⟩
  isplitl [H0]; · iexact H0
  isplitl [H1]; · iexact H1
  isplitl [HN]; · iexact HN
  isplitl [H3]; · iexact H3
  isplitl [H4]; · iexact H4
  isplitl [Hout]; · iexact Hout
  iexact Hmax

theorem WP_fupd (c : Dev nD) {α : Type} {p : TcProg F α} {Q : α → sProp 𝕄} : WP c p (fun a => iprop(|={Set.univ}=> Q a)) ⊢ WP c p Q :=
  wp_fupd frame (wpE (defs₀ (F := F)) 𝒱₀ c none) Set.univ p Q

theorem body_run (c : Dev nD) : bodyPre m c ⊢ WP c
    (Loop.body tabFM tabBM tabNM xM wM outM maxM slots cc0_scratch1 cc0_scratch2 bfSrc bfBuf cc0_scratch5 cc0_scratch6 cc0_scoped0)
    (fun _ => bodyPost m c) := by
  unfold bodyPre
  rw [stage0, stage1, stage2, stage3, stage4, stage5, stage6]
  simp only [before0, before1, before2, before3, before4, owns_whole]
  rw [inv_start]
  unfold Xk scratch
  iintro ⟨⟨⟨⟨%κ, #HR⟩, #Hlev, #HA, Htok, Hcl, Hbar, Hpos⟩, ⟨Hsl, Hsrc, Hbf⟩, Hreg⟩, HO, ⟨%d0, H0⟩, ⟨%d1, H1⟩, ⟨%d2, H2⟩, ⟨%d3, H3⟩, ⟨%d4, H4⟩, ⟨%d5, H5⟩, ⟨%d6, H6⟩⟩
  ihave HO := (owes_of m c Gen.t0_0.castSucc (O₀ c) (owed_start m c)) $$ HO
  iapply (WP_fupd c)
  iapply (turn_wp (xOf m) (wOf m) κ c (nOf m c) (tabN_host0 m c) (tabN_host1 m c) ((dats m 0 c).before 5 Gen.t0_0 d5) _)
  isplitr [Hreg]
  · unfold turnPre ins outHas shared
    isplitr; · iexact HR
    isplitr; · iexact Hlev
    isplitr; · iexact HA
    isplitl [HO]; · iapply (show iprop(∃ W, owes (c : Thread nD τ) (O₀ c) W) ⊢ (Owes c dues : sProp 𝕄) from .rfl); iexact HO
    isplitl [H0 H1 H3 H4]
    · isplitl [H0]; · iexact H0
      isplitl [H1]; · iexact H1
      isplitl [H3]; · iexact H3
      iexact H4
    isplitl [H2]; · iexact H2
    isplitl [H5]; · iexact H5
    isplitl [H6]; · iapply (fill_any c); iexact H6
    isplitl [Hsl]; · iexact Hsl
    isplitl [Hsrc]; · iexact Hsrc
    isplitl [Hbf]; · iexact Hbf
    isplitl [Htok]; · iexact Htok
    isplitl [Hcl]; · iexact Hcl
    isplitl [Hbar]; · iexact Hbar
    iexact Hpos
  iintro Hpost
  imod (turn_closed m κ c) $$ [Hpost] with ⟨Hb, Hs, Hscr, HO, Hins, HN, Hout, Hmax⟩
  · isplitr; · iexact HR
    iexact Hpost
  imodintro
  iapply (post_intro m c)
  isplitl [Hb]; · iexact Hb
  isplitl [Hs]; · iexact Hs
  isplitl [Hscr]; · iexact Hscr
  isplitl [Hreg]; · iexact Hreg
  isplitl [HO]; · iexact HO
  isplitl [Hins]; · iexact Hins
  isplitl [HN]; · iexact HN
  isplitl [Hout]; · iexact Hout
  iexact Hmax

theorem defs₀_row (t : Fin cfg0.N) : defs₀ (F := F) .tc cfg0.body (cfg0.bodyArgs t (cfg0.slots t)) = Gen.bodyAt0 t := by
  unfold defs₀; rw [Defs.onTc_tc]

set_option maxRecDepth 16384 in
theorem row_body : Gen.bodyAt0 (F := F) Gen.t0_0
    = Loop.body tabFM tabBM tabNM xM wM outM maxM slots cc0_scratch1 cc0_scratch2 bfSrc bfBuf cc0_scratch5 cc0_scratch6 cc0_scoped0 :=
  Loop.body_eq (Gen.st0_0 Gen.t0_0) (hstage0_0 0) (Gen.st0_1 Gen.t0_0) (hstage0_1 0) (Gen.st0_2 Gen.t0_0) (hstage0_2 0)
    (Gen.st0_3 Gen.t0_0) (hstage0_3 0) (Gen.st0_4 Gen.t0_0) (hstage0_4 0) (Gen.st0_5 Gen.t0_0) (hstage0_5 0) (Gen.st0_6 Gen.t0_0) (hstage0_6 0)
    slots (Memref.isWhole_whole _) cc0_scratch1 cc0_scratch2 bfSrc (Memref.isWhole_whole _) bfBuf (Memref.isWhole_whole _) cc0_scratch5 cc0_scratch6 cc0_scoped0

theorem body_obligation (c : Dev nD) : Pipeline.BodyObligation (dats m 0 c) (defs₀ (F := F)) 𝒱₀ () Set.univ := fun t => by
  obtain rfl := Gen.fin_N0 t
  rw [Gen.bigSep_W0, Gen.bigSep_W0, defs₀_row, row_body]
  exact triple_restated (body_run m c) rfl .rfl fun _ => .rfl

end region

end Cert.KernelIdeal.Proto
-- ==== Proof.KernelIdeal.Call.lean ====
module

public import proofs.«01_k».proof.Proof.KernelIdeal.Region

@[expose] public section

noncomputable section

namespace Cert.KernelIdeal.Proto

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal
open Cert.KernelIdeal.Facts₀ Cert.KernelIdeal.Facts
open Cert.KernelIdeal.Loop Cert.KernelIdeal.Mesh

variable {F : FTy → Type} [FloatOps F]

local notation "𝕄" => MT nD τ sig Unit (Elt F) ℕ UU ℕ

open Idealize.ShloMosaic.Pipeline (arrRefs ucRefs)

section run
variable (m : (ℓ : Loc nD τ sig) → Buf (Elt F) ℓ) [∀ e, Nonempty (Elt F e)]

/-! ## The call as a segment of the program -/

/-- What is kept for the call from the start. -/
def Tk (c : Dev nD) : sProp 𝕄 :=
  iprop((∃ κ, records (xOf m) (wOf m) κ) ∗ opens c ∗ toks c ∗ claims c ∗ atPos ER (cell c none) 0 ∅ 0)
def Yk (c : Dev nD) : sProp 𝕄 := semVal (cell c none) 0

theorem hopen (c : Dev nD) : iprop(Tk m c ∗ Pipeline.ownSems0 osem c ∗ levAts L lv) ⊢ (|={Set.univ}=> Xk m c : sProp 𝕄) := by
  unfold Tk Xk
  iintro ⟨⟨⟨%κ, #HR⟩, Hop, Ht, Hc, Hb⟩, Hs, #Hlev⟩
  imod (open_all (xOf m) (wOf m) κ c) $$ [Hop Hs] with ⟨Hp, HA⟩
  · isplitr; · iexact HR
    isplitl [Hop] <;> iassumption
  imodintro
  isplitr; · iexists κ; iexact HR
  isplitr; · iexact Hlev
  isplitl [HA]; · iexact HA
  isplitl [Ht]; · iexact Ht
  isplitl [Hc]; · iexact Hc
  isplitl [Hb]; · iexact Hb
  iexact Hp

/-- The scratch buffers are the scoped buffers that are not staged. -/
theorem scratch_of (c : Dev nD) : (Pipeline.scopedRest spec0 c : sProp 𝕄) ⊢ scratch c := by
  rw [Gen.scopedRest0_eq]
  unfold scratch wholeAny held
  iintro ⟨⟨%f, H0⟩, ⟨%g, H1⟩, ⟨%h, H2⟩⟩
  isplitl [H0]
  · iexists f; isplitr; · ipureintro; trivial
    iexact H0
  isplitl [H1]
  · iexists g; isplitr; · ipureintro; trivial
    iexact H1
  · iexists h; isplitr; · ipureintro; trivial
    iexact H2
theorem of_scratch (c : Dev nD) : (scratch c : sProp 𝕄) ⊢ Pipeline.scopedRest spec0 c := by
  rw [Gen.scopedRest0_eq]
  unfold scratch wholeAny held
  iintro ⟨⟨%f, -, H0⟩, ⟨%g, -, H1⟩, ⟨%h, -, H2⟩⟩
  isplitl [H0]; · iexists f; iexact H0
  isplitl [H1]; · iexists g; iexact H1
  iexists h; iexact H2

theorem held_none (c : Dev nD) (W : Valuation τ sig (Elt F)) : (StableHlo.held (c : Thread nD τ) ∅ W : sProp 𝕄) = BI.emp :=
  BI.bigSep_empty

theorem hin (c : Dev nD) : iprop(Pipeline.scopedRest spec0 c ∗ (∃ r, prngReg c r) ∗ StableHlo.held (c : Thread nD τ) ∅ (W1 m c) ∗ Xk m c)
    ⊢ (dats m 0 c).Φ 0 := by
  rw [inv_first]
  iintro ⟨Hs, Hr, -, HX⟩
  isplitl [HX]; · iexact HX
  isplitl [Hs]; · iapply (scratch_of c); iexact Hs
  iexact Hr
theorem hout (c : Dev nD) : (dats m 0 c).Φ (Fin.last cfg0.N)
    ⊢ iprop(Pipeline.scopedRest spec0 c ∗ (∃ r, prngReg c r) ∗ StableHlo.held (c : Thread nD τ) ∅ (W2 m c) ∗ Pipeline.ownSems0 osem c ∗ Yk c) := by
  rw [inv_last, held_none]
  unfold Yk
  iintro ⟨Hb, Ho, Hs, Hr⟩
  isplitl [Hs]; · iapply (of_scratch c); iexact Hs
  isplitl [Hr]; · iexact Hr
  isplitr; · iempintro
  isplitl [Ho] <;> iassumption

theorem dues_above : Above 0 dues := (by decide +kernel : ∀ p ∈ dues, 0 < lvK p.1)

theorem cut_due (c : Dev nD) (t : Fin (cfg0.N + 1)) (g : GSem nD τ sig) (i : Unit) (h : 0 < (dats m 0 c).owed t g i) :
    i ∈ L g ∧ (0 : ℕ) < lv g i := by
  rw [owed_eq] at h
  split at h
  · obtain ⟨p, hp, rfl⟩ := owe_pos h
    exact ⟨by rw [cell, L_tc]; exact Finset.mem_singleton_self _, by rw [lv_cell]; exact dues_above p hp⟩
  · exact absurd h (Nat.lt_irrefl 0)

theorem kit : Pipeline.PLaunchFacts (nD := nD) (τ := τ) (pcfgs (F := F)) 0 where
  cellOf_inj a := by rw [Subsingleton.elim a Gen.adm]; exact Gen.cellOf_inj
  win := Gen.winFacts0
  pre := Pipeline.PreFacts.none _
  block_pos := Gen.block_pos0
  arr_whole := Gen.arr_whole0
  stage_whole := Gen.stage_whole0

theorem arr_in (c : Dev nD) (w : Fin cfg0.W) (hw : (cfg0.win w).isOut = false) (n : ℕ)
    (h0 : Pipeline.arrRef spec0 w ≠ main_v42_0) (h1 : Pipeline.arrRef spec0 w ≠ main_v42_1) :
    (dats m 0 c).arrAt w n = W2 m c (Proc.devRef .tc (Pipeline.arrRef spec0 w)) :=
  (((dats m 0 c).arrAt_in w hw n).trans (A_eq m c w)).trans (W2_of m c _ h0 h1).symm

theorem arr_res0 (c : Dev nD) : (dats m 0 c).arrAt 5 1 = W2 m c (Proc.devRef .tc main_v42_0) := by
  refine ((dats m 0 c).arrAt_succ 5 Gen.t0_0).trans ?_
  rw [if_pos (Gen.flush0_5 _), W2_res0, ← after5 m c Gen.t0_0]
  exact write5 Gen.t0_0 _ _
theorem arr_res1 (c : Dev nD) : (dats m 0 c).arrAt 6 1 = W2 m c (Proc.devRef .tc main_v42_1) := by
  refine ((dats m 0 c).arrAt_succ 6 Gen.t0_0).trans ?_
  rw [if_pos (Gen.flush0_6 _), W2_res1, ← after6 m c Gen.t0_0]
  exact write6 Gen.t0_0 _ _

theorem arr_end (c : Dev nD) (w : Fin cfg0.W) : (dats m 0 c).arrAt w cfg0.N = W2 m c (Proc.devRef .tc (Pipeline.arrRef spec0 w)) := by
  rw [show cfg0.N = 1 from Gen.N_0]
  match w with
  | ⟨0, _⟩ => exact arr_in m c 0 rfl 1 (by decide) (by decide)
  | ⟨1, _⟩ => exact arr_in m c 1 rfl 1 (by decide) (by decide)
  | ⟨2, _⟩ => exact arr_in m c 2 rfl 1 (by decide) (by decide)
  | ⟨3, _⟩ => exact arr_in m c 3 rfl 1 (by decide) (by decide)
  | ⟨4, _⟩ => exact arr_in m c 4 rfl 1 (by decide) (by decide)
  | ⟨5, _⟩ => exact arr_res0 m c
  | ⟨6, _⟩ => exact arr_res1 m c

/-- The buffers no window of the call is on. -/
def restRefs : Finset (DevRef τ sig) := ucRefs τ sig \ arrRefs (τ := τ) spec0

theorem arr_sub : arrRefs (τ := τ) spec0 ⊆ ucRefs τ sig := Pipeline.arrRefs_sub_ucRefs _ (by decide)

theorem arr_mem0 : (Proc.devRef .tc main_v42_0 : DevRef τ sig) ∈ arrRefs (τ := τ) spec0 :=
  Finset.mem_map.mpr ⟨main_v42_0, Finset.mem_image.mpr ⟨5, Finset.mem_univ _, rfl⟩, rfl⟩
theorem arr_mem1 : (Proc.devRef .tc main_v42_1 : DevRef τ sig) ∈ arrRefs (τ := τ) spec0 :=
  Finset.mem_map.mpr ⟨main_v42_1, Finset.mem_image.mpr ⟨6, Finset.mem_univ _, rfl⟩, rfl⟩

theorem rest_same (c : Dev nD) (b : DevRef τ sig) (hb : b ∈ restRefs \ ∅) : W2 m c b = W1 m c b := by
  have hb := (Finset.mem_sdiff.mp (Finset.mem_sdiff.mp hb).1).2
  unfold W2
  have h0 : b ≠ Proc.devRef .tc main_v42_0 := fun e => hb (by rw [e]; exact arr_mem0)
  have h1 : b ≠ Proc.devRef .tc main_v42_1 := fun e => hb (by rw [e]; exact arr_mem1)
  rw [Function.update_of_ne h1, Function.update_of_ne h0]

set_option backward.isDefEq.respectTransparency.types false in
def reg : Pipeline.RegionSeg (pcfgs (F := F)) Gen.adm (dats m) () defs₀ 𝒱₀ L lv 0 :=
  Pipeline.RegionSeg.ofTalk (pcfgs (F := F)) Gen.adm (dats m) () defs₀ 𝒱₀ L lv 0 osem osem_facts
    ∅ restRefs (Finset.empty_subset _) kit rfl (fun c => (body_obligation m c).loose)
    (fun _ => 0) O₀ (fun c => (owed_first m c).trans (zero_add _).symm) (owed_last m) (fun _ => rfl)
    (fun c => (dats m 0 c).share_full fun _ => rfl)
    (W1 m) (W2 m) (rest_same m)
    (Tk m) Yk (Xk m) Yk (hopen m) (hin m) (hout m)
    (fun c => by iintro H; imodintro; iexact H)
    (fun _ => 0)
    ⟨fun c w s => by rw [L_tc]; exact Finset.mem_singleton_self _,
      fun c w s => le_of_eq (by unfold lv; exact congrArg (fun k => match k with | some k => lvK k | none => 0) (kind_stage w s)),
      fun c t g i h => cut_due m c t g i h⟩
    (fun _ => iprop(emp))
    (A_eq m) (arr_end m)

end run

end Cert.KernelIdeal.Proto
-- ==== Proof.KernelIdeal.Run.lean ====
module

public import proofs.«01_k».proof.Proof.KernelIdeal.Call

@[expose] public section

noncomputable section

namespace Cert.KernelIdeal.Proto

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal
open Cert.KernelIdeal.Facts₀ Cert.KernelIdeal.Facts
open Cert.KernelIdeal.Loop Cert.KernelIdeal.Mesh

variable {F : FTy → Type} [FloatOps F]

local notation "𝕄" => MT nD τ sig Unit (Elt F) ℕ UU ℕ

open Idealize.ShloMosaic.Pipeline (arrRefs ucRefs)

section run
variable (m : (ℓ : Loc nD τ sig) → Buf (Elt F) ℓ) [∀ e, Nonempty (Elt F e)]

/-! ## The start -/

theorem cells_disjoint : Disjoint (barCells : Finset (GSem nD τ sig)) scCells := by
  rw [Finset.disjoint_left]
  intro g h₁ h₂
  obtain ⟨c, -, rfl⟩ := Finset.mem_map.mp h₁
  obtain ⟨p, -, h⟩ := Finset.mem_map.mp h₂
  have e : some p.2 = none := semOf_inj (congrArg Prod.snd h)
  exact absurd e (by simp)

/-- Only the opening barrier's counter outlives the call. -/
theorem only_bar : ∀ sm : SemLoc sig, sm.isScoped .tc = false → sm = semOf none := by decide +kernel

theorem sems_eq (c : Dev nD) : (unscopedSems0 c : sProp 𝕄) = semVal (cell c none) 0 := by
  unfold unscopedSems0
  rw [show (Finset.univ.filter fun sm : SemLoc sig => ¬ sm.isScoped .tc) = {semOf none} from by
    ext sm
    rw [Finset.mem_filter, Finset.mem_singleton]
    constructor
    · rintro ⟨-, h⟩; exact only_bar sm (Bool.eq_false_iff.mpr h)
    · rintro rfl; exact ⟨Finset.mem_univ _, by decide⟩, BI.bigSep_singleton]

/-- The element the run starts from: the staging cells', and this protocol's. -/
def u₀ : UU :=
  (initOf (Pipeline.cells (Pipeline.pin (pcfgs (F := F)) Gen.adm) Gen.cellOf_inj) (Pipeline.launchToks (Pipeline.pin (pcfgs (F := F)) Gen.adm) Gen.cellOf_inj),
    launchOf barCells scCells allToks)

/-- The protocol's element, kept by the first device until all are dealt their parts. -/
def G (c : Dev nD) : sProp 𝕄 := if c = 0 then BI.own (ER (launchOf barCells scCells allToks)) else iprop(emp)
theorem G_all : bigSep Finset.univ (G (F := F)) = BI.own (ER (launchOf barCells scCells allToks)) := by
  rw [bigSep_univ_at _ (0 : Dev nD), bigSep_congr (s := Finset.univ.erase (0 : Dev nD)) (Ψ := fun _ => (BI.emp : sProp 𝕄))
      fun c hc => by unfold G; rw [if_neg (Finset.ne_of_mem_erase hc)]; rfl, BI.bigSep_emp_const]
  unfold G; rw [if_pos rfl]
  exact BI.equiv_iff.mp sep_emp

/-- What a device carries beside its buffers up to the call. -/
def before (c : Dev nD) : sProp 𝕄 := iprop(Tk m c ∗ (∃ W, owes (c : Thread nD τ) (O₀ c) W) ∗ ∃ r, prngReg c r)

abbrev T₀ (c : Dev nD) : sProp 𝕄 := iprop(StableHlo.held (c : Thread nD τ) (ucRefs τ sig) (Gen.V0 m c) ∗ before m c)
abbrev Tₙ (c : Dev nD) : sProp 𝕄 := iprop(StableHlo.held (c : Thread nD τ) (ucRefs τ sig) (W2 m c) ∗ semVal (cell c none) 0)

/-- What stays with device `c` of the protocol's parts, and what it had anyway. -/
def dealt (c : Dev nD) : sProp 𝕄 := iprop(atPos ER (cell c none) 0 ∅ 0 ∗ opens c ∗ toks c)
def own (c : Dev nD) : sProp 𝕄 :=
  iprop(StableHlo.held (c : Thread nD τ) (ucRefs τ sig) (Gen.V0 m c) ∗ claims c ∗ owes (c : Thread nD τ) (O₀ c) ∅ ∗ ∃ r, prngReg c r)

theorem deal : iprop((bigSep Finset.univ fun c : Dev nD => (atPos ER (cell c none) 0 ∅ 0 : sProp 𝕄)) ∗ (bigSep Finset.univ fun c : Dev nD => opens c)
    ∗ bigSep Finset.univ fun c : Dev nD => toks c) ⊢ bigSep Finset.univ fun c : Dev nD => (dealt c : sProp 𝕄) := by
  unfold dealt
  rw [bigSep_sep', bigSep_sep']

theorem T₀_of (κ : GSem nD τ sig → ℕ) (c : Dev nD) : iprop(records (xOf m) (wOf m) κ ∗ (dealt c ∗ own m c)) ⊢ T₀ m c := by
  unfold dealt own T₀ before Tk
  iintro ⟨#HR, ⟨Hb, Ho, Ht⟩, Hh, Hc, HO, Hp⟩
  isplitl [Hh]; · iexact Hh
  isplitl [Hb Ho Ht Hc]
  · isplitr; · iexists κ; iexact HR
    isplitl [Ho]; · iexact Ho
    isplitl [Ht]; · iexact Ht
    isplitl [Hc] <;> iassumption
  isplitl [HO]; · iexists ∅; iexact HO
  iexact Hp

theorem init (ρ : Dev nD → PrngReg) :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : sProp 𝕄) := by
  have hone (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ G c)
      ⊢ (iprop(own m c ∗ (semVal (cell c none) 0 ∗ G c)) : sProp 𝕄) := by
    rw [show unscopedBufs c (fun b => m ((c : Thread nD τ).loc b)) = StableHlo.held (c : Thread nD τ) (ucRefs τ sig) (Gen.V0 m c) from
      Pipeline.unscopedBufs_held c (Gen.V0 m c), sems_eq]
    unfold own
    iintro ⟨Hh, Hs, HO, Hc, Hp, HG⟩
    isplitl [Hh HO Hc Hp]
    · isplitl [Hh]; · iexact Hh
      isplitl [Hc]; · iapply (creds c); iexact Hc
      isplitl [HO]; · iexact HO
      iexists (ρ c); iexact Hp
    isplitl [Hs] <;> iassumption
  have hv : bigSep Finset.univ (fun c : Dev nD => (semVal (cell c none) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (cell c none) 0 ∅ 0 : sProp 𝕄)) :=
    Entails.of_eq (bigSep_map (s := Finset.univ) barEmb (Φ := fun g : GSem nD τ sig => (atPos ER g 0 ∅ 0 : sProp 𝕄)))
  have hop : bigSep scCells (fun g => (openTok ER g : sProp 𝕄)) ⊢ bigSep Finset.univ (fun c : Dev nD => opens c) :=
    Entails.of_eq (by unfold scCells opens; rw [bigSep_map, bigSep_univ_prod]; rfl)
  iintro ⟨H, -⟩
  ihave H := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c))
      ⊢ (bigSep Finset.univ fun c : Dev nD => iprop(own m c ∗ (semVal (cell c none) 0 ∗ G c)) : sProp 𝕄) from bigSep_mono fun c _ => hone c) $$ H
  ihave H := (Entails.of_eq (bigSep_sep' Finset.univ (own m) fun c => iprop(semVal (cell c none) 0 ∗ G c))) $$ H
  icases H with ⟨Hown, H⟩
  ihave H := (Entails.of_eq (bigSep_sep' Finset.univ (fun c => semVal (cell c none) 0) (G (F := F)))) $$ H
  icases H with ⟨Hv, HG⟩
  ihave Hu := (Entails.of_eq (G_all (F := F))) $$ HG
  imod (Rounds.fund_launch ER (Rd (xOf m) (wOf m)) cells_disjoint (fun g _ h => h) allToks) $$ [Hv Hu] with ⟨%κ, -, #Hinv, #Hr, Hat, Hopen, Htok⟩
  · isplitl [Hv]
    · iapply hv $$ Hv
    · iexact Hu
  imodintro
  iapply (bigSep_with_persistent (R := records (xOf m) (wOf m) κ) (Φ := fun c => iprop(dealt c ∗ own m c)) fun c _ => T₀_of m κ c)
  isplitr
  · unfold records
    isplitr; · iexact Hinv
    iexact Hr
  iapply (Entails.of_eq (bigSep_sep' Finset.univ (fun c => dealt c) (own m)).symm)
  isplitr [Hown]
  · iapply (deal (F := F))
    isplitl [Hat]; · iapply hat $$ Hat
    isplitl [Hopen]; · iapply hop $$ Hopen
    iapply (Entails.of_eq (toks_deal (F := F))) $$ Htok
  · iexact Hown

/-! ## Into the call and out of it -/

theorem reg_pre (c : Dev nD) : iprop(StableHlo.held (c : Thread nD τ) (ucRefs τ sig) (W1 m c) ∗ before m c) ⊢ (reg m).pre c := by
  show _ ⊢ iprop(StableHlo.held (c : Thread nD τ) (arrRefs (τ := τ) spec0) (W1 m c) ∗ (∃ r, prngReg c r)
    ∗ (StableHlo.held (c : Thread nD τ) restRefs (W1 m c) ∗ emp) ∗ Tk m c ∗ ∃ Wd, owes (c : Thread nD τ) (0 + O₀ c) Wd)
  rw [zero_add, StableHlo.held_sub_split (c : Thread nD τ) arr_sub (W1 m c)]
  unfold before restRefs
  iintro ⟨⟨Ha, Hr⟩, HT, HO, Hp⟩
  isplitl [Ha]; · iexact Ha
  isplitl [Hp]; · iexact Hp
  isplitl [Hr]
  · isplitl [Hr]; · iexact Hr
    iempintro
  isplitl [HT]; · iexact HT
  iexact HO

theorem reg_post (c : Dev nD) : (reg m).post c
    ⊢ iprop(Tₙ m c ∗ ∃ W, owes (c : Thread nD τ) (0 : CellTallies nD τ sig Unit) W) := by
  show iprop(StableHlo.held (c : Thread nD τ) (arrRefs (τ := τ) spec0) (W2 m c) ∗ (∃ r, prngReg c r)
    ∗ (StableHlo.held (c : Thread nD τ) restRefs (W2 m c) ∗ emp) ∗ Yk c ∗ ∃ Wd, owes (c : Thread nD τ) (0 : CellTallies nD τ sig Unit) Wd) ⊢ _
  unfold Tₙ
  rw [StableHlo.held_sub_split (c : Thread nD τ) arr_sub (W2 m c)]
  unfold restRefs Yk
  iintro ⟨Ha, -, ⟨Hr, -⟩, Hb, HO⟩
  isplitr [HO]
  · isplitl [Ha Hr]
    · isplitl [Ha] <;> iassumption
    iexact Hb
  iexact HO

/-- What the memory holds at the end: both results, and the blocks each device was given as they were. -/
def Ends (c : Dev nD) (s : MemSt nD τ sig (Elt F)) : Prop :=
  s.mem ((c : Thread nD τ).loc main_v42_0) = res0 m c ∧ s.mem ((c : Thread nD τ).loc main_arg0) = m ((c : Thread nD τ).loc main_arg0)
    ∧ s.mem ((c : Thread nD τ).loc main_arg1) = m ((c : Thread nD τ).loc main_arg1)

theorem at_end (c : Dev nD) (s' : Phys nD τ sig (Elt F)) :
    iprop(Tₙ m c ∗ SI s') ⊢ (|={Set.univ}=> iprop(⌜Ends m c s'.mem ∧ s'.mem.sem (cell c none) = 0⌝ ∗ SI s') : sProp 𝕄) := by
  unfold Tₙ StableHlo.held
  iintro ⟨⟨Hh, Hb⟩, HSI⟩
  ihave Hr := (pointsTo_read_all (ucRefs τ sig) (fun b => ((c : Thread nD τ).1, b)) (W2 m c) s') $$ [Hh HSI]
  · isplitl [Hh] <;> iassumption
  icases Hr with ⟨%h, HSI⟩
  icombine HSI Hb gives %hb
  imodintro
  isplitr
  · ipureintro
    refine ⟨⟨?_, ?_, ?_⟩, by simpa using hb⟩
    · exact (h (Proc.devRef .tc main_v42_0) (Finset.mem_filter.mpr ⟨StableHlo.devRef_mem_tcRefs main_v42_0, by decide⟩)).trans (W2_res0 m c)
    · exact (h (Proc.devRef .tc main_arg0) (Finset.mem_filter.mpr ⟨StableHlo.devRef_mem_tcRefs main_arg0, by decide⟩)).trans
        ((W2_of m c main_arg0 (by decide) (by decide)).trans (W1_x m c))
    · exact (h (Proc.devRef .tc main_arg1) (Finset.mem_filter.mpr ⟨StableHlo.devRef_mem_tcRefs main_arg1, by decide⟩)).trans
        ((W2_of m c main_arg1 (by decide) (by decide)).trans (W1_w m c))
  · iexact HSI

theorem sems_zero {s : MemSt nD τ sig (Elt F)} (hs : ∀ g' : GSem nD τ sig, (g'.1.2 ≠ .tc ∨ g'.2.isScoped .tc = true) → s.sem g' = 0)
    (hb : ∀ c : Dev nD, s.sem (cell c none) = 0) : s.sem = fun _ => 0 :=
  sem_eq_zero hs fun c sm hsm => by obtain rfl := only_bar sm hsm; exact hb c

set_option backward.isDefEq.respectTransparency.types false in
/-- Every fair run ends, with each device's result the value stated in `res0`, its given blocks unchanged and every counter at zero. -/
theorem run (ρ : Dev nD → PrngReg) : θ_run defs (onTc (τ := τ) (main (F := F))) ⟨m, fun _ => 0, ρ⟩
    (fun r => (∀ c : Dev nD, Ends m c r.2) ∧ r.2.sem = fun _ => 0) :=
  Pipeline.θ_run_regions_kit_dev_sems (pcfgs (F := F)) Gen.adm (dats m) () Gen.cellOf_inj EP defs₀ 𝒱₀ L lv m ρ main
    (Gen.segs m 𝒱₀ L lv (fun _ => before m) () (dats m) (reg m))
    (fun c Q => by
      rewrite [Gen.main_chain c, Pipeline.Seg.run_eq_chain,
        show (Gen.segs m 𝒱₀ L lv (fun _ => before m) () (dats m) (reg m) c).map Pipeline.Seg.prog = [
          StableHlo.seq (Gen.hostOps0 c),
          Prog.lift (.customCall (Pipeline.entry 0) ()) ] from rfl]
      dsimp (config := { failIfUnchanged := false }) only
      exact .rfl)
    (fun c => by simp only [Gen.segs, Pipeline.Seg.pipes_host, Pipeline.Seg.pipes_region, Pipeline.Seg.pipes_nil]; decide)
    (O₀ := O₀) (hL := L_of_ne) (G := G) (u₀ := u₀)
    (hu₀ := by
      unfold u₀
      iintro Hu
      ihave H := (ownU_pair _ _) $$ Hu
      icases H with ⟨HP, HX⟩
      imodintro
      isplitl [HP]; · iexact HP
      rw [G_all]; iexact HX)
    (T₀ := T₀ m) (Tₙ := Tₙ m)
    (hch := fun c => ⟨.rfl, reg_pre m c, reg_post m c⟩)
    (hinit := init m ρ)
    (QY := fun c s => Ends m c s ∧ s.sem (cell c none) = 0)
    (hfin := at_end m)
    (hQ := fun s h hs => ⟨fun c => (h c).1, sems_zero hs fun c => (h c).2⟩)

end run

end Cert.KernelIdeal.Proto
-- ==== Proof.Value.Quant.lean ====
module

public import Idealize.ShloMosaic.PureOps.Ideal
public import Idealize.ShloMosaic.PureOps.Ideal.Laws

@[expose] public section

noncomputable section

namespace Cert.Value

open Idealize.ShloMosaic

/-- The largest number of the eight-bit format. -/
theorem bits_448 : Ideal.ofBits .f32 0x43E00000#32 = ((448 : ℝ) : EReal) := by
  simp [Ideal.ofBits, Ideal.ieee, -EReal.coe_mul]; norm_num

/-- Its negative. -/
theorem bits_neg448 : Ideal.ofBits .f32 0xC3E00000#32 = ((-448 : ℝ) : EReal) := by
  simp [Ideal.ofBits, Ideal.ieee, -EReal.coe_mul, -EReal.coe_neg]; norm_num

/-- Less than everything. -/
theorem bits_bot : Ideal.ofBits .f32 0xFF800000#32 = (⊥ : EReal) := by
  simp [Ideal.ofBits, Ideal.ieee]

/-- Multiplying by `448 / a` and by `a / 448` is dividing by `a / 448`, clipping to `±448` and multiplying by `a / 448`,
    for a value of absolute value at most `a`: nothing is clipped, but for `a = 0` and `a = ⊤`, where both are zero. -/
theorem quant_law (a y : EReal) (h : max y (-y) ≤ a) :
    y * Ideal.div ((448 : ℝ) : EReal) a * Ideal.div a ((448 : ℝ) : EReal)
      = min ((448 : ℝ) : EReal) (max ((-448 : ℝ) : EReal) (Ideal.div y (Ideal.div a ((448 : ℝ) : EReal)))) * Ideal.div a ((448 : ℝ) : EReal) := by
  have hy : y ≤ a := le_trans (le_max_left _ _) h
  have hn : -y ≤ a := le_trans (le_max_right _ _) h
  have hd : Ideal.div a ((448 : ℝ) : EReal) = a * (((1 / 448 : ℝ)) : EReal) := Ideal.div_coe (by norm_num) a
  induction a with
  | bot =>
    rw [le_bot_iff] at hy hn; subst hy; exact absurd hn (by simp)
  | top =>
    have e : Ideal.div ((⊤ : EReal)) ((448 : ℝ) : EReal) = ⊤ := by
      rw [hd]; exact EReal.top_mul_coe_of_pos (by norm_num)
    have e1 : Ideal.div ((448 : ℝ) : EReal) (⊤ : EReal) = 0 := by
      unfold Ideal.div; rw [if_neg (by simp)]; simp
    have e2 : Ideal.div y (⊤ : EReal) = 0 := by
      unfold Ideal.div; rw [if_neg (by simp)]; simp
    rw [e, e1, e2, mul_zero, zero_mul, max_eq_right, min_eq_right, zero_mul]
    · exact EReal.coe_nonneg.mpr (by norm_num)
    · exact EReal.coe_nonpos.mpr (by norm_num)
  | coe r =>
    have hyt : y ≠ ⊤ := fun e => by rw [e] at hy; exact absurd hy (by simp)
    have hyb : y ≠ ⊥ := fun e => by rw [e] at hn; exact absurd hn (by simp)
    lift y to ℝ using ⟨hyt, hyb⟩
    have hy' : y ≤ r := EReal.coe_le_coe_iff.mp hy
    have hn' : -y ≤ r := by rw [← EReal.coe_neg] at hn; exact EReal.coe_le_coe_iff.mp hn
    rw [← EReal.coe_mul] at hd
    rw [hd]
    by_cases h0 : r = 0
    · subst h0
      have : y = 0 := by linarith
      subst this
      simp
    · have hr : 0 < r := lt_of_le_of_ne (by linarith) (Ne.symm h0)
      have hs : r * (1 / 448) ≠ 0 := mul_ne_zero h0 (by norm_num)
      rw [Ideal.div_coe h0, Ideal.div_coe hs, ← EReal.coe_mul, ← EReal.coe_mul, ← EReal.coe_mul, ← EReal.coe_mul,
        max_eq_right, min_eq_right, ← EReal.coe_mul]
      · exact congrArg _ (by field_simp)
      · refine EReal.coe_le_coe_iff.mpr ?_
        have : y * (1 / (r * (1 / 448))) = 448 * (y / r) := by field_simp
        rw [this]
        have : y / r ≤ 1 := (div_le_one hr).mpr hy'
        linarith
      · refine EReal.coe_le_coe_iff.mpr ?_
        have : y * (1 / (r * (1 / 448))) = 448 * (y / r) := by field_simp
        rw [this]
        have : -1 ≤ y / r := by rw [le_div_iff₀ hr]; linarith
        linarith

end Cert.Value
-- ==== Proof.Value.Product.lean ====
module

public import proofs.«01_k».proof.Proof.KernelIdeal.Mesh
public import Idealize.ShloMosaic.PureOps.Ideal
public import Idealize.ShloMosaic.PureOps.Ideal.Laws
public import Idealize.ShloMosaic.Lib.ValueIdx
public import Idealize.ShloMosaic.Lib.Pointwise
public import Idealize.ShloMosaic.Lib.Pipeline.Value

@[expose] public section

noncomputable section

namespace Cert.Value

open Idealize.ShloMosaic
open Cert.KernelIdeal
open Cert.KernelIdeal.Facts₀ Cert.KernelIdeal.Facts
open Cert.KernelIdeal.Loop Cert.KernelIdeal.Mesh

/-! ## One product -/

/-- A product of one hop, at an index. -/
theorem prod_apply (x : Vec Ideal S128x128 .f32) (w : Vec Ideal S128x1024 .f32) (j : S128x1024.Idx) :
    prod x w j = ∑ k : Fin 128, x (ix2 (j 0) k) * w (ix2 k (j 1)) := by
  pointwise [prod]

/-- The first column of a stream. -/
def colBase : Fin 4 → ℕ := ![0, 1024, 512, 1536]

theorem col_lt (s : Fin 4) (c : Fin 512) : colBase s + c.val < 2048 := by
  have := c.isLt
  fin_cases s <;> simp [colBase] <;> omega

theorem row_lt (e : Fin 32) (r : Fin 128) : e.val * 128 + r.val < 4096 := by
  have := e.isLt; have := r.isLt; omega

variable (xv : Dev nD → Vec Ideal S4096x128 .f32) (wv : Dev nD → Vec Ideal S128x2048 .f32)

/-- What device `u` adds to row `r` of block `e`, column `c`. -/
def addend (e u : Dev nD) (r : Fin 128) (c : Fin 2048) : EReal :=
  ∑ k : Fin 128, xv u (ix2 ⟨e.val * 128 + r.val, row_lt e r⟩ k) * wv u (ix2 k c)

/-- The block of rows stream `s` of device `d` works on at hop `h`. -/
def blkS (s : Fin 4) (h : Fin 32) (d : Dev nD) : Dev nD := ![blkF h d, blkB h d, blkF h d, blkB h d] s

theorem rowsOf_apply (x : Vec Ideal S4096x128 .f32) (b : Fin 32) (r : Fin 128) (k : Fin 128) :
    rowsOf x b (ix2 r k) = x (ix2 ⟨b.val * 128 + r.val, row_lt b r⟩ k) :=
  congrArg x (funext fun a => Fin.ext (by
    rw [Rect.emb_apply]
    match a with
    | ⟨0, _⟩ => show b.val * 128 + 1 * r.val = b.val * 128 + r.val; omega
    | ⟨1, _⟩ => show 0 + 1 * k.val = k.val; omega))

theorem colsL_apply (w : Vec Ideal S128x2048 .f32) (k : Fin 128) (c : Fin 1024) :
    colsL w (ix2 k c) = w (ix2 k ⟨c.val, by omega⟩) :=
  congrArg w (funext fun a => Fin.ext (by
    rw [Rect.emb_apply]
    match a with
    | ⟨0, _⟩ => show 0 + 1 * k.val = k.val; omega
    | ⟨1, _⟩ => show 0 + 1 * c.val = c.val; omega))

theorem colsR_apply (w : Vec Ideal S128x2048 .f32) (k : Fin 128) (c : Fin 1024) :
    colsR w (ix2 k c) = w (ix2 k ⟨1024 + c.val, by omega⟩) :=
  congrArg w (funext fun a => Fin.ext (by
    rw [Rect.emb_apply]
    match a with
    | ⟨0, _⟩ => show 0 + 1 * k.val = k.val; omega
    | ⟨1, _⟩ => show 1024 + 1 * c.val = 1024 + c.val; omega))

/-- The product's rows of block `e` with the left columns, at an index. -/
theorem prodL_apply (e u : Dev nD) (r : Fin 128) (c : Fin 1024) :
    prod (rowsOf (xv u) e) (colsL (wv u)) (ix2 r c) = addend xv wv e u r ⟨c.val, by omega⟩ :=
  (prod_apply _ _ _).trans (Finset.sum_congr rfl fun k _ => congrArg₂ (· * ·) (rowsOf_apply (xv u) e r k) (colsL_apply (wv u) k c))

/-- The same with the right columns. -/
theorem prodR_apply (e u : Dev nD) (r : Fin 128) (c : Fin 1024) :
    prod (rowsOf (xv u) e) (colsR (wv u)) (ix2 r c) = addend xv wv e u r ⟨1024 + c.val, by omega⟩ :=
  (prod_apply _ _ _).trans (Finset.sum_congr rfl fun k _ => congrArg₂ (· * ·) (rowsOf_apply (xv u) e r k) (colsR_apply (wv u) k c))

/-- A slice of 512 columns, at an index. -/
theorem slice_apply (o : ℕ) (ho : o + 512 ≤ 1024) (p : FVec Ideal S128x1024 .f32) (h : S128x1024.Slices ![0, o] S128x512) (r : Fin 128) (c : Fin 512) :
    extractStridedSlice S128x512 ![0, o] p h (ix2 r c) = p (ix2 r ⟨o + c.val, by omega⟩) :=
  congrArg p (funext fun a => Fin.ext (by
    match a with
    | ⟨0, _⟩ => show 0 + r.val = r.val; omega
    | ⟨1, _⟩ => rfl))

theorem addend_col (e u : Dev nD) (r : Fin 128) {c c' : Fin 2048} (h : c.val = c'.val) :
    addend xv wv e u r c = addend xv wv e u r c' := by rw [Fin.ext h]

theorem part_apply (s : Fin 4) (h : Fin 32) (u : Dev nD) (r : Fin 128) (c : Fin 512) :
    partOf s (prods xv wv h u) (ix2 r c) = addend xv wv (blkS s h u) u r ⟨colBase s + c.val, col_lt s c⟩ := by
  match s with
  | 0 => exact (slice_apply 0 (by omega) _ slices_S128x1024_o0_0_S128x512 r c).trans ((prodL_apply xv wv _ u r _).trans (addend_col xv wv _ u r rfl))
  | 1 => exact (slice_apply 0 (by omega) _ slices_S128x1024_o0_0_S128x512 r c).trans ((prodR_apply xv wv _ u r ⟨0 + c.val, by omega⟩).trans (addend_col xv wv _ u r (by show 1024 + (0 + c.val) = 1024 + c.val; omega)))
  | 2 => exact (slice_apply 512 (by omega) _ slices_S128x1024_o0_512_S128x512 r c).trans ((prodL_apply xv wv _ u r _).trans (addend_col xv wv _ u r rfl))
  | 3 => exact (slice_apply 512 (by omega) _ slices_S128x1024_o0_512_S128x512 r c).trans ((prodR_apply xv wv _ u r ⟨512 + c.val, by omega⟩).trans (addend_col xv wv _ u r (by show 1024 + (512 + c.val) = 1536 + c.val; omega)))

/-! ## The sum round the ring -/

/-- The device a stream came from works on the block of the next hop. -/
theorem blkS_org : ∀ (s : Fin 4) (h : Fin 32) (d : Dev nD), blkS s h (org s d) = blkS s (h + 1) d := by decide +kernel

theorem blkS_last : ∀ (s : Fin 4) (d : Dev nD), blkS s 31 d = d := by decide +kernel

/-- What a stream carries is the sum of the addends of the devices it passed. -/
theorem acc_apply (s : Fin 4) (r : Fin 128) (c : Fin 512) : ∀ (n : ℕ) (d : Dev nD),
    acc xv wv s n d (ix2 r c)
      = ∑ i ∈ Finset.range (n + 1), addend xv wv (blkS s (Fin.ofNat 32 n) d) ((org s)^[i] d) r ⟨colBase s + c.val, col_lt s c⟩
  | 0, d => by
    rw [Finset.sum_range_one]
    exact part_apply xv wv s 0 d r c
  | n + 1, d => by
    rw [Finset.sum_range_succ']
    show acc xv wv s n (org s d) (ix2 r c) + partOf s (prods xv wv (Fin.ofNat 32 (n + 1)) d) (ix2 r c) = _
    rw [acc_apply s r c n (org s d), part_apply]
    have e : blkS s (Fin.ofNat 32 n) (org s d) = blkS s (Fin.ofNat 32 (n + 1)) d := by
      rw [blkS_org]; congr 1; apply Fin.ext; simp [Fin.val_add]
    rw [e]
    rfl

theorem iter_rot (s : Fin 4) (d : Dev nD) (i : ℕ) : (org s)^[i] d = rot (-(dir s) * Fin.ofNat 32 i) d := by
  induction i with
  | zero => show d = rot _ d; rw [show -(dir s) * Fin.ofNat 32 0 = 0 from by revert s; decide, rot_zero]
  | succ i ih =>
    rw [Function.iterate_succ_apply', ih]
    show rot _ (rot _ d) = _
    rw [rot_rot]
    congr 1
    have : ∀ (s : Fin 4) (a : Fin 32), -(dir s) * a + -(dir s) = -(dir s) * (a + 1) := by decide
    rw [this]
    congr 1; apply Fin.ext; simp [Fin.val_add]

theorem mul_inj : ∀ s : Fin 4, Function.Injective fun i : Fin 32 => -(dir s) * i := by decide +kernel

/-- Once round the ring is every device once. -/
theorem sum_ring (s : Fin 4) (d : Dev nD) (f : Dev nD → EReal) :
    ∑ i ∈ Finset.range 32, f ((org s)^[i] d) = ∑ u : Dev nD, f u := by
  rw [Finset.sum_range]
  have hb : Function.Bijective fun i : Fin 32 => (org s)^[i.val] d := by
    refine Function.Injective.bijective_of_nat_card_le (fun i j h => ?_) le_rfl
    simp only [iter_rot] at h
    have := mul_inj s (rot_inj h)
    simpa using this
  exact hb.sum_comp f

theorem last_apply (s : Fin 4) (r : Fin 128) (c : Fin 512) (d : Dev nD) :
    acc xv wv s 31 d (ix2 r c) = ∑ u : Dev nD, addend xv wv d u r ⟨colBase s + c.val, col_lt s c⟩ := by
  rw [acc_apply, show blkS s (Fin.ofNat 32 31) d = d from blkS_last s d]
  exact sum_ring s d fun u => addend xv wv d u r _

/-- The product's rows on device `d`. -/
theorem outV_apply (d : Dev nD) (r : Fin 128) (c : Fin 2048) :
    outV xv wv d (ix2 r c) = ∑ u : Dev nD, addend xv wv d u r c := by
  have e : inStr (ix2 r c) = ix2 r ⟨c.val % 512, Nat.mod_lt _ (by decide)⟩ := by
    funext a; match a with | ⟨0, _⟩ => rfl | ⟨1, _⟩ => rfl
  show acc xv wv (strOf (ix2 r c)) 31 d (inStr (ix2 r c)) = _
  rw [e, last_apply]
  refine Finset.sum_congr rfl fun u _ => addend_col xv wv d u r ?_
  show colBase (![0, 2, 1, 3] ⟨c.val / 512, _⟩) + c.val % 512 = c.val
  have hb : ∀ q : Fin 4, colBase (![0, 2, 1, 3] q) = q.val * 512 := by decide
  rw [hb]
  show c.val / 512 * 512 + c.val % 512 = c.val
  omega

end Cert.Value
-- ==== Proof.Value.RefRun.lean ====
module

public import proofs.«01_k».proof.Proof.Gen.ReferenceIdeal
public import proofs.«01_k».proof.Proof.Gen.ReferenceIdeal.Frame
public import Idealize.ShloMosaic.Lib.Pipeline.Value
public import Idealize.ShloMosaic.Lib.StableHlo.Run

@[expose] public section

noncomputable section

namespace Cert.Value.Ref

open Idealize.ShloMosaic Idealize.ShloMosaic.TcCoe Idealize.SL.Sem
open Cert.ReferenceIdeal Cert.ReferenceIdeal.Gen
open Cert.ReferenceIdeal.Facts₀ Cert.ReferenceIdeal.Facts

variable {F : FTy → Type} [FloatOps F] [∀ e, Nonempty (Elt F e)]
variable (m : (ℓ : Loc nD τ sig) → Buf (Elt F) ℓ) (ρ : Dev nD → PrngReg)

/-- The reference's product of its two arguments. -/
def dotV (x : Vec F S4096x4096 .f32) (w : Vec F S4096x2048 .f32) : Vec F S4096x2048 .f32 :=
  Host.dotGeneral dot_S4096x4096_S4096x2048_S4096x2048_1_0_0_1_n_n none x w

/-- The reference's result. -/
def refV (x : Vec F S4096x4096 .f32) (w : Vec F S4096x2048 .f32) : Vec F S4096x2048 .f32 := k0_pay1 (dotV x w)

/-- The result as contents of the result array. -/
abbrev val (c : Dev nD) : Buf (Elt F) ((c : Thread nD τ).loc main_v1) :=
  refV (m ((c : Thread nD τ).loc main_arg0)) (m ((c : Thread nD τ).loc main_arg1))

/-- The region finds the product in its input. -/
theorem entry (c : Dev nD) :
    V m c main_v0 = dotV (m ((c : Thread nD τ).loc main_arg0)) (m ((c : Thread nD τ).loc main_arg1)) := by
  show StableHlo.after hostOps0 (fun b => m (c, b)) _ = _
  rw [hostOps0, StableHlo.after_cons, StableHlo.after_nil, StableHlo.binary_result]
  rfl

theorem blk_in (c : Dev nD) (t : Fin cfg0.N) : iblk m c 0 t = V m c main_v0 := by
  unfold iblk
  have hz : (fun a => win0_0.index t a * main_v0.ty.shape.size a) = fun _ => 0 := funext fun a => by
    show 0 * _ = 0; exact Nat.zero_mul _
  exact Memref.read_access_unit_zero (Elt F) main_v0 hz (fun a => by rw [congrFun hz a]; simp) (V m c main_v0)

theorem pay_out (x : Vec F S4096x2048 .f32) : out0_1 x = k0_pay1 x := by
  unfold out0_1
  have hz : (![0, 0] : Fin 2 → ℕ) = fun _ => 0 := by funext a; fin_cases a <;> rfl
  rw [View.canon_cons_unit_zero hz, View.ld_unit_zero hz]

theorem flushed_eq (c : Dev nD) (t : Fin cfg0.N) (hf : (cfg0.win 1).flush t = true) :
    (dats m 0 c).flushed 1 t = ((cfg0.win 1).blk t).view.read (Elt F) (val m c) := by
  show (cfg0.win 1).cut (grid0.coords t) ((dats m 0 c).after 1 t) = _
  rw [after0_1, pay_out, blk_in, entry]
  have hz : (fun a => win0_1.index t a * main_v1.ty.shape.size a) = fun _ => 0 := funext fun a => by
    show 0 * _ = 0; exact Nat.zero_mul _
  exact (Memref.read_access_unit_zero (Elt F) main_v1 hz (fun a => by rw [congrFun hz a]; simp) (val m c)).symm

theorem cover (i : S4096x2048.Idx) :
    ∃ t : Fin cfg0.N, (cfg0.win 1).flush t = true ∧ i ∈ ((cfg0.win 1).blk t).view.set := by
  refine ⟨t0_0, flush0_1 _, ?_⟩
  show i ∈ ((View.whole main_v1).slice (win0_1.rect t0_0)).set
  rw [View.set_slice_whole, Rect.mem_set_unit]
  have e : ∀ a, win0_1.index t0_0 a * win0_1.size a = 0 ∧ win0_1.xsize (grid0.coords t0_0) a = S4096x2048.size a := by
    decide +kernel
  intro a
  show win0_1.index t0_0 a * win0_1.size a ≤ (i a : Nat) ∧ (i a : Nat) < win0_1.index t0_0 a * win0_1.size a + win0_1.xsize (grid0.coords t0_0) a
  rw [(e a).1, (e a).2, Nat.zero_add]
  exact ⟨Nat.zero_le _, (i a).isLt⟩

theorem final (c : Dev nD) : (dats m 0 c).arrAt 1 cfg0.N = val m c :=
  (dats m 0 c).arrAt_eq_of_cover 1 (val m c) (flushed_eq m c) cover

/-- The reference runs, and its result array ends at `refV` of its arguments. -/
theorem run : θ_run defs (onTc (τ := τ) (main (F := F))) ⟨m, fun _ => 0, ρ⟩ (fun r => ∀ c : Dev nD,
      r.2.mem ((c : Thread nD τ).loc main_v1) = val m c
      ∧ r.2.mem ((c : Thread nD τ).loc main_arg0) = m ((c : Thread nD τ).loc main_arg0)
      ∧ r.2.mem ((c : Thread nD τ).loc main_arg1) = m ((c : Thread nD τ).loc main_arg1)) :=
  (θ_run defs _ _).mono (fun _ h c => ⟨((h.1 c).1 1).trans (final m c), h.2 c⟩) (θ_run_and (run_main m ρ) (unchanged m ρ))

end Cert.Value.Ref
-- ==== Proof.Value.Algebra.lean ====
module

public import proofs.«01_k».proof.Proof.Value.Quant
public import proofs.«01_k».proof.Proof.Value.Product
public import proofs.«01_k».proof.Proof.Value.RefRun
public import Idealize.ShloMosaic.PureOps.Reduce
public import Idealize.ShloMosaic.Lib.Layout

@[expose] public section

noncomputable section

namespace Cert.Value

open Idealize.ShloMosaic
open Cert.KernelIdeal (nD S128x2048 S4096x128)
open Cert.KernelIdeal.Loop Cert.KernelIdeal.Mesh
open Cert.ReferenceIdeal (S4096x4096 S4096x2048)
open Cert.Value.Ref (dotV refV)

/-! ## The largest absolute value -/

/-- A maximum over everything is at most `b` if everything is. -/
theorem reduce_le {s t : Shape} {axes : List (Fin s.rank)} (src : FVec Ideal s .f32) (h : s.Reduces axes t) (hφ : FKind.Formats .f32)
    (hacc : (0xFF800000#32 : BitVec 32) = FKind.maximumf.neutral .f32 hφ) (ht : ∀ a b : t.Idx, a = b) (j : t.Idx) (b : EReal) :
    (multiReduction .maximumf axes t src 0xFF800000#32 h hφ hacc j : EReal) ≤ b ↔ ∀ i, (src i : EReal) ≤ b := by
  rw [multiReduction_maximumf_eq_fold]
  have e : (Finset.univ.filter fun i => h.drop i = j) = Finset.univ := Finset.filter_true_of_mem fun i _ => ht _ _
  rw [e]
  refine (Finset.fold_max_le (α := s.Idx) (β := EReal) (s := Finset.univ) (f := src) b).trans ?_
  constructor
  · intro hh i; exact hh.2 i (Finset.mem_univ i)
  · intro hh; refine ⟨?_, fun i _ => hh i⟩
    show Ideal.ofBits .f32 0xFF800000#32 ≤ b
    rw [bits_bot]; exact bot_le

theorem one_idx (a b : (⟨1, ![1]⟩ : Shape).Idx) : a = b := by
  funext x; exact Fin.ext (by
    match x with
    | ⟨0, _⟩ =>
      have h1 : (a 0).val < 1 := (a 0).isLt
      have h2 : (b 0).val < 1 := (b 0).isLt
      show (a 0).val = (b 0).val
      omega)

theorem amaxOf_le (o : Vec Ideal S128x2048 .f32) (b : EReal) : (amaxOf o : EReal) ≤ b ↔ ∀ i, max (o i : EReal) (-(o i : EReal)) ≤ b := by
  refine (reduce_le _ _ (.inl rfl) rfl one_idx _ b).trans ?_
  constructor
  · intro h i
    have := h ((Shape.reshapeEquiv (Cert.KernelIdeal.Facts₀.shapeCasts_S128x2048_S1x128x2048)).symm ((Shape.reshapeEquiv (Cert.KernelIdeal.Facts₀.shapeCasts_S128x2048_S128x2048)).symm i))
    have h2 : (FloatOps.absf (F := Ideal) (φ := .f32) (o i) : EReal) ≤ b := by simpa [shapeCast, absf] using this
    exact h2
  · intro h i
    exact h _

/-- The reference's largest absolute value. -/
def amaxR (y : Vec Ideal S4096x2048 .f32) : Ideal .f32 :=
  extractAt ![0, 0, 0] (shapeCast Cert.ReferenceIdeal.S1x1x1 (multiReduction .maximumf [1, 2] Cert.ReferenceIdeal.S1 (shapeCast Cert.ReferenceIdeal.S1x4096x2048 (absf (shapeCast S4096x2048 y Cert.ReferenceIdeal.Facts₀.shapeCasts_S4096x2048_S4096x2048)) Cert.ReferenceIdeal.Facts₀.shapeCasts_S4096x2048_S1x4096x2048) 0xFF800000#32 Cert.ReferenceIdeal.Facts₀.reduces_S1x4096x2048_S1 (.inl rfl) rfl) Cert.ReferenceIdeal.Facts₀.shapeCasts_S1_S1x1x1) Cert.ReferenceIdeal.Facts₀.inpos_S1x1x1_p0_0_0

theorem amaxR_le (o : Vec Ideal S4096x2048 .f32) (b : EReal) : (amaxR o : EReal) ≤ b ↔ ∀ i, max (o i : EReal) (-(o i : EReal)) ≤ b := by
  refine (reduce_le _ _ (.inl rfl) rfl one_idx _ b).trans ?_
  constructor
  · intro h i
    have := h ((Shape.reshapeEquiv (Cert.ReferenceIdeal.Facts₀.shapeCasts_S4096x2048_S1x4096x2048)).symm ((Shape.reshapeEquiv (Cert.ReferenceIdeal.Facts₀.shapeCasts_S4096x2048_S4096x2048)).symm i))
    have h2 : (FloatOps.absf (F := Ideal) (φ := .f32) (o i) : EReal) ≤ b := by simpa [shapeCast, absf] using this
    exact h2
  · intro h i
    exact h _

/-! ## The two quantisers at an index -/

theorem quant_apply (a : EReal) (o : Vec Ideal S128x2048 .f32) (i : S128x2048.Idx) :
    (quant (F := Ideal) a o i : EReal) = o i * Ideal.div ((448 : ℝ) : EReal) a * Ideal.div a ((448 : ℝ) : EReal) := by
  rw [← bits_448]
  show shapeCast S128x2048 o _ i * _ * _ = _
  rw [shapeCast, Shape.reshapeEquiv_self]
  rfl

theorem pay_apply (y : Vec Ideal S4096x2048 .f32) (i : S4096x2048.Idx) :
    (Cert.ReferenceIdeal.Gen.k0_pay1 (F := Ideal) y i : EReal)
      = min ((448 : ℝ) : EReal) (max ((-448 : ℝ) : EReal) (Ideal.div (y i) (Ideal.div (amaxR y) ((448 : ℝ) : EReal)))) * Ideal.div (amaxR y) ((448 : ℝ) : EReal) := by
  rw [← bits_448, ← bits_neg448]
  show min _ (max _ (Ideal.div (shapeCast S4096x2048 y _ i) _)) * _ = _
  rw [shapeCast, Shape.reshapeEquiv_self]
  rfl

/-! ## The product -/

set_option maxRecDepth 65536 in
theorem dotV_apply (x : Vec Ideal S4096x4096 .f32) (w : Vec Ideal S4096x2048 .f32) (r : Fin 4096) (c : Fin 2048) :
    (dotV x w (ix2 r c) : EReal) = ∑ k : Fin 4096, x (ix2 r k) * w (ix2 k c) := by
  pointwise [dotV]

/-- A sum over 4096 places, 128 at a time. -/
theorem sum_blocks (f : Fin 4096 → EReal) :
    ∑ k, f k = ∑ u : Fin 32, ∑ k : Fin 128, f ⟨u.val * 128 + k.val, row_lt u k⟩ := by
  rw [← Equiv.sum_comp (finProdFinEquiv (m := 32) (n := 128)) f, Fintype.sum_prod_type]
  refine Finset.sum_congr rfl fun u _ => Finset.sum_congr rfl fun k _ => congrArg f (Fin.ext ?_)
  show k.val + 128 * u.val = u.val * 128 + k.val
  omega

variable (X : Vec Ideal S4096x4096 .f32) (W : Vec Ideal S4096x2048 .f32)

/-- Device `u`'s columns of the first argument. -/
def xBlk (u : Dev nD) : Vec Ideal S4096x128 .f32 := Layout.block ⟨2, ![4096, 128]⟩ ⟨2, ![4096, 4096]⟩ 1 32 u X
/-- Device `u`'s rows of the second argument. -/
def wBlk (u : Dev nD) : Vec Ideal S128x2048 .f32 := Layout.block ⟨2, ![128, 2048]⟩ ⟨2, ![4096, 2048]⟩ 0 32 u W

theorem xBlk_apply (u : Dev nD) (r : Fin 4096) (k : Fin 128) : xBlk X u (ix2 r k) = X (ix2 r ⟨u.val * 128 + k.val, row_lt u k⟩) :=
  congrArg X (funext fun a => match a with | ⟨0, _⟩ => rfl | ⟨1, _⟩ => rfl)

theorem wBlk_apply (u : Dev nD) (k : Fin 128) (c : Fin 2048) : wBlk W u (ix2 k c) = W (ix2 ⟨u.val * 128 + k.val, row_lt u k⟩ c) :=
  congrArg W (funext fun a => match a with | ⟨0, _⟩ => rfl | ⟨1, _⟩ => rfl)

/-- The rows the ring leaves on device `d` are the product's. -/
theorem out_eq (d : Dev nD) (r : Fin 128) (c : Fin 2048) :
    (outV (xBlk X) (wBlk W) d (ix2 r c) : EReal) = dotV X W (ix2 ⟨d.val * 128 + r.val, row_lt d r⟩ c) := by
  rw [outV_apply, dotV_apply, sum_blocks]
  refine Finset.sum_congr rfl fun u _ => Finset.sum_congr rfl fun k _ => ?_
  rw [xBlk_apply, wBlk_apply]

/-- Every row of the product is on a device. -/
theorem all_rows (P : EReal → Prop) :
    (∀ (d : Dev nD) (i : S128x2048.Idx), P (outV (xBlk X) (wBlk W) d i)) ↔ ∀ I : S4096x2048.Idx, P (dotV X W I) := by
  constructor
  · intro h I
    obtain ⟨R, C, rfl⟩ : ∃ (R : Fin 4096) (C : Fin 2048), I = ix2 R C := ⟨_, _, eq_ix2 I⟩
    have h0 : R.val < 4096 := R.isLt
    have := h ⟨R.val / 128, by show _ < 32; omega⟩ (ix2 ⟨R.val % 128, Nat.mod_lt _ (by decide)⟩ C)
    rw [out_eq] at this
    have e : (⟨R.val / 128 * 128 + R.val % 128, by omega⟩ : Fin 4096) = R := Fin.ext (show R.val / 128 * 128 + R.val % 128 = R.val by omega)
    simp only [e] at this
    exact this
  · intro h d i
    obtain ⟨r, c, rfl⟩ : ∃ (r : Fin 128) (c : Fin 2048), i = ix2 r c := ⟨_, _, eq_ix2 i⟩
    rw [out_eq]
    exact h _

/-! ## The largest absolute value of all rows -/

theorem amFold_le (xv : Dev nD → Vec Ideal S4096x128 .f32) (wv : Dev nD → Vec Ideal S128x2048 .f32) (d : Dev nD) (b : EReal) :
    ∀ (n j : ℕ) (a : EReal), (amFold xv wv d n j a : EReal) ≤ b ↔ a ≤ b ∧ ∀ k < n, (am xv wv (d - Fin.ofNat 32 (j + k)) : EReal) ≤ b
  | 0, j, a => by
    show a ≤ b ↔ _
    exact ⟨fun h => ⟨h, fun k hk => absurd hk (Nat.not_lt_zero k)⟩, fun h => h.1⟩
  | n + 1, j, a => by
    refine (amFold_le xv wv d b n (j + 1) (max a (am xv wv (d - Fin.ofNat 32 j)))).trans ?_
    rw [max_le_iff]
    constructor
    · rintro ⟨⟨h, h'⟩, h''⟩
      refine ⟨h, fun k hk => ?_⟩
      match k with
      | 0 => exact h'
      | k + 1 => have := h'' k (by omega); rwa [show j + 1 + k = j + (k + 1) by omega] at this
    · rintro ⟨h, h'⟩
      refine ⟨⟨h, h' 0 (by omega)⟩, fun k hk => ?_⟩
      have := h' (k + 1) (by omega)
      rwa [show j + (k + 1) = j + 1 + k by omega] at this

theorem amAll_le (xv : Dev nD → Vec Ideal S4096x128 .f32) (wv : Dev nD → Vec Ideal S128x2048 .f32) (d : Dev nD) (b : EReal) :
    (amAll xv wv d : EReal) ≤ b ↔ ∀ u : Dev nD, (am xv wv u : EReal) ≤ b := by
  refine (amFold_le xv wv d b 31 1 _).trans ?_
  constructor
  · rintro ⟨h, h'⟩ u
    have hu : ∀ d u : Fin 32, d = u ∨ ∃ k < 31, d - Fin.ofNat 32 (1 + k) = u := by decide +kernel
    rcases hu d u with e | ⟨k, hk, e⟩
    · rw [← e]; exact h
    · rw [← e]; exact h' k hk
  · intro h
    exact ⟨h d, fun k _ => h _⟩

/-- Every device finds the largest absolute value of the whole product. -/
theorem amAll_eq (d : Dev nD) : (amAll (xBlk X) (wBlk W) d : EReal) = amaxR (dotV X W) := by
  refine eq_of_forall_ge_iff fun b => ?_
  rw [amAll_le, amaxR_le, ← all_rows X W fun y => max y (-y) ≤ b]
  exact forall_congr' fun u => amaxOf_le _ b

/-! ## The result -/

/-- Device `d`'s result is its rows of the reference's. -/
theorem res_eq (d : Dev nD) :
    resV (xBlk X) (wBlk W) d = Layout.block ⟨2, ![128, 2048]⟩ ⟨2, ![4096, 2048]⟩ 0 32 d (refV X W) := by
  funext i
  rw [Layout.block_apply]
  refine (quant_apply _ _ i).trans ?_
  refine Eq.trans ?_ (pay_apply (dotV X W) _).symm
  rw [amAll_eq]
  have e : outV (xBlk X) (wBlk W) d i = dotV X W (Layout.Tiles.idx (S := ⟨2, ![128, 2048]⟩) (T := ⟨2, ![4096, 2048]⟩) (a := 0) (k := 32) (by decide) d i) := by
    obtain ⟨r, c, rfl⟩ : ∃ (r : Fin 128) (c : Fin 2048), i = ix2 r c := ⟨_, _, eq_ix2 i⟩
    rw [out_eq]
    exact congrArg (dotV X W) (funext fun a => match a with | ⟨0, _⟩ => rfl | ⟨1, _⟩ => rfl)
  rw [e]
  exact quant_law _ _ ((amaxR_le (dotV X W) _).mp le_rfl _)

end Cert.Value
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Kernel.Run
public import proofs.«01_k».proof.Proof.KernelIdeal.Run
public import proofs.«01_k».proof.Proof.Value.Algebra
public import Idealize.ShloMosaic.Adequacy
public import Idealize.ShloMosaic.Init

@[expose] public section

noncomputable section

namespace Cert.Proof

open Idealize.ShloMosaic Idealize.SL.Sem

theorem frame_bits : quiescent_Kernel (hKernel := Cert.Kernel.Gen.facts) := fun m ρ _ =>
  (θ_run Cert.Kernel.defs _ _).mono (fun _ h => ⟨fun c => (h.1 c).2, h.2⟩) (Cert.Kernel.Proto.run m ρ)

theorem frame_ideal : quiescent_KernelIdeal (hKernelIdeal := Cert.KernelIdeal.Gen.facts) := fun m ρ _ =>
  (θ_run Cert.KernelIdeal.defs _ _).mono (fun _ h => ⟨fun c => (h.1 c).2, h.2⟩) (Cert.KernelIdeal.Proto.run m ρ)

theorem frame_reference : quiescent_ReferenceIdeal (hReferenceIdeal := Cert.ReferenceIdeal.Gen.facts) := fun m ρ _ =>
  Cert.ReferenceIdeal.Gen.frame m ρ

/-- The devices' results are the blocks of the reference's. -/
theorem value : algebraic_KernelIdeal_ReferenceIdeal (hKernelIdeal := Cert.KernelIdeal.Gen.facts) (hReferenceIdeal := Cert.ReferenceIdeal.Gen.facts) := by
  intro m ρ m' ρ' _ hargs
  have hx : Cert.KernelIdeal.Proto.xOf m = Cert.Value.xBlk (m' (((0 : Dev Cert.ReferenceIdeal.nD).tc : Thread Cert.ReferenceIdeal.nD Cert.ReferenceIdeal.τ).loc Cert.ReferenceIdeal.main_arg0)) :=
    funext fun c => (hargs c).1
  have hw : Cert.KernelIdeal.Proto.wOf m = Cert.Value.wBlk (m' (((0 : Dev Cert.ReferenceIdeal.nD).tc : Thread Cert.ReferenceIdeal.nD Cert.ReferenceIdeal.τ).loc Cert.ReferenceIdeal.main_arg1)) :=
    funext fun c => (hargs c).2
  refine ⟨Cert.Value.Ref.val m' 0, ?_, ?_⟩
  · refine (θ_run Cert.KernelIdeal.defs _ _).mono (fun r h c => ⟨(h.1 c).1.trans ?_, (h.1 c).2⟩) (Cert.KernelIdeal.Proto.run m ρ)
    unfold Cert.KernelIdeal.Proto.res0
    rw [hx, hw]
    exact Cert.Value.res_eq _ _ c
  · exact (θ_run Cert.ReferenceIdeal.defs _ _).mono (fun _ h => h 0) (Cert.Value.Ref.run m' ρ')

theorem claim : Cert.Claim :=
  ⟨Cert.Kernel.Gen.facts, Cert.KernelIdeal.Gen.facts, Cert.ReferenceIdeal.Gen.facts,
    frame_bits, frame_ideal, frame_reference, trivial, value⟩

end Cert.Proof

end
